-- ==== Defs.lean ====
def Pre_State (m : (ℓ : Loc Cert.State.nD Cert.State.τ Cert.State.sig) → Buf (Elt Bits) ℓ) : Prop :=
  True

def Pre_StateIdeal (m : (ℓ : Loc Cert.StateIdeal.nD Cert.StateIdeal.τ Cert.StateIdeal.sig) → Buf (Elt Ideal) ℓ) : Prop :=
  True

def Pre_StateIdeal_finite_steps [hPre_finite_steps : Cert.Pre_finite_steps.Facts] (m : (ℓ : Loc Cert.StateIdeal.nD Cert.StateIdeal.τ Cert.StateIdeal.sig) → Buf (Elt Ideal) ℓ) : Prop :=
  ∀ c : Dev Cert.StateIdeal.nD,
    (Cert.Pre_finite_steps.fn (F := Ideal) (m ((c.tc : Thread Cert.StateIdeal.nD Cert.StateIdeal.τ).loc Cert.StateIdeal.main_arg0)) (m ((c.tc : Thread Cert.StateIdeal.nD Cert.StateIdeal.τ).loc Cert.StateIdeal.main_arg1)) (m ((c.tc : Thread Cert.StateIdeal.nD Cert.StateIdeal.τ).loc Cert.StateIdeal.main_arg2)) (m ((c.tc : Thread Cert.StateIdeal.nD Cert.StateIdeal.τ).loc Cert.StateIdeal.main_arg3))) = (fun _ => 1#1)

def Pre_StateRefIdeal (m : (ℓ : Loc Cert.StateRefIdeal.nD Cert.StateRefIdeal.τ Cert.StateRefIdeal.sig) → Buf (Elt Ideal) ℓ) : Prop :=
  True

def Pre_StateRefIdeal_finite_steps [hPre_finite_steps : Cert.Pre_finite_steps.Facts] (m : (ℓ : Loc Cert.StateRefIdeal.nD Cert.StateRefIdeal.τ Cert.StateRefIdeal.sig) → Buf (Elt Ideal) ℓ) : Prop :=
  ∀ c : Dev Cert.StateRefIdeal.nD,
    (Cert.Pre_finite_steps.fn (F := Ideal) (m ((c.tc : Thread Cert.StateRefIdeal.nD Cert.StateRefIdeal.τ).loc Cert.StateRefIdeal.main_arg0)) (m ((c.tc : Thread Cert.StateRefIdeal.nD Cert.StateRefIdeal.τ).loc Cert.StateRefIdeal.main_arg1)) (m ((c.tc : Thread Cert.StateRefIdeal.nD Cert.StateRefIdeal.τ).loc Cert.StateRefIdeal.main_arg2)) (m ((c.tc : Thread Cert.StateRefIdeal.nD Cert.StateRefIdeal.τ).loc Cert.StateRefIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnPost (m : (ℓ : Loc Cert.FfnPost.nD Cert.FfnPost.τ Cert.FfnPost.sig) → Buf (Elt Bits) ℓ) : Prop :=
  True

def Pre_FfnPostIdeal (m : (ℓ : Loc Cert.FfnPostIdeal.nD Cert.FfnPostIdeal.τ Cert.FfnPostIdeal.sig) → Buf (Elt Ideal) ℓ) : Prop :=
  True

def Pre_FfnPostRefIdeal (m : (ℓ : Loc Cert.FfnPostRefIdeal.nD Cert.FfnPostRefIdeal.τ Cert.FfnPostRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Mixout (m : (ℓ : Loc Cert.Mixout.nD Cert.Mixout.τ Cert.Mixout.sig) → Buf (Elt Bits) ℓ) : Prop :=
  True

def Pre_MixoutIdeal (m : (ℓ : Loc Cert.MixoutIdeal.nD Cert.MixoutIdeal.τ Cert.MixoutIdeal.sig) → Buf (Elt Ideal) ℓ) : Prop :=
  True

def Pre_MixoutRefIdeal (m : (ℓ : Loc Cert.MixoutRefIdeal.nD Cert.MixoutRefIdeal.τ Cert.MixoutRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def quiescent_State [hState : Cert.State.Facts] : Prop :=
  ∀ (m : (ℓ : Loc Cert.State.nD Cert.State.τ Cert.State.sig) → Buf (Elt Bits) ℓ) (g : Dev Cert.State.nD → PrngReg), Pre_State m →
    θ_run (Cert.State.defs (F := Bits)) (onTc (τ := Cert.State.τ) (Cert.State.main (F := Bits))) ⟨m, fun _ => 0, g⟩ (fun r => (∀ c : Dev Cert.State.nD,
      r.2.mem ((c.tc : Thread Cert.State.nD Cert.State.τ).loc Cert.State.main_arg0) = m ((c.tc : Thread Cert.State.nD Cert.State.τ).loc Cert.State.main_arg0)
      ∧ r.2.mem ((c.tc : Thread Cert.State.nD Cert.State.τ).loc Cert.State.main_arg1) = m ((c.tc : Thread Cert.State.nD Cert.State.τ).loc Cert.State.main_arg1)
      ∧ r.2.mem ((c.tc : Thread Cert.State.nD Cert.State.τ).loc Cert.State.main_arg2) = m ((c.tc : Thread Cert.State.nD Cert.State.τ).loc Cert.State.main_arg2)
      ∧ r.2.mem ((c.tc : Thread Cert.State.nD Cert.State.τ).loc Cert.State.main_arg3) = m ((c.tc : Thread Cert.State.nD Cert.State.τ).loc Cert.State.main_arg3))
      ∧ r.2.sem = fun _ => 0)

def quiescent_StateIdeal [hStateIdeal : Cert.StateIdeal.Facts] : Prop :=
  ∀ (m : (ℓ : Loc Cert.StateIdeal.nD Cert.StateIdeal.τ Cert.StateIdeal.sig) → Buf (Elt Ideal) ℓ) (g : Dev Cert.StateIdeal.nD → PrngReg), Pre_StateIdeal m →
    θ_run (Cert.StateIdeal.defs (F := Ideal)) (onTc (τ := Cert.StateIdeal.τ) (Cert.StateIdeal.main (F := Ideal))) ⟨m, fun _ => 0, g⟩ (fun r => (∀ c : Dev Cert.StateIdeal.nD,
      r.2.mem ((c.tc : Thread Cert.StateIdeal.nD Cert.StateIdeal.τ).loc Cert.StateIdeal.main_arg0) = m ((c.tc : Thread Cert.StateIdeal.nD Cert.StateIdeal.τ).loc Cert.StateIdeal.main_arg0)
      ∧ r.2.mem ((c.tc : Thread Cert.StateIdeal.nD Cert.StateIdeal.τ).loc Cert.StateIdeal.main_arg1) = m ((c.tc : Thread Cert.StateIdeal.nD Cert.StateIdeal.τ).loc Cert.StateIdeal.main_arg1)
      ∧ r.2.mem ((c.tc : Thread Cert.StateIdeal.nD Cert.StateIdeal.τ).loc Cert.StateIdeal.main_arg2) = m ((c.tc : Thread Cert.StateIdeal.nD Cert.StateIdeal.τ).loc Cert.StateIdeal.main_arg2)
      ∧ r.2.mem ((c.tc : Thread Cert.StateIdeal.nD Cert.StateIdeal.τ).loc Cert.StateIdeal.main_arg3) = m ((c.tc : Thread Cert.StateIdeal.nD Cert.StateIdeal.τ).loc Cert.StateIdeal.main_arg3))
      ∧ r.2.sem = fun _ => 0)

def quiescent_StateIdeal_pre_finite_steps [hStateIdeal : Cert.StateIdeal.Facts] [hPre_finite_steps : Cert.Pre_finite_steps.Facts] : Prop :=
  ∀ (m : (ℓ : Loc Cert.StateIdeal.nD Cert.StateIdeal.τ Cert.StateIdeal.sig) → Buf (Elt Ideal) ℓ) (g : Dev Cert.StateIdeal.nD → PrngReg), Pre_StateIdeal_finite_steps m →
    θ_run (Cert.StateIdeal.defs (F := Ideal)) (onTc (τ := Cert.StateIdeal.τ) (Cert.StateIdeal.main (F := Ideal))) ⟨m, fun _ => 0, g⟩ (fun r => (∀ c : Dev Cert.StateIdeal.nD,
      r.2.mem ((c.tc : Thread Cert.StateIdeal.nD Cert.StateIdeal.τ).loc Cert.StateIdeal.main_arg0) = m ((c.tc : Thread Cert.StateIdeal.nD Cert.StateIdeal.τ).loc Cert.StateIdeal.main_arg0)
      ∧ r.2.mem ((c.tc : Thread Cert.StateIdeal.nD Cert.StateIdeal.τ).loc Cert.StateIdeal.main_arg1) = m ((c.tc : Thread Cert.StateIdeal.nD Cert.StateIdeal.τ).loc Cert.StateIdeal.main_arg1)
      ∧ r.2.mem ((c.tc : Thread Cert.StateIdeal.nD Cert.StateIdeal.τ).loc Cert.StateIdeal.main_arg2) = m ((c.tc : Thread Cert.StateIdeal.nD Cert.StateIdeal.τ).loc Cert.StateIdeal.main_arg2)
      ∧ r.2.mem ((c.tc : Thread Cert.StateIdeal.nD Cert.StateIdeal.τ).loc Cert.StateIdeal.main_arg3) = m ((c.tc : Thread Cert.StateIdeal.nD Cert.StateIdeal.τ).loc Cert.StateIdeal.main_arg3))
      ∧ r.2.sem = fun _ => 0)

def quiescent_StateRefIdeal [hStateRefIdeal : Cert.StateRefIdeal.Facts] : Prop :=
  ∀ (m : (ℓ : Loc Cert.StateRefIdeal.nD Cert.StateRefIdeal.τ Cert.StateRefIdeal.sig) → Buf (Elt Ideal) ℓ) (g : Dev Cert.StateRefIdeal.nD → PrngReg), Pre_StateRefIdeal m →
    θ_run (Cert.StateRefIdeal.defs (F := Ideal)) (onTc (τ := Cert.StateRefIdeal.τ) (Cert.StateRefIdeal.main (F := Ideal))) ⟨m, fun _ => 0, g⟩ (fun r => (∀ c : Dev Cert.StateRefIdeal.nD,
      r.2.mem ((c.tc : Thread Cert.StateRefIdeal.nD Cert.StateRefIdeal.τ).loc Cert.StateRefIdeal.main_arg0) = m ((c.tc : Thread Cert.StateRefIdeal.nD Cert.StateRefIdeal.τ).loc Cert.StateRefIdeal.main_arg0)
      ∧ r.2.mem ((c.tc : Thread Cert.StateRefIdeal.nD Cert.StateRefIdeal.τ).loc Cert.StateRefIdeal.main_arg1) = m ((c.tc : Thread Cert.StateRefIdeal.nD Cert.StateRefIdeal.τ).loc Cert.StateRefIdeal.main_arg1)
      ∧ r.2.mem ((c.tc : Thread Cert.StateRefIdeal.nD Cert.StateRefIdeal.τ).loc Cert.StateRefIdeal.main_arg2) = m ((c.tc : Thread Cert.StateRefIdeal.nD Cert.StateRefIdeal.τ).loc Cert.StateRefIdeal.main_arg2)
      ∧ r.2.mem ((c.tc : Thread Cert.StateRefIdeal.nD Cert.StateRefIdeal.τ).loc Cert.StateRefIdeal.main_arg3) = m ((c.tc : Thread Cert.StateRefIdeal.nD Cert.StateRefIdeal.τ).loc Cert.StateRefIdeal.main_arg3))
      ∧ r.2.sem = fun _ => 0)

def quiescent_StateRefIdeal_pre_finite_steps [hStateRefIdeal : Cert.StateRefIdeal.Facts] [hPre_finite_steps : Cert.Pre_finite_steps.Facts] : Prop :=
  ∀ (m : (ℓ : Loc Cert.StateRefIdeal.nD Cert.StateRefIdeal.τ Cert.StateRefIdeal.sig) → Buf (Elt Ideal) ℓ) (g : Dev Cert.StateRefIdeal.nD → PrngReg), Pre_StateRefIdeal_finite_steps m →
    θ_run (Cert.StateRefIdeal.defs (F := Ideal)) (onTc (τ := Cert.StateRefIdeal.τ) (Cert.StateRefIdeal.main (F := Ideal))) ⟨m, fun _ => 0, g⟩ (fun r => (∀ c : Dev Cert.StateRefIdeal.nD,
      r.2.mem ((c.tc : Thread Cert.StateRefIdeal.nD Cert.StateRefIdeal.τ).loc Cert.StateRefIdeal.main_arg0) = m ((c.tc : Thread Cert.StateRefIdeal.nD Cert.StateRefIdeal.τ).loc Cert.StateRefIdeal.main_arg0)
      ∧ r.2.mem ((c.tc : Thread Cert.StateRefIdeal.nD Cert.StateRefIdeal.τ).loc Cert.StateRefIdeal.main_arg1) = m ((c.tc : Thread Cert.StateRefIdeal.nD Cert.StateRefIdeal.τ).loc Cert.StateRefIdeal.main_arg1)
      ∧ r.2.mem ((c.tc : Thread Cert.StateRefIdeal.nD Cert.StateRefIdeal.τ).loc Cert.StateRefIdeal.main_arg2) = m ((c.tc : Thread Cert.StateRefIdeal.nD Cert.StateRefIdeal.τ).loc Cert.StateRefIdeal.main_arg2)
      ∧ r.2.mem ((c.tc : Thread Cert.StateRefIdeal.nD Cert.StateRefIdeal.τ).loc Cert.StateRefIdeal.main_arg3) = m ((c.tc : Thread Cert.StateRefIdeal.nD Cert.StateRefIdeal.τ).loc Cert.StateRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_FfnPost [hFfnPost : Cert.FfnPost.Facts] : Prop :=
  ∀ (m : (ℓ : Loc Cert.FfnPost.nD Cert.FfnPost.τ Cert.FfnPost.sig) → Buf (Elt Bits) ℓ) (g : Dev Cert.FfnPost.nD → PrngReg), Pre_FfnPost m →
    θ_run (Cert.FfnPost.defs (F := Bits)) (onTc (τ := Cert.FfnPost.τ) (Cert.FfnPost.main (F := Bits))) ⟨m, fun _ => 0, g⟩ (fun r => (∀ c : Dev Cert.FfnPost.nD,
      r.2.mem ((c.tc : Thread Cert.FfnPost.nD Cert.FfnPost.τ).loc Cert.FfnPost.main_arg0) = m ((c.tc : Thread Cert.FfnPost.nD Cert.FfnPost.τ).loc Cert.FfnPost.main_arg0)
      ∧ r.2.mem ((c.tc : Thread Cert.FfnPost.nD Cert.FfnPost.τ).loc Cert.FfnPost.main_arg1) = m ((c.tc : Thread Cert.FfnPost.nD Cert.FfnPost.τ).loc Cert.FfnPost.main_arg1)
      ∧ r.2.mem ((c.tc : Thread Cert.FfnPost.nD Cert.FfnPost.τ).loc Cert.FfnPost.main_arg2) = m ((c.tc : Thread Cert.FfnPost.nD Cert.FfnPost.τ).loc Cert.FfnPost.main_arg2)
      ∧ r.2.mem ((c.tc : Thread Cert.FfnPost.nD Cert.FfnPost.τ).loc Cert.FfnPost.main_arg3) = m ((c.tc : Thread Cert.FfnPost.nD Cert.FfnPost.τ).loc Cert.FfnPost.main_arg3)
      ∧ r.2.mem ((c.tc : Thread Cert.FfnPost.nD Cert.FfnPost.τ).loc Cert.FfnPost.main_arg4) = m ((c.tc : Thread Cert.FfnPost.nD Cert.FfnPost.τ).loc Cert.FfnPost.main_arg4)
      ∧ r.2.mem ((c.tc : Thread Cert.FfnPost.nD Cert.FfnPost.τ).loc Cert.FfnPost.main_arg5) = m ((c.tc : Thread Cert.FfnPost.nD Cert.FfnPost.τ).loc Cert.FfnPost.main_arg5)
      ∧ r.2.mem ((c.tc : Thread Cert.FfnPost.nD Cert.FfnPost.τ).loc Cert.FfnPost.main_arg6) = m ((c.tc : Thread Cert.FfnPost.nD Cert.FfnPost.τ).loc Cert.FfnPost.main_arg6)
      ∧ r.2.mem ((c.tc : Thread Cert.FfnPost.nD Cert.FfnPost.τ).loc Cert.FfnPost.main_arg7) = m ((c.tc : Thread Cert.FfnPost.nD Cert.FfnPost.τ).loc Cert.FfnPost.main_arg7)
      ∧ r.2.mem ((c.tc : Thread Cert.FfnPost.nD Cert.FfnPost.τ).loc Cert.FfnPost.main_arg8) = m ((c.tc : Thread Cert.FfnPost.nD Cert.FfnPost.τ).loc Cert.FfnPost.main_arg8))
      ∧ r.2.sem = fun _ => 0)

def quiescent_FfnPostIdeal [hFfnPostIdeal : Cert.FfnPostIdeal.Facts] : Prop :=
  ∀ (m : (ℓ : Loc Cert.FfnPostIdeal.nD Cert.FfnPostIdeal.τ Cert.FfnPostIdeal.sig) → Buf (Elt Ideal) ℓ) (g : Dev Cert.FfnPostIdeal.nD → PrngReg), Pre_FfnPostIdeal m →
    θ_run (Cert.FfnPostIdeal.defs (F := Ideal)) (onTc (τ := Cert.FfnPostIdeal.τ) (Cert.FfnPostIdeal.main (F := Ideal))) ⟨m, fun _ => 0, g⟩ (fun r => (∀ c : Dev Cert.FfnPostIdeal.nD,
      r.2.mem ((c.tc : Thread Cert.FfnPostIdeal.nD Cert.FfnPostIdeal.τ).loc Cert.FfnPostIdeal.main_arg0) = m ((c.tc : Thread Cert.FfnPostIdeal.nD Cert.FfnPostIdeal.τ).loc Cert.FfnPostIdeal.main_arg0)
      ∧ r.2.mem ((c.tc : Thread Cert.FfnPostIdeal.nD Cert.FfnPostIdeal.τ).loc Cert.FfnPostIdeal.main_arg1) = m ((c.tc : Thread Cert.FfnPostIdeal.nD Cert.FfnPostIdeal.τ).loc Cert.FfnPostIdeal.main_arg1)
      ∧ r.2.mem ((c.tc : Thread Cert.FfnPostIdeal.nD Cert.FfnPostIdeal.τ).loc Cert.FfnPostIdeal.main_arg2) = m ((c.tc : Thread Cert.FfnPostIdeal.nD Cert.FfnPostIdeal.τ).loc Cert.FfnPostIdeal.main_arg2)
      ∧ r.2.mem ((c.tc : Thread Cert.FfnPostIdeal.nD Cert.FfnPostIdeal.τ).loc Cert.FfnPostIdeal.main_arg3) = m ((c.tc : Thread Cert.FfnPostIdeal.nD Cert.FfnPostIdeal.τ).loc Cert.FfnPostIdeal.main_arg3)
      ∧ r.2.mem ((c.tc : Thread Cert.FfnPostIdeal.nD Cert.FfnPostIdeal.τ).loc Cert.FfnPostIdeal.main_arg4) = m ((c.tc : Thread Cert.FfnPostIdeal.nD Cert.FfnPostIdeal.τ).loc Cert.FfnPostIdeal.main_arg4)
      ∧ r.2.mem ((c.tc : Thread Cert.FfnPostIdeal.nD Cert.FfnPostIdeal.τ).loc Cert.FfnPostIdeal.main_arg5) = m ((c.tc : Thread Cert.FfnPostIdeal.nD Cert.FfnPostIdeal.τ).loc Cert.FfnPostIdeal.main_arg5)
      ∧ r.2.mem ((c.tc : Thread Cert.FfnPostIdeal.nD Cert.FfnPostIdeal.τ).loc Cert.FfnPostIdeal.main_arg6) = m ((c.tc : Thread Cert.FfnPostIdeal.nD Cert.FfnPostIdeal.τ).loc Cert.FfnPostIdeal.main_arg6)
      ∧ r.2.mem ((c.tc : Thread Cert.FfnPostIdeal.nD Cert.FfnPostIdeal.τ).loc Cert.FfnPostIdeal.main_arg7) = m ((c.tc : Thread Cert.FfnPostIdeal.nD Cert.FfnPostIdeal.τ).loc Cert.FfnPostIdeal.main_arg7)
      ∧ r.2.mem ((c.tc : Thread Cert.FfnPostIdeal.nD Cert.FfnPostIdeal.τ).loc Cert.FfnPostIdeal.main_arg8) = m ((c.tc : Thread Cert.FfnPostIdeal.nD Cert.FfnPostIdeal.τ).loc Cert.FfnPostIdeal.main_arg8))
      ∧ r.2.sem = fun _ => 0)

def quiescent_FfnPostRefIdeal [hFfnPostRefIdeal : Cert.FfnPostRefIdeal.Facts] : Prop :=
  ∀ (m : (ℓ : Loc Cert.FfnPostRefIdeal.nD Cert.FfnPostRefIdeal.τ Cert.FfnPostRefIdeal.sig) → Buf (Elt Ideal) ℓ) (g : Dev Cert.FfnPostRefIdeal.nD → PrngReg), Pre_FfnPostRefIdeal m →
    θ_run (Cert.FfnPostRefIdeal.defs (F := Ideal)) (onTc (τ := Cert.FfnPostRefIdeal.τ) (Cert.FfnPostRefIdeal.main (F := Ideal))) ⟨m, fun _ => 0, g⟩ (fun r => (∀ c : Dev Cert.FfnPostRefIdeal.nD,
      r.2.mem ((c.tc : Thread Cert.FfnPostRefIdeal.nD Cert.FfnPostRefIdeal.τ).loc Cert.FfnPostRefIdeal.main_arg0) = m ((c.tc : Thread Cert.FfnPostRefIdeal.nD Cert.FfnPostRefIdeal.τ).loc Cert.FfnPostRefIdeal.main_arg0)
      ∧ r.2.mem ((c.tc : Thread Cert.FfnPostRefIdeal.nD Cert.FfnPostRefIdeal.τ).loc Cert.FfnPostRefIdeal.main_arg1) = m ((c.tc : Thread Cert.FfnPostRefIdeal.nD Cert.FfnPostRefIdeal.τ).loc Cert.FfnPostRefIdeal.main_arg1)
      ∧ r.2.mem ((c.tc : Thread Cert.FfnPostRefIdeal.nD Cert.FfnPostRefIdeal.τ).loc Cert.FfnPostRefIdeal.main_arg2) = m ((c.tc : Thread Cert.FfnPostRefIdeal.nD Cert.FfnPostRefIdeal.τ).loc Cert.FfnPostRefIdeal.main_arg2)
      ∧ r.2.mem ((c.tc : Thread Cert.FfnPostRefIdeal.nD Cert.FfnPostRefIdeal.τ).loc Cert.FfnPostRefIdeal.main_arg3) = m ((c.tc : Thread Cert.FfnPostRefIdeal.nD Cert.FfnPostRefIdeal.τ).loc Cert.FfnPostRefIdeal.main_arg3)
      ∧ r.2.mem ((c.tc : Thread Cert.FfnPostRefIdeal.nD Cert.FfnPostRefIdeal.τ).loc Cert.FfnPostRefIdeal.main_arg4) = m ((c.tc : Thread Cert.FfnPostRefIdeal.nD Cert.FfnPostRefIdeal.τ).loc Cert.FfnPostRefIdeal.main_arg4)
      ∧ r.2.mem ((c.tc : Thread Cert.FfnPostRefIdeal.nD Cert.FfnPostRefIdeal.τ).loc Cert.FfnPostRefIdeal.main_arg5) = m ((c.tc : Thread Cert.FfnPostRefIdeal.nD Cert.FfnPostRefIdeal.τ).loc Cert.FfnPostRefIdeal.main_arg5)
      ∧ r.2.mem ((c.tc : Thread Cert.FfnPostRefIdeal.nD Cert.FfnPostRefIdeal.τ).loc Cert.FfnPostRefIdeal.main_arg6) = m ((c.tc : Thread Cert.FfnPostRefIdeal.nD Cert.FfnPostRefIdeal.τ).loc Cert.FfnPostRefIdeal.main_arg6)
      ∧ r.2.mem ((c.tc : Thread Cert.FfnPostRefIdeal.nD Cert.FfnPostRefIdeal.τ).loc Cert.FfnPostRefIdeal.main_arg7) = m ((c.tc : Thread Cert.FfnPostRefIdeal.nD Cert.FfnPostRefIdeal.τ).loc Cert.FfnPostRefIdeal.main_arg7)
      ∧ r.2.mem ((c.tc : Thread Cert.FfnPostRefIdeal.nD Cert.FfnPostRefIdeal.τ).loc Cert.FfnPostRefIdeal.main_arg8) = m ((c.tc : Thread Cert.FfnPostRefIdeal.nD Cert.FfnPostRefIdeal.τ).loc Cert.FfnPostRefIdeal.main_arg8))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6))
      ∧ r.2.sem = fun _ => 0)

def quiescent_Mixout [hMixout : Cert.Mixout.Facts] : Prop :=
  ∀ (m : (ℓ : Loc Cert.Mixout.nD Cert.Mixout.τ Cert.Mixout.sig) → Buf (Elt Bits) ℓ) (g : Dev Cert.Mixout.nD → PrngReg), Pre_Mixout m →
    θ_run (Cert.Mixout.defs (F := Bits)) (onTc (τ := Cert.Mixout.τ) (Cert.Mixout.main (F := Bits))) ⟨m, fun _ => 0, g⟩ (fun r => (∀ c : Dev Cert.Mixout.nD,
      r.2.mem ((c.tc : Thread Cert.Mixout.nD Cert.Mixout.τ).loc Cert.Mixout.main_arg0) = m ((c.tc : Thread Cert.Mixout.nD Cert.Mixout.τ).loc Cert.Mixout.main_arg0)
      ∧ r.2.mem ((c.tc : Thread Cert.Mixout.nD Cert.Mixout.τ).loc Cert.Mixout.main_arg1) = m ((c.tc : Thread Cert.Mixout.nD Cert.Mixout.τ).loc Cert.Mixout.main_arg1)
      ∧ r.2.mem ((c.tc : Thread Cert.Mixout.nD Cert.Mixout.τ).loc Cert.Mixout.main_arg2) = m ((c.tc : Thread Cert.Mixout.nD Cert.Mixout.τ).loc Cert.Mixout.main_arg2)
      ∧ r.2.mem ((c.tc : Thread Cert.Mixout.nD Cert.Mixout.τ).loc Cert.Mixout.main_arg3) = m ((c.tc : Thread Cert.Mixout.nD Cert.Mixout.τ).loc Cert.Mixout.main_arg3)
      ∧ r.2.mem ((c.tc : Thread Cert.Mixout.nD Cert.Mixout.τ).loc Cert.Mixout.main_arg4) = m ((c.tc : Thread Cert.Mixout.nD Cert.Mixout.τ).loc Cert.Mixout.main_arg4)
      ∧ r.2.mem ((c.tc : Thread Cert.Mixout.nD Cert.Mixout.τ).loc Cert.Mixout.main_arg5) = m ((c.tc : Thread Cert.Mixout.nD Cert.Mixout.τ).loc Cert.Mixout.main_arg5)
      ∧ r.2.mem ((c.tc : Thread Cert.Mixout.nD Cert.Mixout.τ).loc Cert.Mixout.main_arg6) = m ((c.tc : Thread Cert.Mixout.nD Cert.Mixout.τ).loc Cert.Mixout.main_arg6)
      ∧ r.2.mem ((c.tc : Thread Cert.Mixout.nD Cert.Mixout.τ).loc Cert.Mixout.main_arg7) = m ((c.tc : Thread Cert.Mixout.nD Cert.Mixout.τ).loc Cert.Mixout.main_arg7))
      ∧ r.2.sem = fun _ => 0)

def quiescent_MixoutIdeal [hMixoutIdeal : Cert.MixoutIdeal.Facts] : Prop :=
  ∀ (m : (ℓ : Loc Cert.MixoutIdeal.nD Cert.MixoutIdeal.τ Cert.MixoutIdeal.sig) → Buf (Elt Ideal) ℓ) (g : Dev Cert.MixoutIdeal.nD → PrngReg), Pre_MixoutIdeal m →
    θ_run (Cert.MixoutIdeal.defs (F := Ideal)) (onTc (τ := Cert.MixoutIdeal.τ) (Cert.MixoutIdeal.main (F := Ideal))) ⟨m, fun _ => 0, g⟩ (fun r => (∀ c : Dev Cert.MixoutIdeal.nD,
      r.2.mem ((c.tc : Thread Cert.MixoutIdeal.nD Cert.MixoutIdeal.τ).loc Cert.MixoutIdeal.main_arg0) = m ((c.tc : Thread Cert.MixoutIdeal.nD Cert.MixoutIdeal.τ).loc Cert.MixoutIdeal.main_arg0)
      ∧ r.2.mem ((c.tc : Thread Cert.MixoutIdeal.nD Cert.MixoutIdeal.τ).loc Cert.MixoutIdeal.main_arg1) = m ((c.tc : Thread Cert.MixoutIdeal.nD Cert.MixoutIdeal.τ).loc Cert.MixoutIdeal.main_arg1)
      ∧ r.2.mem ((c.tc : Thread Cert.MixoutIdeal.nD Cert.MixoutIdeal.τ).loc Cert.MixoutIdeal.main_arg2) = m ((c.tc : Thread Cert.MixoutIdeal.nD Cert.MixoutIdeal.τ).loc Cert.MixoutIdeal.main_arg2)
      ∧ r.2.mem ((c.tc : Thread Cert.MixoutIdeal.nD Cert.MixoutIdeal.τ).loc Cert.MixoutIdeal.main_arg3) = m ((c.tc : Thread Cert.MixoutIdeal.nD Cert.MixoutIdeal.τ).loc Cert.MixoutIdeal.main_arg3)
      ∧ r.2.mem ((c.tc : Thread Cert.MixoutIdeal.nD Cert.MixoutIdeal.τ).loc Cert.MixoutIdeal.main_arg4) = m ((c.tc : Thread Cert.MixoutIdeal.nD Cert.MixoutIdeal.τ).loc Cert.MixoutIdeal.main_arg4)
      ∧ r.2.mem ((c.tc : Thread Cert.MixoutIdeal.nD Cert.MixoutIdeal.τ).loc Cert.MixoutIdeal.main_arg5) = m ((c.tc : Thread Cert.MixoutIdeal.nD Cert.MixoutIdeal.τ).loc Cert.MixoutIdeal.main_arg5)
      ∧ r.2.mem ((c.tc : Thread Cert.MixoutIdeal.nD Cert.MixoutIdeal.τ).loc Cert.MixoutIdeal.main_arg6) = m ((c.tc : Thread Cert.MixoutIdeal.nD Cert.MixoutIdeal.τ).loc Cert.MixoutIdeal.main_arg6)
      ∧ r.2.mem ((c.tc : Thread Cert.MixoutIdeal.nD Cert.MixoutIdeal.τ).loc Cert.MixoutIdeal.main_arg7) = m ((c.tc : Thread Cert.MixoutIdeal.nD Cert.MixoutIdeal.τ).loc Cert.MixoutIdeal.main_arg7))
      ∧ r.2.sem = fun _ => 0)

def quiescent_MixoutRefIdeal [hMixoutRefIdeal : Cert.MixoutRefIdeal.Facts] : Prop :=
  ∀ (m : (ℓ : Loc Cert.MixoutRefIdeal.nD Cert.MixoutRefIdeal.τ Cert.MixoutRefIdeal.sig) → Buf (Elt Ideal) ℓ) (g : Dev Cert.MixoutRefIdeal.nD → PrngReg), Pre_MixoutRefIdeal m →
    θ_run (Cert.MixoutRefIdeal.defs (F := Ideal)) (onTc (τ := Cert.MixoutRefIdeal.τ) (Cert.MixoutRefIdeal.main (F := Ideal))) ⟨m, fun _ => 0, g⟩ (fun r => (∀ c : Dev Cert.MixoutRefIdeal.nD,
      r.2.mem ((c.tc : Thread Cert.MixoutRefIdeal.nD Cert.MixoutRefIdeal.τ).loc Cert.MixoutRefIdeal.main_arg0) = m ((c.tc : Thread Cert.MixoutRefIdeal.nD Cert.MixoutRefIdeal.τ).loc Cert.MixoutRefIdeal.main_arg0)
      ∧ r.2.mem ((c.tc : Thread Cert.MixoutRefIdeal.nD Cert.MixoutRefIdeal.τ).loc Cert.MixoutRefIdeal.main_arg1) = m ((c.tc : Thread Cert.MixoutRefIdeal.nD Cert.MixoutRefIdeal.τ).loc Cert.MixoutRefIdeal.main_arg1)
      ∧ r.2.mem ((c.tc : Thread Cert.MixoutRefIdeal.nD Cert.MixoutRefIdeal.τ).loc Cert.MixoutRefIdeal.main_arg2) = m ((c.tc : Thread Cert.MixoutRefIdeal.nD Cert.MixoutRefIdeal.τ).loc Cert.MixoutRefIdeal.main_arg2)
      ∧ r.2.mem ((c.tc : Thread Cert.MixoutRefIdeal.nD Cert.MixoutRefIdeal.τ).loc Cert.MixoutRefIdeal.main_arg3) = m ((c.tc : Thread Cert.MixoutRefIdeal.nD Cert.MixoutRefIdeal.τ).loc Cert.MixoutRefIdeal.main_arg3)
      ∧ r.2.mem ((c.tc : Thread Cert.MixoutRefIdeal.nD Cert.MixoutRefIdeal.τ).loc Cert.MixoutRefIdeal.main_arg4) = m ((c.tc : Thread Cert.MixoutRefIdeal.nD Cert.MixoutRefIdeal.τ).loc Cert.MixoutRefIdeal.main_arg4)
      ∧ r.2.mem ((c.tc : Thread Cert.MixoutRefIdeal.nD Cert.MixoutRefIdeal.τ).loc Cert.MixoutRefIdeal.main_arg5) = m ((c.tc : Thread Cert.MixoutRefIdeal.nD Cert.MixoutRefIdeal.τ).loc Cert.MixoutRefIdeal.main_arg5)
      ∧ r.2.mem ((c.tc : Thread Cert.MixoutRefIdeal.nD Cert.MixoutRefIdeal.τ).loc Cert.MixoutRefIdeal.main_arg6) = m ((c.tc : Thread Cert.MixoutRefIdeal.nD Cert.MixoutRefIdeal.τ).loc Cert.MixoutRefIdeal.main_arg6)
      ∧ r.2.mem ((c.tc : Thread Cert.MixoutRefIdeal.nD Cert.MixoutRefIdeal.τ).loc Cert.MixoutRefIdeal.main_arg7) = m ((c.tc : Thread Cert.MixoutRefIdeal.nD Cert.MixoutRefIdeal.τ).loc Cert.MixoutRefIdeal.main_arg7))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3))
      ∧ r.2.sem = fun _ => 0)

def preserves_State_StateIdeal : Prop :=
  IdealRules.named_const.Statement Cert.StateIdeal.κ "log2e" .f32 0x3FB8AA3B#32 (((Real.log 2)⁻¹ : ℝ) : EReal)

def algebraic_StateIdeal_StateRefIdeal_pre_finite_steps [hStateIdeal : Cert.StateIdeal.Facts] [hStateRefIdeal : Cert.StateRefIdeal.Facts] [hPre_finite_steps : Cert.Pre_finite_steps.Facts] : Prop :=
  ∀ (m : (ℓ : Loc Cert.StateIdeal.nD Cert.StateIdeal.τ Cert.StateIdeal.sig) → Buf (Elt Ideal) ℓ) (g : Dev Cert.StateIdeal.nD → PrngReg)
    (m' : (ℓ : Loc Cert.StateRefIdeal.nD Cert.StateRefIdeal.τ Cert.StateRefIdeal.sig) → Buf (Elt Ideal) ℓ) (g' : Dev Cert.StateRefIdeal.nD → PrngReg), Pre_StateIdeal_finite_steps m →
    (∀ c : Dev Cert.StateIdeal.nD,
      m' ((c.tc : Thread Cert.StateRefIdeal.nD Cert.StateRefIdeal.τ).loc Cert.StateRefIdeal.main_arg0) = m ((c.tc : Thread Cert.StateIdeal.nD Cert.StateIdeal.τ).loc Cert.StateIdeal.main_arg0)
      ∧ m' ((c.tc : Thread Cert.StateRefIdeal.nD Cert.StateRefIdeal.τ).loc Cert.StateRefIdeal.main_arg1) = m ((c.tc : Thread Cert.StateIdeal.nD Cert.StateIdeal.τ).loc Cert.StateIdeal.main_arg1)
      ∧ m' ((c.tc : Thread Cert.StateRefIdeal.nD Cert.StateRefIdeal.τ).loc Cert.StateRefIdeal.main_arg2) = m ((c.tc : Thread Cert.StateIdeal.nD Cert.StateIdeal.τ).loc Cert.StateIdeal.main_arg2)
      ∧ m' ((c.tc : Thread Cert.StateRefIdeal.nD Cert.StateRefIdeal.τ).loc Cert.StateRefIdeal.main_arg3) = m ((c.tc : Thread Cert.StateIdeal.nD Cert.StateIdeal.τ).loc Cert.StateIdeal.main_arg3)) →
    ∃ (v0 : (c : Dev Cert.StateIdeal.nD) → Buf (Elt Ideal) ((c.tc : Thread Cert.StateIdeal.nD Cert.StateIdeal.τ).loc Cert.StateIdeal.main_v11)),
      θ_run (Cert.StateIdeal.defs (F := Ideal)) (onTc (τ := Cert.StateIdeal.τ) (Cert.StateIdeal.main (F := Ideal))) ⟨m, fun _ => 0, g⟩ (fun r => ∀ c : Dev Cert.StateIdeal.nD,
          r.2.mem ((c.tc : Thread Cert.StateIdeal.nD Cert.StateIdeal.τ).loc Cert.StateIdeal.main_v11) = v0 c
          ∧ r.2.mem ((c.tc : Thread Cert.StateIdeal.nD Cert.StateIdeal.τ).loc Cert.StateIdeal.main_arg0) = m ((c.tc : Thread Cert.StateIdeal.nD Cert.StateIdeal.τ).loc Cert.StateIdeal.main_arg0)
          ∧ r.2.mem ((c.tc : Thread Cert.StateIdeal.nD Cert.StateIdeal.τ).loc Cert.StateIdeal.main_arg1) = m ((c.tc : Thread Cert.StateIdeal.nD Cert.StateIdeal.τ).loc Cert.StateIdeal.main_arg1)
          ∧ r.2.mem ((c.tc : Thread Cert.StateIdeal.nD Cert.StateIdeal.τ).loc Cert.StateIdeal.main_arg2) = m ((c.tc : Thread Cert.StateIdeal.nD Cert.StateIdeal.τ).loc Cert.StateIdeal.main_arg2)
          ∧ r.2.mem ((c.tc : Thread Cert.StateIdeal.nD Cert.StateIdeal.τ).loc Cert.StateIdeal.main_arg3) = m ((c.tc : Thread Cert.StateIdeal.nD Cert.StateIdeal.τ).loc Cert.StateIdeal.main_arg3))
      ∧ θ_run (Cert.StateRefIdeal.defs (F := Ideal)) (onTc (τ := Cert.StateRefIdeal.τ) (Cert.StateRefIdeal.main (F := Ideal))) ⟨m', fun _ => 0, g'⟩ (fun r => ∀ c : Dev Cert.StateRefIdeal.nD,
          r.2.mem ((c.tc : Thread Cert.StateRefIdeal.nD Cert.StateRefIdeal.τ).loc Cert.StateRefIdeal.main_v55) = v0 c
          ∧ r.2.mem ((c.tc : Thread Cert.StateRefIdeal.nD Cert.StateRefIdeal.τ).loc Cert.StateRefIdeal.main_arg0) = m' ((c.tc : Thread Cert.StateRefIdeal.nD Cert.StateRefIdeal.τ).loc Cert.StateRefIdeal.main_arg0)
          ∧ r.2.mem ((c.tc : Thread Cert.StateRefIdeal.nD Cert.StateRefIdeal.τ).loc Cert.StateRefIdeal.main_arg1) = m' ((c.tc : Thread Cert.StateRefIdeal.nD Cert.StateRefIdeal.τ).loc Cert.StateRefIdeal.main_arg1)
          ∧ r.2.mem ((c.tc : Thread Cert.StateRefIdeal.nD Cert.StateRefIdeal.τ).loc Cert.StateRefIdeal.main_arg2) = m' ((c.tc : Thread Cert.StateRefIdeal.nD Cert.StateRefIdeal.τ).loc Cert.StateRefIdeal.main_arg2)
          ∧ r.2.mem ((c.tc : Thread Cert.StateRefIdeal.nD Cert.StateRefIdeal.τ).loc Cert.StateRefIdeal.main_arg3) = m' ((c.tc : Thread Cert.StateRefIdeal.nD Cert.StateRefIdeal.τ).loc Cert.StateRefIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v10)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v10) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v57) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_FfnPost_FfnPostIdeal : Prop :=
  True

def algebraic_FfnPostIdeal_FfnPostRefIdeal [hFfnPostIdeal : Cert.FfnPostIdeal.Facts] [hFfnPostRefIdeal : Cert.FfnPostRefIdeal.Facts] : Prop :=
  ∀ (m : (ℓ : Loc Cert.FfnPostIdeal.nD Cert.FfnPostIdeal.τ Cert.FfnPostIdeal.sig) → Buf (Elt Ideal) ℓ) (g : Dev Cert.FfnPostIdeal.nD → PrngReg)
    (m' : (ℓ : Loc Cert.FfnPostRefIdeal.nD Cert.FfnPostRefIdeal.τ Cert.FfnPostRefIdeal.sig) → Buf (Elt Ideal) ℓ) (g' : Dev Cert.FfnPostRefIdeal.nD → PrngReg), Pre_FfnPostIdeal m →
    (∀ c : Dev Cert.FfnPostIdeal.nD,
      m' ((c.tc : Thread Cert.FfnPostRefIdeal.nD Cert.FfnPostRefIdeal.τ).loc Cert.FfnPostRefIdeal.main_arg0) = m ((c.tc : Thread Cert.FfnPostIdeal.nD Cert.FfnPostIdeal.τ).loc Cert.FfnPostIdeal.main_arg0)
      ∧ m' ((c.tc : Thread Cert.FfnPostRefIdeal.nD Cert.FfnPostRefIdeal.τ).loc Cert.FfnPostRefIdeal.main_arg1) = m ((c.tc : Thread Cert.FfnPostIdeal.nD Cert.FfnPostIdeal.τ).loc Cert.FfnPostIdeal.main_arg1)
      ∧ m' ((c.tc : Thread Cert.FfnPostRefIdeal.nD Cert.FfnPostRefIdeal.τ).loc Cert.FfnPostRefIdeal.main_arg2) = m ((c.tc : Thread Cert.FfnPostIdeal.nD Cert.FfnPostIdeal.τ).loc Cert.FfnPostIdeal.main_arg2)
      ∧ m' ((c.tc : Thread Cert.FfnPostRefIdeal.nD Cert.FfnPostRefIdeal.τ).loc Cert.FfnPostRefIdeal.main_arg3) = m ((c.tc : Thread Cert.FfnPostIdeal.nD Cert.FfnPostIdeal.τ).loc Cert.FfnPostIdeal.main_arg3)
      ∧ m' ((c.tc : Thread Cert.FfnPostRefIdeal.nD Cert.FfnPostRefIdeal.τ).loc Cert.FfnPostRefIdeal.main_arg4) = m ((c.tc : Thread Cert.FfnPostIdeal.nD Cert.FfnPostIdeal.τ).loc Cert.FfnPostIdeal.main_arg4)
      ∧ m' ((c.tc : Thread Cert.FfnPostRefIdeal.nD Cert.FfnPostRefIdeal.τ).loc Cert.FfnPostRefIdeal.main_arg5) = m ((c.tc : Thread Cert.FfnPostIdeal.nD Cert.FfnPostIdeal.τ).loc Cert.FfnPostIdeal.main_arg5)
      ∧ m' ((c.tc : Thread Cert.FfnPostRefIdeal.nD Cert.FfnPostRefIdeal.τ).loc Cert.FfnPostRefIdeal.main_arg6) = m ((c.tc : Thread Cert.FfnPostIdeal.nD Cert.FfnPostIdeal.τ).loc Cert.FfnPostIdeal.main_arg6)
      ∧ m' ((c.tc : Thread Cert.FfnPostRefIdeal.nD Cert.FfnPostRefIdeal.τ).loc Cert.FfnPostRefIdeal.main_arg7) = m ((c.tc : Thread Cert.FfnPostIdeal.nD Cert.FfnPostIdeal.τ).loc Cert.FfnPostIdeal.main_arg7)
      ∧ m' ((c.tc : Thread Cert.FfnPostRefIdeal.nD Cert.FfnPostRefIdeal.τ).loc Cert.FfnPostRefIdeal.main_arg8) = m ((c.tc : Thread Cert.FfnPostIdeal.nD Cert.FfnPostIdeal.τ).loc Cert.FfnPostIdeal.main_arg8)) →
    ∃ (v0 : (c : Dev Cert.FfnPostIdeal.nD) → Buf (Elt Ideal) ((c.tc : Thread Cert.FfnPostIdeal.nD Cert.FfnPostIdeal.τ).loc Cert.FfnPostIdeal.main_v12)),
      θ_run (Cert.FfnPostIdeal.defs (F := Ideal)) (onTc (τ := Cert.FfnPostIdeal.τ) (Cert.FfnPostIdeal.main (F := Ideal))) ⟨m, fun _ => 0, g⟩ (fun r => ∀ c : Dev Cert.FfnPostIdeal.nD,
          r.2.mem ((c.tc : Thread Cert.FfnPostIdeal.nD Cert.FfnPostIdeal.τ).loc Cert.FfnPostIdeal.main_v12) = v0 c
          ∧ r.2.mem ((c.tc : Thread Cert.FfnPostIdeal.nD Cert.FfnPostIdeal.τ).loc Cert.FfnPostIdeal.main_arg0) = m ((c.tc : Thread Cert.FfnPostIdeal.nD Cert.FfnPostIdeal.τ).loc Cert.FfnPostIdeal.main_arg0)
          ∧ r.2.mem ((c.tc : Thread Cert.FfnPostIdeal.nD Cert.FfnPostIdeal.τ).loc Cert.FfnPostIdeal.main_arg1) = m ((c.tc : Thread Cert.FfnPostIdeal.nD Cert.FfnPostIdeal.τ).loc Cert.FfnPostIdeal.main_arg1)
          ∧ r.2.mem ((c.tc : Thread Cert.FfnPostIdeal.nD Cert.FfnPostIdeal.τ).loc Cert.FfnPostIdeal.main_arg2) = m ((c.tc : Thread Cert.FfnPostIdeal.nD Cert.FfnPostIdeal.τ).loc Cert.FfnPostIdeal.main_arg2)
          ∧ r.2.mem ((c.tc : Thread Cert.FfnPostIdeal.nD Cert.FfnPostIdeal.τ).loc Cert.FfnPostIdeal.main_arg3) = m ((c.tc : Thread Cert.FfnPostIdeal.nD Cert.FfnPostIdeal.τ).loc Cert.FfnPostIdeal.main_arg3)
          ∧ r.2.mem ((c.tc : Thread Cert.FfnPostIdeal.nD Cert.FfnPostIdeal.τ).loc Cert.FfnPostIdeal.main_arg4) = m ((c.tc : Thread Cert.FfnPostIdeal.nD Cert.FfnPostIdeal.τ).loc Cert.FfnPostIdeal.main_arg4)
          ∧ r.2.mem ((c.tc : Thread Cert.FfnPostIdeal.nD Cert.FfnPostIdeal.τ).loc Cert.FfnPostIdeal.main_arg5) = m ((c.tc : Thread Cert.FfnPostIdeal.nD Cert.FfnPostIdeal.τ).loc Cert.FfnPostIdeal.main_arg5)
          ∧ r.2.mem ((c.tc : Thread Cert.FfnPostIdeal.nD Cert.FfnPostIdeal.τ).loc Cert.FfnPostIdeal.main_arg6) = m ((c.tc : Thread Cert.FfnPostIdeal.nD Cert.FfnPostIdeal.τ).loc Cert.FfnPostIdeal.main_arg6)
          ∧ r.2.mem ((c.tc : Thread Cert.FfnPostIdeal.nD Cert.FfnPostIdeal.τ).loc Cert.FfnPostIdeal.main_arg7) = m ((c.tc : Thread Cert.FfnPostIdeal.nD Cert.FfnPostIdeal.τ).loc Cert.FfnPostIdeal.main_arg7)
          ∧ r.2.mem ((c.tc : Thread Cert.FfnPostIdeal.nD Cert.FfnPostIdeal.τ).loc Cert.FfnPostIdeal.main_arg8) = m ((c.tc : Thread Cert.FfnPostIdeal.nD Cert.FfnPostIdeal.τ).loc Cert.FfnPostIdeal.main_arg8))
      ∧ θ_run (Cert.FfnPostRefIdeal.defs (F := Ideal)) (onTc (τ := Cert.FfnPostRefIdeal.τ) (Cert.FfnPostRefIdeal.main (F := Ideal))) ⟨m', fun _ => 0, g'⟩ (fun r => ∀ c : Dev Cert.FfnPostRefIdeal.nD,
          r.2.mem ((c.tc : Thread Cert.FfnPostRefIdeal.nD Cert.FfnPostRefIdeal.τ).loc Cert.FfnPostRefIdeal.main_v78) = v0 c
          ∧ r.2.mem ((c.tc : Thread Cert.FfnPostRefIdeal.nD Cert.FfnPostRefIdeal.τ).loc Cert.FfnPostRefIdeal.main_arg0) = m' ((c.tc : Thread Cert.FfnPostRefIdeal.nD Cert.FfnPostRefIdeal.τ).loc Cert.FfnPostRefIdeal.main_arg0)
          ∧ r.2.mem ((c.tc : Thread Cert.FfnPostRefIdeal.nD Cert.FfnPostRefIdeal.τ).loc Cert.FfnPostRefIdeal.main_arg1) = m' ((c.tc : Thread Cert.FfnPostRefIdeal.nD Cert.FfnPostRefIdeal.τ).loc Cert.FfnPostRefIdeal.main_arg1)
          ∧ r.2.mem ((c.tc : Thread Cert.FfnPostRefIdeal.nD Cert.FfnPostRefIdeal.τ).loc Cert.FfnPostRefIdeal.main_arg2) = m' ((c.tc : Thread Cert.FfnPostRefIdeal.nD Cert.FfnPostRefIdeal.τ).loc Cert.FfnPostRefIdeal.main_arg2)
          ∧ r.2.mem ((c.tc : Thread Cert.FfnPostRefIdeal.nD Cert.FfnPostRefIdeal.τ).loc Cert.FfnPostRefIdeal.main_arg3) = m' ((c.tc : Thread Cert.FfnPostRefIdeal.nD Cert.FfnPostRefIdeal.τ).loc Cert.FfnPostRefIdeal.main_arg3)
          ∧ r.2.mem ((c.tc : Thread Cert.FfnPostRefIdeal.nD Cert.FfnPostRefIdeal.τ).loc Cert.FfnPostRefIdeal.main_arg4) = m' ((c.tc : Thread Cert.FfnPostRefIdeal.nD Cert.FfnPostRefIdeal.τ).loc Cert.FfnPostRefIdeal.main_arg4)
          ∧ r.2.mem ((c.tc : Thread Cert.FfnPostRefIdeal.nD Cert.FfnPostRefIdeal.τ).loc Cert.FfnPostRefIdeal.main_arg5) = m' ((c.tc : Thread Cert.FfnPostRefIdeal.nD Cert.FfnPostRefIdeal.τ).loc Cert.FfnPostRefIdeal.main_arg5)
          ∧ r.2.mem ((c.tc : Thread Cert.FfnPostRefIdeal.nD Cert.FfnPostRefIdeal.τ).loc Cert.FfnPostRefIdeal.main_arg6) = m' ((c.tc : Thread Cert.FfnPostRefIdeal.nD Cert.FfnPostRefIdeal.τ).loc Cert.FfnPostRefIdeal.main_arg6)
          ∧ r.2.mem ((c.tc : Thread Cert.FfnPostRefIdeal.nD Cert.FfnPostRefIdeal.τ).loc Cert.FfnPostRefIdeal.main_arg7) = m' ((c.tc : Thread Cert.FfnPostRefIdeal.nD Cert.FfnPostRefIdeal.τ).loc Cert.FfnPostRefIdeal.main_arg7)
          ∧ r.2.mem ((c.tc : Thread Cert.FfnPostRefIdeal.nD Cert.FfnPostRefIdeal.τ).loc Cert.FfnPostRefIdeal.main_arg8) = m' ((c.tc : Thread Cert.FfnPostRefIdeal.nD Cert.FfnPostRefIdeal.τ).loc Cert.FfnPostRefIdeal.main_arg8))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)
      ∧ m' ((c.tc : Thread Cert.InprojRefIdeal.nD Cert.InprojRefIdeal.τ).loc Cert.InprojRefIdeal.main_arg6) = m ((c.tc : Thread Cert.InprojIdeal.nD Cert.InprojIdeal.τ).loc Cert.InprojIdeal.main_arg6)) →
    ∃ (v0 : (c : Dev Cert.InprojIdeal.nD) → Buf (Elt Ideal) ((c.tc : Thread Cert.InprojIdeal.nD Cert.InprojIdeal.τ).loc Cert.InprojIdeal.main_v11_0)) (v1 : (c : Dev Cert.InprojIdeal.nD) → Buf (Elt Ideal) ((c.tc : Thread Cert.InprojIdeal.nD Cert.InprojIdeal.τ).loc Cert.InprojIdeal.main_v11_1)) (v2 : (c : Dev Cert.InprojIdeal.nD) → Buf (Elt Ideal) ((c.tc : Thread Cert.InprojIdeal.nD Cert.InprojIdeal.τ).loc Cert.InprojIdeal.main_v11_2)) (v3 : (c : Dev Cert.InprojIdeal.nD) → Buf (Elt Ideal) ((c.tc : Thread Cert.InprojIdeal.nD Cert.InprojIdeal.τ).loc Cert.InprojIdeal.main_v11_3)) (v4 : (c : Dev Cert.InprojIdeal.nD) → Buf (Elt Ideal) ((c.tc : Thread Cert.InprojIdeal.nD Cert.InprojIdeal.τ).loc Cert.InprojIdeal.main_v11_4)) (v5 : (c : Dev Cert.InprojIdeal.nD) → Buf (Elt Ideal) ((c.tc : Thread Cert.InprojIdeal.nD Cert.InprojIdeal.τ).loc Cert.InprojIdeal.main_v11_5)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v11_0) = v0 c
          ∧ r.2.mem ((c.tc : Thread Cert.InprojIdeal.nD Cert.InprojIdeal.τ).loc Cert.InprojIdeal.main_v11_1) = v1 c
          ∧ r.2.mem ((c.tc : Thread Cert.InprojIdeal.nD Cert.InprojIdeal.τ).loc Cert.InprojIdeal.main_v11_2) = v2 c
          ∧ r.2.mem ((c.tc : Thread Cert.InprojIdeal.nD Cert.InprojIdeal.τ).loc Cert.InprojIdeal.main_v11_3) = v3 c
          ∧ r.2.mem ((c.tc : Thread Cert.InprojIdeal.nD Cert.InprojIdeal.τ).loc Cert.InprojIdeal.main_v11_4) = v4 c
          ∧ r.2.mem ((c.tc : Thread Cert.InprojIdeal.nD Cert.InprojIdeal.τ).loc Cert.InprojIdeal.main_v11_5) = v5 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v29) = v0 c
          ∧ r.2.mem ((c.tc : Thread Cert.InprojRefIdeal.nD Cert.InprojRefIdeal.τ).loc Cert.InprojRefIdeal.main_v74) = v1 c
          ∧ r.2.mem ((c.tc : Thread Cert.InprojRefIdeal.nD Cert.InprojRefIdeal.τ).loc Cert.InprojRefIdeal.main_v75) = v2 c
          ∧ r.2.mem ((c.tc : Thread Cert.InprojRefIdeal.nD Cert.InprojRefIdeal.τ).loc Cert.InprojRefIdeal.main_v76) = v3 c
          ∧ r.2.mem ((c.tc : Thread Cert.InprojRefIdeal.nD Cert.InprojRefIdeal.τ).loc Cert.InprojRefIdeal.main_v77) = v4 c
          ∧ r.2.mem ((c.tc : Thread Cert.InprojRefIdeal.nD Cert.InprojRefIdeal.τ).loc Cert.InprojRefIdeal.main_v73) = v5 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5)
          ∧ r.2.mem ((c.tc : Thread Cert.InprojRefIdeal.nD Cert.InprojRefIdeal.τ).loc Cert.InprojRefIdeal.main_arg6) = m' ((c.tc : Thread Cert.InprojRefIdeal.nD Cert.InprojRefIdeal.τ).loc Cert.InprojRefIdeal.main_arg6))

def preserves_Mixout_MixoutIdeal : Prop :=
  IdealRules.named_const.Statement Cert.MixoutIdeal.κ "inv192" .f32 0x3BAAAAAB#32 ((192⁻¹ : ℝ) : EReal)

def algebraic_MixoutIdeal_MixoutRefIdeal [hMixoutIdeal : Cert.MixoutIdeal.Facts] [hMixoutRefIdeal : Cert.MixoutRefIdeal.Facts] : Prop :=
  ∀ (m : (ℓ : Loc Cert.MixoutIdeal.nD Cert.MixoutIdeal.τ Cert.MixoutIdeal.sig) → Buf (Elt Ideal) ℓ) (g : Dev Cert.MixoutIdeal.nD → PrngReg)
    (m' : (ℓ : Loc Cert.MixoutRefIdeal.nD Cert.MixoutRefIdeal.τ Cert.MixoutRefIdeal.sig) → Buf (Elt Ideal) ℓ) (g' : Dev Cert.MixoutRefIdeal.nD → PrngReg), Pre_MixoutIdeal m →
    (∀ c : Dev Cert.MixoutIdeal.nD,
      m' ((c.tc : Thread Cert.MixoutRefIdeal.nD Cert.MixoutRefIdeal.τ).loc Cert.MixoutRefIdeal.main_arg0) = m ((c.tc : Thread Cert.MixoutIdeal.nD Cert.MixoutIdeal.τ).loc Cert.MixoutIdeal.main_arg0)
      ∧ m' ((c.tc : Thread Cert.MixoutRefIdeal.nD Cert.MixoutRefIdeal.τ).loc Cert.MixoutRefIdeal.main_arg1) = m ((c.tc : Thread Cert.MixoutIdeal.nD Cert.MixoutIdeal.τ).loc Cert.MixoutIdeal.main_arg1)
      ∧ m' ((c.tc : Thread Cert.MixoutRefIdeal.nD Cert.MixoutRefIdeal.τ).loc Cert.MixoutRefIdeal.main_arg2) = m ((c.tc : Thread Cert.MixoutIdeal.nD Cert.MixoutIdeal.τ).loc Cert.MixoutIdeal.main_arg2)
      ∧ m' ((c.tc : Thread Cert.MixoutRefIdeal.nD Cert.MixoutRefIdeal.τ).loc Cert.MixoutRefIdeal.main_arg3) = m ((c.tc : Thread Cert.MixoutIdeal.nD Cert.MixoutIdeal.τ).loc Cert.MixoutIdeal.main_arg3)
      ∧ m' ((c.tc : Thread Cert.MixoutRefIdeal.nD Cert.MixoutRefIdeal.τ).loc Cert.MixoutRefIdeal.main_arg4) = m ((c.tc : Thread Cert.MixoutIdeal.nD Cert.MixoutIdeal.τ).loc Cert.MixoutIdeal.main_arg4)
      ∧ m' ((c.tc : Thread Cert.MixoutRefIdeal.nD Cert.MixoutRefIdeal.τ).loc Cert.MixoutRefIdeal.main_arg5) = m ((c.tc : Thread Cert.MixoutIdeal.nD Cert.MixoutIdeal.τ).loc Cert.MixoutIdeal.main_arg5)
      ∧ m' ((c.tc : Thread Cert.MixoutRefIdeal.nD Cert.MixoutRefIdeal.τ).loc Cert.MixoutRefIdeal.main_arg6) = m ((c.tc : Thread Cert.MixoutIdeal.nD Cert.MixoutIdeal.τ).loc Cert.MixoutIdeal.main_arg6)
      ∧ m' ((c.tc : Thread Cert.MixoutRefIdeal.nD Cert.MixoutRefIdeal.τ).loc Cert.MixoutRefIdeal.main_arg7) = m ((c.tc : Thread Cert.MixoutIdeal.nD Cert.MixoutIdeal.τ).loc Cert.MixoutIdeal.main_arg7)) →
    ∃ (v0 : (c : Dev Cert.MixoutIdeal.nD) → Buf (Elt Ideal) ((c.tc : Thread Cert.MixoutIdeal.nD Cert.MixoutIdeal.τ).loc Cert.MixoutIdeal.main_v8)),
      θ_run (Cert.MixoutIdeal.defs (F := Ideal)) (onTc (τ := Cert.MixoutIdeal.τ) (Cert.MixoutIdeal.main (F := Ideal))) ⟨m, fun _ => 0, g⟩ (fun r => ∀ c : Dev Cert.MixoutIdeal.nD,
          r.2.mem ((c.tc : Thread Cert.MixoutIdeal.nD Cert.MixoutIdeal.τ).loc Cert.MixoutIdeal.main_v8) = v0 c
          ∧ r.2.mem ((c.tc : Thread Cert.MixoutIdeal.nD Cert.MixoutIdeal.τ).loc Cert.MixoutIdeal.main_arg0) = m ((c.tc : Thread Cert.MixoutIdeal.nD Cert.MixoutIdeal.τ).loc Cert.MixoutIdeal.main_arg0)
          ∧ r.2.mem ((c.tc : Thread Cert.MixoutIdeal.nD Cert.MixoutIdeal.τ).loc Cert.MixoutIdeal.main_arg1) = m ((c.tc : Thread Cert.MixoutIdeal.nD Cert.MixoutIdeal.τ).loc Cert.MixoutIdeal.main_arg1)
          ∧ r.2.mem ((c.tc : Thread Cert.MixoutIdeal.nD Cert.MixoutIdeal.τ).loc Cert.MixoutIdeal.main_arg2) = m ((c.tc : Thread Cert.MixoutIdeal.nD Cert.MixoutIdeal.τ).loc Cert.MixoutIdeal.main_arg2)
          ∧ r.2.mem ((c.tc : Thread Cert.MixoutIdeal.nD Cert.MixoutIdeal.τ).loc Cert.MixoutIdeal.main_arg3) = m ((c.tc : Thread Cert.MixoutIdeal.nD Cert.MixoutIdeal.τ).loc Cert.MixoutIdeal.main_arg3)
          ∧ r.2.mem ((c.tc : Thread Cert.MixoutIdeal.nD Cert.MixoutIdeal.τ).loc Cert.MixoutIdeal.main_arg4) = m ((c.tc : Thread Cert.MixoutIdeal.nD Cert.MixoutIdeal.τ).loc Cert.MixoutIdeal.main_arg4)
          ∧ r.2.mem ((c.tc : Thread Cert.MixoutIdeal.nD Cert.MixoutIdeal.τ).loc Cert.MixoutIdeal.main_arg5) = m ((c.tc : Thread Cert.MixoutIdeal.nD Cert.MixoutIdeal.τ).loc Cert.MixoutIdeal.main_arg5)
          ∧ r.2.mem ((c.tc : Thread Cert.MixoutIdeal.nD Cert.MixoutIdeal.τ).loc Cert.MixoutIdeal.main_arg6) = m ((c.tc : Thread Cert.MixoutIdeal.nD Cert.MixoutIdeal.τ).loc Cert.MixoutIdeal.main_arg6)
          ∧ r.2.mem ((c.tc : Thread Cert.MixoutIdeal.nD Cert.MixoutIdeal.τ).loc Cert.MixoutIdeal.main_arg7) = m ((c.tc : Thread Cert.MixoutIdeal.nD Cert.MixoutIdeal.τ).loc Cert.MixoutIdeal.main_arg7))
      ∧ θ_run (Cert.MixoutRefIdeal.defs (F := Ideal)) (onTc (τ := Cert.MixoutRefIdeal.τ) (Cert.MixoutRefIdeal.main (F := Ideal))) ⟨m', fun _ => 0, g'⟩ (fun r => ∀ c : Dev Cert.MixoutRefIdeal.nD,
          r.2.mem ((c.tc : Thread Cert.MixoutRefIdeal.nD Cert.MixoutRefIdeal.τ).loc Cert.MixoutRefIdeal.main_v37) = v0 c
          ∧ r.2.mem ((c.tc : Thread Cert.MixoutRefIdeal.nD Cert.MixoutRefIdeal.τ).loc Cert.MixoutRefIdeal.main_arg0) = m' ((c.tc : Thread Cert.MixoutRefIdeal.nD Cert.MixoutRefIdeal.τ).loc Cert.MixoutRefIdeal.main_arg0)
          ∧ r.2.mem ((c.tc : Thread Cert.MixoutRefIdeal.nD Cert.MixoutRefIdeal.τ).loc Cert.MixoutRefIdeal.main_arg1) = m' ((c.tc : Thread Cert.MixoutRefIdeal.nD Cert.MixoutRefIdeal.τ).loc Cert.MixoutRefIdeal.main_arg1)
          ∧ r.2.mem ((c.tc : Thread Cert.MixoutRefIdeal.nD Cert.MixoutRefIdeal.τ).loc Cert.MixoutRefIdeal.main_arg2) = m' ((c.tc : Thread Cert.MixoutRefIdeal.nD Cert.MixoutRefIdeal.τ).loc Cert.MixoutRefIdeal.main_arg2)
          ∧ r.2.mem ((c.tc : Thread Cert.MixoutRefIdeal.nD Cert.MixoutRefIdeal.τ).loc Cert.MixoutRefIdeal.main_arg3) = m' ((c.tc : Thread Cert.MixoutRefIdeal.nD Cert.MixoutRefIdeal.τ).loc Cert.MixoutRefIdeal.main_arg3)
          ∧ r.2.mem ((c.tc : Thread Cert.MixoutRefIdeal.nD Cert.MixoutRefIdeal.τ).loc Cert.MixoutRefIdeal.main_arg4) = m' ((c.tc : Thread Cert.MixoutRefIdeal.nD Cert.MixoutRefIdeal.τ).loc Cert.MixoutRefIdeal.main_arg4)
          ∧ r.2.mem ((c.tc : Thread Cert.MixoutRefIdeal.nD Cert.MixoutRefIdeal.τ).loc Cert.MixoutRefIdeal.main_arg5) = m' ((c.tc : Thread Cert.MixoutRefIdeal.nD Cert.MixoutRefIdeal.τ).loc Cert.MixoutRefIdeal.main_arg5)
          ∧ r.2.mem ((c.tc : Thread Cert.MixoutRefIdeal.nD Cert.MixoutRefIdeal.τ).loc Cert.MixoutRefIdeal.main_arg6) = m' ((c.tc : Thread Cert.MixoutRefIdeal.nD Cert.MixoutRefIdeal.τ).loc Cert.MixoutRefIdeal.main_arg6)
          ∧ r.2.mem ((c.tc : Thread Cert.MixoutRefIdeal.nD Cert.MixoutRefIdeal.τ).loc Cert.MixoutRefIdeal.main_arg7) = m' ((c.tc : Thread Cert.MixoutRefIdeal.nD Cert.MixoutRefIdeal.τ).loc Cert.MixoutRefIdeal.main_arg7))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)
      ∧ m' ((c.tc : Thread Cert.ModRefIdeal.nD Cert.ModRefIdeal.τ).loc Cert.ModRefIdeal.main_arg3) = m ((c.tc : Thread Cert.ModIdeal.nD Cert.ModIdeal.τ).loc Cert.ModIdeal.main_arg3)) →
    ∃ (v0 : (c : Dev Cert.ModIdeal.nD) → Buf (Elt Ideal) ((c.tc : Thread Cert.ModIdeal.nD Cert.ModIdeal.τ).loc Cert.ModIdeal.main_v6)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v6) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v15) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2)
          ∧ r.2.mem ((c.tc : Thread Cert.ModRefIdeal.nD Cert.ModRefIdeal.τ).loc Cert.ModRefIdeal.main_arg3) = m' ((c.tc : Thread Cert.ModRefIdeal.nD Cert.ModRefIdeal.τ).loc Cert.ModRefIdeal.main_arg3))

def Claim : Prop :=
  ∃ (hState : Cert.State.Facts) (hStateIdeal : Cert.StateIdeal.Facts) (hStateRefIdeal : Cert.StateRefIdeal.Facts) (hFfn : Cert.Ffn.Facts) (hFfnIdeal : Cert.FfnIdeal.Facts) (hFfnRefIdeal : Cert.FfnRefIdeal.Facts) (hFfnPost : Cert.FfnPost.Facts) (hFfnPostIdeal : Cert.FfnPostIdeal.Facts) (hFfnPostRefIdeal : Cert.FfnPostRefIdeal.Facts) (hInproj : Cert.Inproj.Facts) (hInprojIdeal : Cert.InprojIdeal.Facts) (hInprojRefIdeal : Cert.InprojRefIdeal.Facts) (hMixout : Cert.Mixout.Facts) (hMixoutIdeal : Cert.MixoutIdeal.Facts) (hMixoutRefIdeal : Cert.MixoutRefIdeal.Facts) (hMod : Cert.Mod.Facts) (hModIdeal : Cert.ModIdeal.Facts) (hModRefIdeal : Cert.ModRefIdeal.Facts) (hPre_finite_steps : Cert.Pre_finite_steps.Facts),
    quiescent_State (hState := hState)
    ∧ quiescent_StateIdeal (hStateIdeal := hStateIdeal)
    ∧ quiescent_StateIdeal_pre_finite_steps (hStateIdeal := hStateIdeal) (hPre_finite_steps := hPre_finite_steps)
    ∧ quiescent_StateRefIdeal (hStateRefIdeal := hStateRefIdeal)
    ∧ quiescent_StateRefIdeal_pre_finite_steps (hStateRefIdeal := hStateRefIdeal) (hPre_finite_steps := hPre_finite_steps)
    ∧ quiescent_Ffn (hFfn := hFfn)
    ∧ quiescent_FfnIdeal (hFfnIdeal := hFfnIdeal)
    ∧ quiescent_FfnRefIdeal (hFfnRefIdeal := hFfnRefIdeal)
    ∧ quiescent_FfnPost (hFfnPost := hFfnPost)
    ∧ quiescent_FfnPostIdeal (hFfnPostIdeal := hFfnPostIdeal)
    ∧ quiescent_FfnPostRefIdeal (hFfnPostRefIdeal := hFfnPostRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Mixout (hMixout := hMixout)
    ∧ quiescent_MixoutIdeal (hMixoutIdeal := hMixoutIdeal)
    ∧ quiescent_MixoutRefIdeal (hMixoutRefIdeal := hMixoutRefIdeal)
    ∧ quiescent_Mod (hMod := hMod)
    ∧ quiescent_ModIdeal (hModIdeal := hModIdeal)
    ∧ quiescent_ModRefIdeal (hModRefIdeal := hModRefIdeal)
    ∧ preserves_State_StateIdeal
    ∧ algebraic_StateIdeal_StateRefIdeal_pre_finite_steps (hStateIdeal := hStateIdeal) (hStateRefIdeal := hStateRefIdeal) (hPre_finite_steps := hPre_finite_steps)
    ∧ preserves_Ffn_FfnIdeal
    ∧ algebraic_FfnIdeal_FfnRefIdeal (hFfnIdeal := hFfnIdeal) (hFfnRefIdeal := hFfnRefIdeal)
    ∧ preserves_FfnPost_FfnPostIdeal
    ∧ algebraic_FfnPostIdeal_FfnPostRefIdeal (hFfnPostIdeal := hFfnPostIdeal) (hFfnPostRefIdeal := hFfnPostRefIdeal)
    ∧ preserves_Inproj_InprojIdeal
    ∧ algebraic_InprojIdeal_InprojRefIdeal (hInprojIdeal := hInprojIdeal) (hInprojRefIdeal := hInprojRefIdeal)
    ∧ preserves_Mixout_MixoutIdeal
    ∧ algebraic_MixoutIdeal_MixoutRefIdeal (hMixoutIdeal := hMixoutIdeal) (hMixoutRefIdeal := hMixoutRefIdeal)
    ∧ preserves_Mod_ModIdeal
    ∧ algebraic_ModIdeal_ModRefIdeal (hModIdeal := hModIdeal) (hModRefIdeal := hModRefIdeal)
-- ==== Pre_finite_steps.lean ====
abbrev S8x256x512 : Shape := ⟨3, ![8, 256, 512]⟩
abbrev S8x256x768 : Shape := ⟨3, ![8, 256, 768]⟩
abbrev S8x32x256 : Shape := ⟨3, ![8, 32, 256]⟩
abbrev S1x2x12 : Shape := ⟨3, ![1, 2, 12]⟩
abbrev S8x24x256 : Shape := ⟨3, ![8, 24, 256]⟩
abbrev S_ : Shape := ⟨0, ![]⟩

class Facts : Prop where
  slices_S8x32x256_S8x24x256_0_0_0 : S8x32x256.Slices ![0, 0, 0] S8x24x256
  bcast_S_S8x24x256 : S_.BroadcastsInDim S8x24x256 (![] : Fin 0 → Fin S8x24x256.rank)

variable [Facts]

def fn {F : FTy → Type} [FloatOps F] (main_arg0 : FVec F S8x256x512 .bf16) (main_arg1 : FVec F S8x256x768 .bf16) (main_arg2 : FVec F S8x32x256 .f32) (main_arg3 : FVec F S1x2x12 .f32) : IVec S8x24x256 1 :=
  let main_v0 : FVec F S8x24x256 .f32 := (extractStridedSlice S8x24x256 ![0, 0, 0] · slices_S8x32x256_S8x24x256_0_0_0) main_arg2
  let main_v1 : FVec F S8x24x256 .f32 := Host.absf main_v0
  let main_cst : FVec F S_ .f32 := constant S_ .f32 0x7F800000#32
  let main_v2 : FVec F S8x24x256 .f32 := broadcastInDim S8x24x256 ![] bcast_S_S8x24x256 main_cst
  let main_v3 : IVec S8x24x256 1 := cmpf .olt main_v1 main_v2
  main_v3
-- ==== State.lean ====
abbrev S8x256x512 : Shape := ⟨3, ![8, 256, 512]⟩
abbrev S8x256x768 : Shape := ⟨3, ![8, 256, 768]⟩
abbrev S8x32x256 : Shape := ⟨3, ![8, 32, 256]⟩
abbrev S1x2x12 : Shape := ⟨3, ![1, 2, 12]⟩
abbrev S2x12 : Shape := ⟨2, ![2, 12]⟩
abbrev S_ : Shape := ⟨0, ![]⟩
abbrev S2x4 : Shape := ⟨2, ![2, 4]⟩
abbrev S2x16 : Shape := ⟨2, ![2, 16]⟩
abbrev S2x16x1 : Shape := ⟨3, ![2, 16, 1]⟩
abbrev S2x16x128 : Shape := ⟨3, ![2, 16, 128]⟩
abbrev S8x2x128x768 : Shape := ⟨4, ![8, 2, 128, 768]⟩
abbrev S1x256x512 : Shape := ⟨3, ![1, 256, 512]⟩
abbrev S1x256x768 : Shape := ⟨3, ![1, 256, 768]⟩
abbrev S1x32x256 : Shape := ⟨3, ![1, 32, 256]⟩
abbrev S1x2x128x768 : Shape := ⟨4, ![1, 2, 128, 768]⟩
abbrev S2x128x768 : Shape := ⟨3, ![2, 128, 768]⟩
abbrev S128x128 : Shape := ⟨2, ![128, 128]⟩
abbrev S32x256 : Shape := ⟨2, ![32, 256]⟩
abbrev S1x16x128 : Shape := ⟨3, ![1, 16, 128]⟩
abbrev S16x128 : Shape := ⟨2, ![16, 128]⟩
abbrev S16x256 : Shape := ⟨2, ![16, 256]⟩
abbrev S96x128 : Shape := ⟨2, ![96, 128]⟩
abbrev S1x128x768 : Shape := ⟨3, ![1, 128, 768]⟩
abbrev S128x768 : Shape := ⟨2, ![128, 768]⟩
abbrev S1x128x512 : Shape := ⟨3, ![1, 128, 512]⟩
abbrev S128x512 : Shape := ⟨2, ![128, 512]⟩
abbrev S16x1 : Shape := ⟨2, ![16, 1]⟩
abbrev S112x128 : Shape := ⟨2, ![112, 128]⟩
abbrev S1x128 : Shape := ⟨2, ![1, 128]⟩
abbrev S8x128 : Shape := ⟨2, ![8, 128]⟩
abbrev S256x128 : Shape := ⟨2, ![256, 128]⟩
abbrev S8x1 : Shape := ⟨2, ![8, 1]⟩
abbrev S128x256 : Shape := ⟨2, ![128, 256]⟩
abbrev S1x768 : Shape := ⟨2, ![1, 768]⟩

abbrev nBuf : Space → Nat
  | .hbm => 20
  | .vmem => 23
  | .smem => 0
  | _ => 0

abbrev bufTy : (tb : Table) → Fin (tcTables nBuf tb) → BufTy
  | .hbm, ⟨0, _⟩ => ⟨S8x256x512, .bf16⟩
  | .hbm, ⟨1, _⟩ => ⟨S8x256x768, .bf16⟩
  | .hbm, ⟨2, _⟩ => ⟨S8x32x256, .f32⟩
  | .hbm, ⟨3, _⟩ => ⟨S1x2x12, .f32⟩
  | .hbm, ⟨4, _⟩ => ⟨S2x12, .f32⟩
  | .hbm, ⟨5, _⟩ => ⟨S_, .f32⟩
  | .hbm, ⟨6, _⟩ => ⟨S2x4, .f32⟩
  | .hbm, ⟨7, _⟩ => ⟨S2x16, .f32⟩
  | .hbm, ⟨8, _⟩ => ⟨S2x16x1, .f32⟩
  | .hbm, ⟨9, _⟩ => ⟨S2x16x128, .f32⟩
  | .hbm, ⟨10, _⟩ => ⟨S_, .f32⟩
  | .hbm, ⟨11, _⟩ => ⟨S2x12, .f32⟩
  | .hbm, ⟨12, _⟩ => ⟨S_, .f32⟩
  | .hbm, ⟨13, _⟩ => ⟨S2x4, .f32⟩
  | .hbm, ⟨14, _⟩ => ⟨S2x16, .f32⟩
  | .hbm, ⟨15, _⟩ => ⟨S2x16x1, .f32⟩
  | .hbm, ⟨16, _⟩ => ⟨S2x16x128, .f32⟩
  | .hbm, ⟨17, _⟩ => ⟨S_, .f32⟩
  | .hbm, ⟨18, _⟩ => ⟨S8x2x128x768, .f32⟩
  | .hbm, ⟨19, _⟩ => ⟨S8x2x128x768, .f32⟩
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x768, .bf16⟩
  | .local _ .vmem, ⟨5, _⟩ => ⟨S1x256x768, .bf16⟩
  | .local _ .vmem, ⟨6, _⟩ => ⟨S1x32x256, .f32⟩
  | .local _ .vmem, ⟨7, _⟩ => ⟨S1x32x256, .f32⟩
  | .local _ .vmem, ⟨8, _⟩ => ⟨S1x256x512, .bf16⟩
  | .local _ .vmem, ⟨9, _⟩ => ⟨S1x256x512, .bf16⟩
  | .local _ .vmem, ⟨10, _⟩ => ⟨S1x256x512, .bf16⟩
  | .local _ .vmem, ⟨11, _⟩ => ⟨S1x256x512, .bf16⟩
  | .local _ .vmem, ⟨12, _⟩ => ⟨S1x256x768, .bf16⟩
  | .local _ .vmem, ⟨13, _⟩ => ⟨S1x256x768, .bf16⟩
  | .local _ .vmem, ⟨14, _⟩ => ⟨S1x32x256, .f32⟩
  | .local _ .vmem, ⟨15, _⟩ => ⟨S1x32x256, .f32⟩
  | .local _ .vmem, ⟨16, _⟩ => ⟨S1x2x128x768, .f32⟩
  | .local _ .vmem, ⟨17, _⟩ => ⟨S1x2x128x768, .f32⟩
  | .local _ .vmem, ⟨18, _⟩ => ⟨S2x16x128, .f32⟩
  | .local _ .vmem, ⟨19, _⟩ => ⟨S2x16x128, .f32⟩
  | .local _ .vmem, ⟨20, _⟩ => ⟨S1x2x128x768, .f32⟩
  | .local _ .vmem, ⟨21, _⟩ => ⟨S1x2x128x768, .f32⟩
  | .local _ .vmem, ⟨22, _⟩ => ⟨S2x128x768, .f32⟩
  | _, _ => ⟨S8x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_111 : BitVec 32 := 0#32
  let v891 : BitVec 1 := Scalar.cmpi .eq arg1 c0_i32_111
  let v892 : BitVec 32 := Scalar.extui v891
  let c0_i32_112 : BitVec 32 := 0#32
  let v893 : BitVec 1 := Scalar.cmpi .ne v892 c0_i32_112
  v893

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c0_i32_0 : BitVec 32 := 0#32
  let c0_i32_1 : BitVec 32 := 0#32
  ![arg0.toNat, v0.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c0_i32_0 : BitVec 32 := 0#32
  let c0_i32_1 : BitVec 32 := 0#32
  ![arg0.toNat, v0.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c0_i32_0 : BitVec 32 := 0#32
  let c0_i32_1 : BitVec 32 := 0#32
  ![arg0.toNat, v0.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c0_i32_0 : BitVec 32 := 0#32
  let c0_i32_1 : BitVec 32 := 0#32
  ![arg0.toNat, c0_i32_0.toNat, v0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x128x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S2x16x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2x16x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x2x128x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== StateIdeal.lean ====
variable {F : FTy → Type} [FloatOps F] [Named F]
def κ : String → Option EReal := fun
  | "log2e" => some (((Real.log 2)⁻¹ : ℝ) : EReal)
  | _ => none
-- ==== StateRefIdeal.lean ====
abbrev S8x256x512 : Shape := ⟨3, ![8, 256, 512]⟩
abbrev S8x256x768 : Shape := ⟨3, ![8, 256, 768]⟩
abbrev S8x32x256 : Shape := ⟨3, ![8, 32, 256]⟩
abbrev S1x2x12 : Shape := ⟨3, ![1, 2, 12]⟩
abbrev S8x256x12x64 : Shape := ⟨4, ![8, 256, 12, 64]⟩
abbrev S8x256x4x128 : Shape := ⟨4, ![8, 256, 4, 128]⟩
abbrev S8x24x256 : Shape := ⟨3, ![8, 24, 256]⟩
abbrev S8x256x24 : Shape := ⟨3, ![8, 256, 24]⟩
abbrev S8x256x2x12 : Shape := ⟨4, ![8, 256, 2, 12]⟩
abbrev S2x12 : Shape := ⟨2, ![2, 12]⟩
abbrev S8x256x1x12 : Shape := ⟨4, ![8, 256, 1, 12]⟩
abbrev S8x256x12 : Shape := ⟨3, ![8, 256, 12]⟩
abbrev S1x12 : Shape := ⟨2, ![1, 12]⟩
abbrev S12 : Shape := ⟨1, ![12]⟩
abbrev S1x1x12 : Shape := ⟨3, ![1, 1, 12]⟩
abbrev S_ : Shape := ⟨0, ![]⟩
abbrev S8x1x12 : Shape := ⟨3, ![8, 1, 12]⟩
abbrev S8x256x12x1 : Shape := ⟨4, ![8, 256, 12, 1]⟩
abbrev S8x256x4x3x64 : Shape := ⟨5, ![8, 256, 4, 3, 64]⟩
abbrev S8x4x3x64x128 : Shape := ⟨5, ![8, 4, 3, 64, 128]⟩
abbrev S8x12x64x128 : Shape := ⟨4, ![8, 12, 64, 128]⟩
abbrev S8x1x12x64x128 : Shape := ⟨5, ![8, 1, 12, 64, 128]⟩
abbrev S8x2x12x64x128 : Shape := ⟨5, ![8, 2, 12, 64, 128]⟩
abbrev S8x2x128x12x64 : Shape := ⟨5, ![8, 2, 128, 12, 64]⟩
abbrev S8x2x128x768 : Shape := ⟨4, ![8, 2, 128, 768]⟩

abbrev nBuf : Space → Nat
  | .hbm => 64
  | .vmem => 0
  | .smem => 0
  | _ => 0

abbrev bufTy : (tb : Table) → Fin (tcTables nBuf tb) → BufTy
  | .hbm, ⟨0, _⟩ => ⟨S8x256x512, .bf16⟩
  | .hbm, ⟨1, _⟩ => ⟨S8x256x768, .bf16⟩
  | .hbm, ⟨2, _⟩ => ⟨S8x32x256, .f32⟩
  | .hbm, ⟨3, _⟩ => ⟨S1x2x12, .f32⟩
  | .hbm, ⟨4, _⟩ => ⟨S8x256x768, .f32⟩
  | .hbm, ⟨5, _⟩ => ⟨S8x256x12x64, .f32⟩
  | .hbm, ⟨6, _⟩ => ⟨S8x256x512, .f32⟩
  | .hbm, ⟨7, _⟩ => ⟨S8x256x4x128, .f32⟩
  | .hbm, ⟨8, _⟩ => ⟨S8x24x256, .f32⟩
  | .hbm, ⟨9, _⟩ => ⟨S8x256x24, .f32⟩
  | .hbm, ⟨10, _⟩ => ⟨S8x256x2x12, .f32⟩
  | .hbm, ⟨11, _⟩ => ⟨S2x12, .f32⟩
  | .hbm, ⟨12, _⟩ => ⟨S2x12, .f32⟩
  | .hbm, ⟨13, _⟩ => ⟨S2x12, .f32⟩
  | .hbm, ⟨14, _⟩ => ⟨S8x256x1x12, .f32⟩
  | .hbm, ⟨15, _⟩ => ⟨S8x256x12, .f32⟩
  | .hbm, ⟨16, _⟩ => ⟨S1x12, .f32⟩
  | .hbm, ⟨17, _⟩ => ⟨S12, .f32⟩
  | .hbm, ⟨18, _⟩ => ⟨S1x1x12, .f32⟩
  | .hbm, ⟨19, _⟩ => ⟨S8x256x12, .f32⟩
  | .hbm, ⟨20, _⟩ => ⟨S8x256x12, .f32⟩
  | .hbm, ⟨21, _⟩ => ⟨S_, .f32⟩
  | .hbm, ⟨22, _⟩ => ⟨S_, .f32⟩
  | .hbm, ⟨23, _⟩ => ⟨S8x256x12, .f32⟩
  | .hbm, ⟨24, _⟩ => ⟨S8x1x12, .f32⟩
  | .hbm, ⟨25, _⟩ => ⟨S8x256x12, .f32⟩
  | .hbm, ⟨26, _⟩ => ⟨S8x256x12, .f32⟩
  | .hbm, ⟨27, _⟩ => ⟨S8x256x12, .f32⟩
  | .hbm, ⟨28, _⟩ => ⟨S8x256x12, .f32⟩
  | .hbm, ⟨29, _⟩ => ⟨S8x256x12x1, .f32⟩
  | .hbm, ⟨30, _⟩ => ⟨S8x256x12x64, .f32⟩
  | .hbm, ⟨31, _⟩ => ⟨S8x256x12x64, .f32⟩
  | .hbm, ⟨32, _⟩ => ⟨S8x256x4x3x64, .f32⟩
  | .hbm, ⟨33, _⟩ => ⟨S8x4x3x64x128, .f32⟩
  | .hbm, ⟨34, _⟩ => ⟨S8x12x64x128, .f32⟩
  | .hbm, ⟨35, _⟩ => ⟨S8x256x12x64, .f32⟩
  | .hbm, ⟨36, _⟩ => ⟨S8x256x1x12, .f32⟩
  | .hbm, ⟨37, _⟩ => ⟨S8x256x12, .f32⟩
  | .hbm, ⟨38, _⟩ => ⟨S8x256x12, .f32⟩
  | .hbm, ⟨39, _⟩ => ⟨S1x12, .f32⟩
  | .hbm, ⟨40, _⟩ => ⟨S12, .f32⟩
  | .hbm, ⟨41, _⟩ => ⟨S8x256x4x128, .f32⟩
  | .hbm, ⟨42, _⟩ => ⟨S1x1x12, .f32⟩
  | .hbm, ⟨43, _⟩ => ⟨S8x256x12, .f32⟩
  | .hbm, ⟨44, _⟩ => ⟨S8x256x12, .f32⟩
  | .hbm, ⟨45, _⟩ => ⟨S_, .f32⟩
  | .hbm, ⟨46, _⟩ => ⟨S_, .f32⟩
  | .hbm, ⟨47, _⟩ => ⟨S8x256x12, .f32⟩
  | .hbm, ⟨48, _⟩ => ⟨S8x1x12, .f32⟩
  | .hbm, ⟨49, _⟩ => ⟨S8x256x12, .f32⟩
  | .hbm, ⟨50, _⟩ => ⟨S8x256x12, .f32⟩
  | .hbm, ⟨51, _⟩ => ⟨S8x256x12, .f32⟩
  | .hbm, ⟨52, _⟩ => ⟨S8x256x12, .f32⟩
  | .hbm, ⟨53, _⟩ => ⟨S8x256x12x1, .f32⟩
  | .hbm, ⟨54, _⟩ => ⟨S8x256x12x64, .f32⟩
  | .hbm, ⟨55, _⟩ => ⟨S8x256x12x64, .f32⟩
  | .hbm, ⟨56, _⟩ => ⟨S8x256x4x3x64, .f32⟩
  | .hbm, ⟨57, _⟩ => ⟨S8x4x3x64x128, .f32⟩
  | .hbm, ⟨58, _⟩ => ⟨S8x12x64x128, .f32⟩
  | .hbm, ⟨59, _⟩ => ⟨S8x1x12x64x128, .f32⟩
  | .hbm, ⟨60, _⟩ => ⟨S8x1x12x64x128, .f32⟩
  | .hbm, ⟨61, _⟩ => ⟨S8x2x12x64x128, .f32⟩
  | .hbm, ⟨62, _⟩ => ⟨S8x2x128x12x64, .f32⟩
  | .hbm, ⟨63, _⟩ => ⟨S8x2x128x768, .f32⟩
  | _, _ => ⟨S8x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_call0_call0_cst : Ref sig .tc := ⟨.hbm, 21, rfl⟩
abbrev main_call0_call0_v0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_call4_call0_cst : Ref sig .tc := ⟨.hbm, 45, rfl⟩
abbrev main_call4_call0_v0 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩

abbrev nD : Nat := 1
abbrev τ : Topo := Topo.v7x

variable {F : FTy → Type} [FloatOps F]
-- ==== Ffn.lean ====
abbrev S8x4096x1024 : Shape := ⟨3, ![8, 4096, 1024]⟩
abbrev S16x9x1024 : Shape := ⟨3, ![16, 9, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x2816 : Shape := ⟨2, ![1024, 2816]⟩
abbrev S2816x1024 : Shape := ⟨2, ![2816, 1024]⟩
abbrev S1x1024x1024 : Shape := ⟨3, ![1, 1024, 1024]⟩
abbrev S1x9x1024 : Shape := ⟨3, ![1, 9, 1024]⟩
abbrev S9x1024 : Shape := ⟨2, ![9, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1024x1024 : Shape := ⟨2, ![1024, 1024]⟩
abbrev S1024x768 : Shape := ⟨2, ![1024, 768]⟩
abbrev S256x768 : Shape := ⟨2, ![256, 768]⟩
abbrev S768x1024 : Shape := ⟨2, ![768, 1024]⟩

abbrev nBuf : Space → Nat
  | .hbm => 18
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S16x9x1024, .f32⟩
  | .hbm, ⟨2, _⟩ => ⟨S1x1024, .f32⟩
  | .hbm, ⟨3, _⟩ => ⟨S1x1024, .f32⟩
  | .hbm, ⟨4, _⟩ => ⟨S1x1024x2816, .f32⟩
  | .hbm, ⟨5, _⟩ => ⟨S1x1024x2816, .f32⟩
  | .hbm, ⟨6, _⟩ => ⟨S1x2816x1024, .f32⟩
  | .hbm, ⟨7, _⟩ => ⟨S1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S1024x2816, .f32⟩
  | .hbm, ⟨12, _⟩ => ⟨S1024x2816, .bf16⟩
  | .hbm, ⟨13, _⟩ => ⟨S1024x2816, .f32⟩
  | .hbm, ⟨14, _⟩ => ⟨S1024x2816, .bf16⟩
  | .hbm, ⟨15, _⟩ => ⟨S2816x1024, .f32⟩
  | .hbm, ⟨16, _⟩ => ⟨S2816x1024, .bf16⟩
  | .hbm, ⟨17, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1x1024, .f32⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S1x1024x1024, .f32⟩
  | .local _ .vmem, ⟨10, _⟩ => ⟨S1x1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FfnRefIdeal.lean ====
abbrev S8x4096x1024 : Shape := ⟨3, ![8, 4096, 1024]⟩
abbrev S16x9x1024 : Shape := ⟨3, ![16, 9, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S8x9x1024 : Shape := ⟨3, ![8, 9, 1024]⟩
abbrev S8x3x1024 : Shape := ⟨3, ![8, 3, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S8x1024 : Shape := ⟨2, ![8, 1024]⟩
abbrev S8x4096x2816 : Shape := ⟨3, ![8, 4096, 2816]⟩

abbrev nBuf : Space → Nat
  | .hbm => 81
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S16x9x1024, .f32⟩
  | .hbm, ⟨2, _⟩ => ⟨S1x1024, .f32⟩
  | .hbm, ⟨3, _⟩ => ⟨S1x1024, .f32⟩
  | .hbm, ⟨4, _⟩ => ⟨S1x1024x2816, .f32⟩
  | .hbm, ⟨5, _⟩ => ⟨S1x1024x2816, .f32⟩
  | .hbm, ⟨6, _⟩ => ⟨S1x2816x1024, .f32⟩
  | .hbm, ⟨7, _⟩ => ⟨S8x9x1024, .f32⟩
  | .hbm, ⟨8, _⟩ => ⟨S8x3x1024, .f32⟩
  | .hbm, ⟨9, _⟩ => ⟨S1024, .f32⟩
  | .hbm, ⟨10, _⟩ => ⟨S1024, .f32⟩
  | .hbm, ⟨11, _⟩ => ⟨S1024x2816, .f32⟩
  | .hbm, ⟨12, _⟩ => ⟨S1024x2816, .f32⟩
  | .hbm, ⟨13, _⟩ => ⟨S2816x1024, .f32⟩
  | .hbm, ⟨14, _⟩ => ⟨S8x4096x1024, .f32⟩
  | .hbm, ⟨15, _⟩ => ⟨S_, .f32⟩
  | .hbm, ⟨16, _⟩ => ⟨S8x4096, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S8x4096x1, .f32⟩
  | .hbm, ⟨25, _⟩ => ⟨S8x4096x1024, .f32⟩
  | .hbm, ⟨26, _⟩ => ⟨S8x4096x1024, .f32⟩
  | .hbm, ⟨27, _⟩ => ⟨S1x1x1024, .f32⟩
  | .hbm, ⟨28, _⟩ => ⟨S8x4096x1024, .f32⟩
  | .hbm, ⟨29, _⟩ => ⟨S8x4096x1024, .f32⟩
  | .hbm, ⟨30, _⟩ => ⟨S8x1x1024, .f32⟩
  | .hbm, ⟨31, _⟩ => ⟨S8x1024, .f32⟩
  | .hbm, ⟨32, _⟩ => ⟨S8x1x1024, .f32⟩
  | .hbm, ⟨33, _⟩ => ⟨S8x1024, .f32⟩
  | .hbm, ⟨34, _⟩ => ⟨S8x1x1024, .f32⟩
  | .hbm, ⟨35, _⟩ => ⟨S_, .f32⟩
  | .hbm, ⟨36, _⟩ => ⟨S8x1x1024, .f32⟩
  | .hbm, ⟨37, _⟩ => ⟨S8x1x1024, .f32⟩
  | .hbm, ⟨38, _⟩ => ⟨S8x4096x1024, .f32⟩
  | .hbm, ⟨39, _⟩ => ⟨S8x4096x1024, .f32⟩
  | .hbm, ⟨40, _⟩ => ⟨S8x1x1024, .f32⟩
  | .hbm, ⟨41, _⟩ => ⟨S8x4096x1024, .f32⟩
  | .hbm, ⟨42, _⟩ => ⟨S8x4096x1024, .f32⟩
  | .hbm, ⟨43, _⟩ => ⟨S8x4096x2816, .f32⟩
  | .hbm, ⟨44, _⟩ => ⟨S8x4096x2816, .f32⟩
  | .hbm, ⟨45, _⟩ => ⟨S8x4096x2816, .f32⟩
  | .hbm, ⟨46, _⟩ => ⟨S_, .f32⟩
  | .hbm, ⟨47, _⟩ => ⟨S8x4096x2816, .f32⟩
  | .hbm, ⟨48, _⟩ => ⟨S8x4096x2816, .f32⟩
  | .hbm, ⟨49, _⟩ => ⟨S_, .f32⟩
  | .hbm, ⟨50, _⟩ => ⟨S8x4096x2816, .f32⟩
  | .hbm, ⟨51, _⟩ => ⟨S8x4096x2816, .f32⟩
  | .hbm, ⟨52, _⟩ => ⟨S8x4096x2816, .f32⟩
  | .hbm, ⟨53, _⟩ => ⟨S8x4096x2816, .f32⟩
  | .hbm, ⟨54, _⟩ => ⟨S8x4096x2816, .f32⟩
  | .hbm, ⟨55, _⟩ => ⟨S8x4096x1024, .f32⟩
  | .hbm, ⟨56, _⟩ => ⟨S8x1x1024, .f32⟩
  | .hbm, ⟨57, _⟩ => ⟨S8x1024, .f32⟩
  | .hbm, ⟨58, _⟩ => ⟨S8x1x1024, .f32⟩
  | .hbm, ⟨59, _⟩ => ⟨S_, .f32⟩
  | .hbm, ⟨60, _⟩ => ⟨S8x1x1024, .f32⟩
  | .hbm, ⟨61, _⟩ => ⟨S8x1x1024, .f32⟩
  | .hbm, ⟨62, _⟩ => ⟨S8x4096x1024, .f32⟩
  | .hbm, ⟨63, _⟩ => ⟨S_, .f32⟩
  | .hbm, ⟨64, _⟩ => ⟨S8x4096, .f32⟩
  | .hbm, ⟨65, _⟩ => ⟨S8x4096x1, .f32⟩
  | .hbm, ⟨66, _⟩ => ⟨S_, .f32⟩
  | .hbm, ⟨67, _⟩ => ⟨S8x4096x1, .f32⟩
  | .hbm, ⟨68, _⟩ => ⟨S8x4096x1, .f32⟩
  | .hbm, ⟨69, _⟩ => ⟨S_, .f32⟩
  | .hbm, ⟨70, _⟩ => ⟨S8x4096x1, .f32⟩
  | .hbm, ⟨71, _⟩ => ⟨S8x4096x1, .f32⟩
  | .hbm, ⟨72, _⟩ => ⟨S8x4096x1, .f32⟩
  | .hbm, ⟨73, _⟩ => ⟨S8x4096x1024, .f32⟩
  | .hbm, ⟨74, _⟩ => ⟨S8x4096x1024, .f32⟩
  | .hbm, ⟨75, _⟩ => ⟨S1x1x1024, .f32⟩
  | .hbm, ⟨76, _⟩ => ⟨S8x4096x1024, .f32⟩
  | .hbm, ⟨77, _⟩ => ⟨S8x4096x1024, .f32⟩
  | .hbm, ⟨78, _⟩ => ⟨S8x4096x1024, .f32⟩
  | .hbm, ⟨79, _⟩ => ⟨S8x4096x1024, .f32⟩
  | .hbm, ⟨80, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_3 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_4 : Ref sig .tc := ⟨.hbm, 63, rfl⟩
abbrev main_v43 : Ref sig .tc := ⟨.hbm, 64, rfl⟩
abbrev main_v44 : Ref sig .tc := ⟨.hbm, 65, rfl⟩
abbrev main_cst_5 : Ref sig .tc := ⟨.hbm, 66, rfl⟩
abbrev main_v45 : Ref sig .tc := ⟨.hbm, 67, rfl⟩
abbrev main_v46 : Ref sig .tc := ⟨.hbm, 68, rfl⟩
abbrev main_cst_6 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩

abbrev nD : Nat := 1
abbrev τ : Topo := Topo.v7x

variable {F : FTy → Type} [FloatOps F]
-- ==== FfnPost.lean ====
abbrev S8x4096x1024 : Shape := ⟨3, ![8, 4096, 1024]⟩
abbrev S16x9x1024 : Shape := ⟨3, ![16, 9, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x2816 : Shape := ⟨2, ![1024, 2816]⟩
abbrev S2816x1024 : Shape := ⟨2, ![2816, 1024]⟩
abbrev S1x1024x1024 : Shape := ⟨3, ![1, 1024, 1024]⟩
abbrev S1x9x1024 : Shape := ⟨3, ![1, 9, 1024]⟩
abbrev S9x1024 : Shape := ⟨2, ![9, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1024x1024 : Shape := ⟨2, ![1024, 1024]⟩
abbrev S1024x768 : Shape := ⟨2, ![1024, 768]⟩
abbrev S256x768 : Shape := ⟨2, ![256, 768]⟩
abbrev S768x1024 : Shape := ⟨2, ![768, 1024]⟩

abbrev nBuf : Space → Nat
  | .hbm => 22
  | .vmem => 14
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S16x9x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024x2816, .f32⟩
  | .hbm, ⟨7, _⟩ => ⟨S1x1024x2816, .f32⟩
  | .hbm, ⟨8, _⟩ => ⟨S1x2816x1024, .f32⟩
  | .hbm, ⟨9, _⟩ => ⟨S1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S1024x2816, .f32⟩
  | .hbm, ⟨14, _⟩ => ⟨S1024x2816, .bf16⟩
  | .hbm, ⟨15, _⟩ => ⟨S1024x2816, .f32⟩
  | .hbm, ⟨16, _⟩ => ⟨S1024x2816, .bf16⟩
  | .hbm, ⟨17, _⟩ => ⟨S2816x1024, .f32⟩
  | .hbm, ⟨18, _⟩ => ⟨S2816x1024, .bf16⟩
  | .hbm, ⟨19, _⟩ => ⟨S1024, .f32⟩
  | .hbm, ⟨20, _⟩ => ⟨S1x1024, .f32⟩
  | .hbm, ⟨21, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x9x1024, .f32⟩
  | .local _ .vmem, ⟨5, _⟩ => ⟨S1x9x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1024x2816, .bf16⟩
  | .local _ .vmem, ⟨10, _⟩ => ⟨S1024x2816, .bf16⟩
  | .local _ .vmem, ⟨11, _⟩ => ⟨S2816x1024, .bf16⟩
  | .local _ .vmem, ⟨12, _⟩ => ⟨S1x1024x1024, .f32⟩
  | .local _ .vmem, ⟨13, _⟩ => ⟨S1x1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x9x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FfnPostRefIdeal.lean ====
abbrev S8x4096x1024 : Shape := ⟨3, ![8, 4096, 1024]⟩
abbrev S16x9x1024 : Shape := ⟨3, ![16, 9, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S8x9x1024 : Shape := ⟨3, ![8, 9, 1024]⟩
abbrev S8x3x1024 : Shape := ⟨3, ![8, 3, 1024]⟩
abbrev S8x1x1024 : Shape := ⟨3, ![8, 1, 1024]⟩
abbrev S8x1024 : Shape := ⟨2, ![8, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x2816 : Shape := ⟨2, ![1024, 2816]⟩
abbrev S2816x1024 : Shape := ⟨2, ![2816, 1024]⟩
abbrev S8x4096x2816 : Shape := ⟨3, ![8, 4096, 2816]⟩

abbrev nBuf : Space → Nat
  | .hbm => 107
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S16x9x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024x2816, .f32⟩
  | .hbm, ⟨7, _⟩ => ⟨S1x1024x2816, .f32⟩
  | .hbm, ⟨8, _⟩ => ⟨S1x2816x1024, .f32⟩
  | .hbm, ⟨9, _⟩ => ⟨S8x9x1024, .f32⟩
  | .hbm, ⟨10, _⟩ => ⟨S8x3x1024, .f32⟩
  | .hbm, ⟨11, _⟩ => ⟨S8x1x1024, .f32⟩
  | .hbm, ⟨12, _⟩ => ⟨S8x1024, .f32⟩
  | .hbm, ⟨13, _⟩ => ⟨S8x1x1024, .f32⟩
  | .hbm, ⟨14, _⟩ => ⟨S1024, .f32⟩
  | .hbm, ⟨15, _⟩ => ⟨S8x4096x1024, .f32⟩
  | .hbm, ⟨16, _⟩ => ⟨S_, .f32⟩
  | .hbm, ⟨17, _⟩ => ⟨S8x4096, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S_, .f32⟩
  | .hbm, ⟨23, _⟩ => ⟨S8x4096x1, .f32⟩
  | .hbm, ⟨24, _⟩ => ⟨S8x4096x1, .f32⟩
  | .hbm, ⟨25, _⟩ => ⟨S8x4096x1, .f32⟩
  | .hbm, ⟨26, _⟩ => ⟨S8x4096x1024, .f32⟩
  | .hbm, ⟨27, _⟩ => ⟨S8x4096x1024, .f32⟩
  | .hbm, ⟨28, _⟩ => ⟨S1x1x1024, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | .hbm, ⟨32, _⟩ => ⟨S8x4096x1024, .f32⟩
  | .hbm, ⟨33, _⟩ => ⟨S8x4096x1024, .f32⟩
  | .hbm, ⟨34, _⟩ => ⟨S8x3x1024, .f32⟩
  | .hbm, ⟨35, _⟩ => ⟨S1024, .f32⟩
  | .hbm, ⟨36, _⟩ => ⟨S1024, .f32⟩
  | .hbm, ⟨37, _⟩ => ⟨S1024x2816, .f32⟩
  | .hbm, ⟨38, _⟩ => ⟨S1024x2816, .f32⟩
  | .hbm, ⟨39, _⟩ => ⟨S2816x1024, .f32⟩
  | .hbm, ⟨40, _⟩ => ⟨S8x4096x1024, .f32⟩
  | .hbm, ⟨41, _⟩ => ⟨S_, .f32⟩
  | .hbm, ⟨42, _⟩ => ⟨S8x4096, .f32⟩
  | .hbm, ⟨43, _⟩ => ⟨S8x4096x1, .f32⟩
  | .hbm, ⟨44, _⟩ => ⟨S_, .f32⟩
  | .hbm, ⟨45, _⟩ => ⟨S8x4096x1, .f32⟩
  | .hbm, ⟨46, _⟩ => ⟨S8x4096x1, .f32⟩
  | .hbm, ⟨47, _⟩ => ⟨S_, .f32⟩
  | .hbm, ⟨48, _⟩ => ⟨S8x4096x1, .f32⟩
  | .hbm, ⟨49, _⟩ => ⟨S8x4096x1, .f32⟩
  | .hbm, ⟨50, _⟩ => ⟨S8x4096x1, .f32⟩
  | .hbm, ⟨51, _⟩ => ⟨S8x4096x1024, .f32⟩
  | .hbm, ⟨52, _⟩ => ⟨S8x4096x1024, .f32⟩
  | .hbm, ⟨53, _⟩ => ⟨S1x1x1024, .f32⟩
  | .hbm, ⟨54, _⟩ => ⟨S8x4096x1024, .f32⟩
  | .hbm, ⟨55, _⟩ => ⟨S8x4096x1024, .f32⟩
  | .hbm, ⟨56, _⟩ => ⟨S8x1x1024, .f32⟩
  | .hbm, ⟨57, _⟩ => ⟨S8x1024, .f32⟩
  | .hbm, ⟨58, _⟩ => ⟨S8x1x1024, .f32⟩
  | .hbm, ⟨59, _⟩ => ⟨S8x1024, .f32⟩
  | .hbm, ⟨60, _⟩ => ⟨S8x1x1024, .f32⟩
  | .hbm, ⟨61, _⟩ => ⟨S_, .f32⟩
  | .hbm, ⟨62, _⟩ => ⟨S8x1x1024, .f32⟩
  | .hbm, ⟨63, _⟩ => ⟨S8x1x1024, .f32⟩
  | .hbm, ⟨64, _⟩ => ⟨S8x4096x1024, .f32⟩
  | .hbm, ⟨65, _⟩ => ⟨S8x4096x1024, .f32⟩
  | .hbm, ⟨66, _⟩ => ⟨S8x1x1024, .f32⟩
  | .hbm, ⟨67, _⟩ => ⟨S8x4096x1024, .f32⟩
  | .hbm, ⟨68, _⟩ => ⟨S8x4096x1024, .f32⟩
  | .hbm, ⟨69, _⟩ => ⟨S8x4096x2816, .f32⟩
  | .hbm, ⟨70, _⟩ => ⟨S8x4096x2816, .f32⟩
  | .hbm, ⟨71, _⟩ => ⟨S8x4096x2816, .f32⟩
  | .hbm, ⟨72, _⟩ => ⟨S_, .f32⟩
  | .hbm, ⟨73, _⟩ => ⟨S8x4096x2816, .f32⟩
  | .hbm, ⟨74, _⟩ => ⟨S8x4096x2816, .f32⟩
  | .hbm, ⟨75, _⟩ => ⟨S_, .f32⟩
  | .hbm, ⟨76, _⟩ => ⟨S8x4096x2816, .f32⟩
  | .hbm, ⟨77, _⟩ => ⟨S8x4096x2816, .f32⟩
  | .hbm, ⟨78, _⟩ => ⟨S8x4096x2816, .f32⟩
  | .hbm, ⟨79, _⟩ => ⟨S8x4096x2816, .f32⟩
  | .hbm, ⟨80, _⟩ => ⟨S8x4096x2816, .f32⟩
  | .hbm, ⟨81, _⟩ => ⟨S8x4096x1024, .f32⟩
  | .hbm, ⟨82, _⟩ => ⟨S8x1x1024, .f32⟩
  | .hbm, ⟨83, _⟩ => ⟨S8x1024, .f32⟩
  | .hbm, ⟨84, _⟩ => ⟨S8x1x1024, .f32⟩
  | .hbm, ⟨85, _⟩ => ⟨S_, .f32⟩
  | .hbm, ⟨86, _⟩ => ⟨S8x1x1024, .f32⟩
  | .hbm, ⟨87, _⟩ => ⟨S8x1x1024, .f32⟩
  | .hbm, ⟨88, _⟩ => ⟨S8x4096x1024, .f32⟩
  | .hbm, ⟨89, _⟩ => ⟨S_, .f32⟩
  | .hbm, ⟨90, _⟩ => ⟨S8x4096, .f32⟩
  | .hbm, ⟨91, _⟩ => ⟨S8x4096x1, .f32⟩
  | .hbm, ⟨92, _⟩ => ⟨S_, .f32⟩
  | .hbm, ⟨93, _⟩ => ⟨S8x4096x1, .f32⟩
  | .hbm, ⟨94, _⟩ => ⟨S8x4096x1, .f32⟩
  | .hbm, ⟨95, _⟩ => ⟨S_, .f32⟩
  | .hbm, ⟨96, _⟩ => ⟨S8x4096x1, .f32⟩
  | .hbm, ⟨97, _⟩ => ⟨S8x4096x1, .f32⟩
  | .hbm, ⟨98, _⟩ => ⟨S8x4096x1, .f32⟩
  | .hbm, ⟨99, _⟩ => ⟨S8x4096x1024, .f32⟩
  | .hbm, ⟨100, _⟩ => ⟨S8x4096x1024, .f32⟩
  | .hbm, ⟨101, _⟩ => ⟨S1x1x1024, .f32⟩
  | .hbm, ⟨102, _⟩ => ⟨S8x4096x1024, .f32⟩
  | .hbm, ⟨103, _⟩ => ⟨S8x4096x1024, .f32⟩
  | .hbm, ⟨104, _⟩ => ⟨S8x4096x1024, .f32⟩
  | .hbm, ⟨105, _⟩ => ⟨S8x4096x1024, .f32⟩
  | .hbm, ⟨106, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_5 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_call0_v0 : Ref sig .tc := ⟨.hbm, 70, rfl⟩
abbrev main_call0_v1 : Ref sig .tc := ⟨.hbm, 71, rfl⟩
abbrev main_call0_cst : Ref sig .tc := ⟨.hbm, 72, rfl⟩
abbrev main_call0_v2 : Ref sig .tc := ⟨.hbm, 73, rfl⟩
abbrev main_call0_v3 : Ref sig .tc := ⟨.hbm, 74, rfl⟩
abbrev main_call0_cst_0 : Ref sig .tc := ⟨.hbm, 75, rfl⟩
abbrev main_call0_v4 : Ref sig .tc := ⟨.hbm, 76, rfl⟩
abbrev main_call0_v5 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_6 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_7 : Ref sig .tc := ⟨.hbm, 89, rfl⟩
abbrev main_v64 : Ref sig .tc := ⟨.hbm, 90, rfl⟩
abbrev main_v65 : Ref sig .tc := ⟨.hbm, 91, rfl⟩
abbrev main_cst_8 : Ref sig .tc := ⟨.hbm, 92, rfl⟩
abbrev main_v66 : Ref sig .tc := ⟨.hbm, 93, rfl⟩
abbrev main_v67 : Ref sig .tc := ⟨.hbm, 94, rfl⟩
abbrev main_cst_9 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩

abbrev nD : Nat := 1
abbrev τ : Topo := Topo.v7x

variable {F : FTy → Type} [FloatOps F]
-- ==== Inproj.lean ====
abbrev S8x4096x1024 : Shape := ⟨3, ![8, 4096, 1024]⟩
abbrev S16x9x1024 : Shape := ⟨3, ![16, 9, 1024]⟩
abbrev S1x1024 : Shape := ⟨2, ![1, 1024]⟩
abbrev S1x1024x2840 : Shape := ⟨3, ![1, 1024, 2840]⟩
abbrev S1x3x1792 : Shape := ⟨3, ![1, 3, 1792]⟩
abbrev S1x1792 : Shape := ⟨2, ![1, 1792]⟩
abbrev S1x2x12 : Shape := ⟨3, ![1, 2, 12]⟩
abbrev S1024x2840 : Shape := ⟨2, ![1024, 2840]⟩
abbrev S_ : Shape := ⟨0, ![]⟩
abbrev S1024x2944 : Shape := ⟨2, ![1024, 2944]⟩
abbrev S2x12 : Shape := ⟨2, ![2, 12]⟩
abbrev S1x24 : Shape := ⟨2, ![1, 24]⟩
abbrev S1x128 : Shape := ⟨2, ![1, 128]⟩
abbrev S3x1792 : Shape := ⟨2, ![3, 1792]⟩
abbrev S1792 : Shape := ⟨1, ![1792]⟩
abbrev S1024 : Shape := ⟨1, ![1024]⟩
abbrev S8x4096x256 : Shape := ⟨3, ![8, 4096, 256]⟩
abbrev S8x4096x768 : Shape := ⟨3, ![8, 4096, 768]⟩
abbrev S8x4096x512 : Shape := ⟨3, ![8, 4096, 512]⟩
abbrev S8x32x4096 : Shape := ⟨3, ![8, 32, 4096]⟩
abbrev S1x1024x1024 : Shape := ⟨3, ![1, 1024, 1024]⟩
abbrev S1x8x1024 : Shape := ⟨3, ![1, 8, 1024]⟩
abbrev S1x9x1024 : Shape := ⟨3, ![1, 9, 1024]⟩
abbrev S1x1024x256 : Shape := ⟨3, ![1, 1024, 256]⟩
abbrev S1x1024x768 : Shape := ⟨3, ![1, 1024, 768]⟩
abbrev S1x1024x512 : Shape := ⟨3, ![1, 1024, 512]⟩
abbrev S1x32x1024 : Shape := ⟨3, ![1, 32, 1024]⟩
abbrev S9x1024 : Shape := ⟨2, ![9, 1024]⟩
abbrev S8x1024 : Shape := ⟨2, ![8, 1024]⟩
abbrev S16x1024 : Shape := ⟨2, ![16, 1024]⟩
abbrev S16 : Shape := ⟨1, ![16]⟩
abbrev S16x1 : Shape := ⟨2, ![16, 1]⟩
abbrev S1024x1792 : Shape := ⟨2, ![1024, 1792]⟩
abbrev S16x1792 : Shape := ⟨2, ![16, 1792]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S256x2944 : Shape := ⟨2, ![256, 2944]⟩
abbrev S8x1792 : Shape := ⟨2, ![8, 1792]⟩
abbrev S256x1792 : Shape := ⟨2, ![256, 1792]⟩
abbrev S248x1792 : Shape := ⟨2, ![248, 1792]⟩
abbrev S256x768 : Shape := ⟨2, ![256, 768]⟩
abbrev S1x256x768 : Shape := ⟨3, ![1, 256, 768]⟩
abbrev S256x512 : Shape := ⟨2, ![256, 512]⟩
abbrev S1x256x512 : Shape := ⟨3, ![1, 256, 512]⟩
abbrev S256x128 : Shape := ⟨2, ![256, 128]⟩
abbrev S128x256 : Shape := ⟨2, ![128, 256]⟩
abbrev S32x256 : Shape := ⟨2, ![32, 256]⟩
abbrev S1x32x256 : Shape := ⟨3, ![1, 32, 256]⟩
abbrev S256x256 : Shape := ⟨2, ![256, 256]⟩
abbrev S1x256x256 : Shape := ⟨3, ![1, 256, 256]⟩

abbrev nBuf : Space → Nat
  | .hbm => 28
  | .vmem => 25
  | .smem => 0
  | _ => 0

abbrev bufTy : (tb : Table) → Fin (tcTables nBuf tb) → BufTy
  | .hbm, ⟨0, _⟩ => ⟨S8x4096x1024, .f32⟩
  | .hbm, ⟨1, _⟩ => ⟨S16x9x1024, .f32⟩
  | .hbm, ⟨2, _⟩ => ⟨S1x1024, .f32⟩
  | .hbm, ⟨3, _⟩ => ⟨S1x1024x2840, .f32⟩
  | .hbm, ⟨4, _⟩ => ⟨S1x3x1792, .f32⟩
  | .hbm, ⟨5, _⟩ => ⟨S1x1792, .f32⟩
  | .hbm, ⟨6, _⟩ => ⟨S1x2x12, .f32⟩
  | .hbm, ⟨7, _⟩ => ⟨S1024x2840, .f32⟩
  | .hbm, ⟨8, _⟩ => ⟨S_, .i32⟩
  | .hbm, ⟨9, _⟩ => ⟨S_, .f32⟩
  | .hbm, ⟨10, _⟩ => ⟨S1024x2944, .f32⟩
  | .hbm, ⟨11, _⟩ => ⟨S1024x2944, .bf16⟩
  | .hbm, ⟨12, _⟩ => ⟨S2x12, .f32⟩
  | .hbm, ⟨13, _⟩ => ⟨S1x24, .f32⟩
  | .hbm, ⟨14, _⟩ => ⟨S_, .i32⟩
  | .hbm, ⟨15, _⟩ => ⟨S_, .f32⟩
  | .hbm, ⟨16, _⟩ => ⟨S1x128, .f32⟩
  | .hbm, ⟨17, _⟩ => ⟨S3x1792, .f32⟩
  | .hbm, ⟨18, _⟩ => ⟨S1792, .f32⟩
  | .hbm, ⟨19, _⟩ => ⟨S1x1792, .f32⟩
  | .hbm, ⟨20, _⟩ => ⟨S1024, .f32⟩
  | .hbm, ⟨21, _⟩ => ⟨S1x1024, .f32⟩
  | .hbm, ⟨22, _⟩ => ⟨S8x4096x256, .f32⟩
  | .hbm, ⟨23, _⟩ => ⟨S8x4096x768, .bf16⟩
  | .hbm, ⟨24, _⟩ => ⟨S8x4096x512, .bf16⟩
  | .hbm, ⟨25, _⟩ => ⟨S8x4096x768, .bf16⟩
  | .hbm, ⟨26, _⟩ => ⟨S8x4096x512, .bf16⟩
  | .hbm, ⟨27, _⟩ => ⟨S8x32x4096, .f32⟩
  | .local _ .vmem, ⟨0, _⟩ => ⟨S1x1024x1024, .f32⟩
  | .local _ .vmem, ⟨1, _⟩ => ⟨S1x1024x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x9x1024, .f32⟩
  | .local _ .vmem, ⟨7, _⟩ => ⟨S1x9x1024, .f32⟩
  | .local _ .vmem, ⟨8, _⟩ => ⟨S1x1024, .f32⟩
  | .local _ .vmem, ⟨9, _⟩ => ⟨S1024x2944, .bf16⟩
  | .local _ .vmem, ⟨10, _⟩ => ⟨S3x1792, .f32⟩
  | .local _ .vmem, ⟨11, _⟩ => ⟨S1x1792, .f32⟩
  | .local _ .vmem, ⟨12, _⟩ => ⟨S1x128, .f32⟩
  | .local _ .vmem, ⟨13, _⟩ => ⟨S1x1024x256, .f32⟩
  | .local _ .vmem, ⟨14, _⟩ => ⟨S1x1024x256, .f32⟩
  | .local _ .vmem, ⟨15, _⟩ => ⟨S1x1024x768, .bf16⟩
  | .local _ .vmem, ⟨16, _⟩ => ⟨S1x1024x768, .bf16⟩
  | .local _ .vmem, ⟨17, _⟩ => ⟨S1x1024x512, .bf16⟩
  | .local _ .vmem, ⟨18, _⟩ => ⟨S1x1024x512, .bf16⟩
  | .local _ .vmem, ⟨19, _⟩ => ⟨S1x1024x768, .bf16⟩
  | .local _ .vmem, ⟨20, _⟩ => ⟨S1x1024x768, .bf16⟩
  | .local _ .vmem, ⟨21, _⟩ => ⟨S1x1024x512, .bf16⟩
  | .local _ .vmem, ⟨22, _⟩ => ⟨S1x1024x512, .bf16⟩
  | .local _ .vmem, ⟨23, _⟩ => ⟨S1x32x1024, .f32⟩
  | .local _ .vmem, ⟨24, _⟩ => ⟨S1x32x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_call1_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev main_v11_3 : Ref sig .tc := ⟨.hbm, 25, rfl⟩
abbrev main_v11_4 : Ref sig .tc := ⟨.hbm, 26, rfl⟩
abbrev main_v11_5 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x9x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2944 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x1792 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1792 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x768 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x32x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== InprojRefIdeal.lean ====
abbrev S8x4096x1024 : Shape := ⟨3, ![8, 4096, 1024]⟩
abbrev S16x9x1024 : Shape := ⟨3, ![16, 9, 1024]⟩
abbrev S1x1024 : Shape := ⟨2, ![1, 1024]⟩
abbrev S1x1024x2840 : Shape := ⟨3, ![1, 1024, 2840]⟩
abbrev S1x3x1792 : Shape := ⟨3, ![1, 3, 1792]⟩
abbrev S1x1792 : Shape := ⟨2, ![1, 1792]⟩
abbrev S1x2x12 : Shape := ⟨3, ![1, 2, 12]⟩
abbrev S8x3x1024 : Shape := ⟨3, ![8, 3, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S8x1024 : Shape := ⟨2, ![8, 1024]⟩
abbrev S1024x2840 : Shape := ⟨2, ![1024, 2840]⟩
abbrev S8x4096x2840 : Shape := ⟨3, ![8, 4096, 2840]⟩
abbrev S8x4096x256 : Shape := ⟨3, ![8, 4096, 256]⟩
abbrev S8x4096x768 : Shape := ⟨3, ![8, 4096, 768]⟩
abbrev S8x4096x1792 : Shape := ⟨3, ![8, 4096, 1792]⟩
abbrev S8x4096x24 : Shape := ⟨3, ![8, 4096, 24]⟩
abbrev S3x1792 : Shape := ⟨2, ![3, 1792]⟩
abbrev S1792 : Shape := ⟨1, ![1792]⟩
abbrev S8x1x1792 : Shape := ⟨3, ![8, 1, 1792]⟩
abbrev S8x4095x1792 : Shape := ⟨3, ![8, 4095, 1792]⟩
abbrev S1x1x1792 : Shape := ⟨3, ![1, 1, 1792]⟩
abbrev S8x4096x512 : Shape := ⟨3, ![8, 4096, 512]⟩
abbrev S2x12 : Shape := ⟨2, ![2, 12]⟩
abbrev S24 : Shape := ⟨1, ![24]⟩
abbrev S1x1x24 : Shape := ⟨3, ![1, 1, 24]⟩
abbrev S8x4096x8 : Shape := ⟨3, ![8, 4096, 8]⟩
abbrev S8x4096x32 : Shape := ⟨3, ![8, 4096, 32]⟩
abbrev S8x32x4096 : Shape := ⟨3, ![8, 32, 4096]⟩

abbrev nBuf : Space → Nat
  | .hbm => 112
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S16x9x1024, .f32⟩
  | .hbm, ⟨2, _⟩ => ⟨S1x1024, .f32⟩
  | .hbm, ⟨3, _⟩ => ⟨S1x1024x2840, .f32⟩
  | .hbm, ⟨4, _⟩ => ⟨S1x3x1792, .f32⟩
  | .hbm, ⟨5, _⟩ => ⟨S1x1792, .f32⟩
  | .hbm, ⟨6, _⟩ => ⟨S1x2x12, .f32⟩
  | .hbm, ⟨7, _⟩ => ⟨S8x3x1024, .f32⟩
  | .hbm, ⟨8, _⟩ => ⟨S1024, .f32⟩
  | .hbm, ⟨9, _⟩ => ⟨S8x4096x1024, .f32⟩
  | .hbm, ⟨10, _⟩ => ⟨S_, .f32⟩
  | .hbm, ⟨11, _⟩ => ⟨S8x4096, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S8x4096x1, .f32⟩
  | .hbm, ⟨20, _⟩ => ⟨S8x4096x1024, .f32⟩
  | .hbm, ⟨21, _⟩ => ⟨S8x4096x1024, .f32⟩
  | .hbm, ⟨22, _⟩ => ⟨S1x1x1024, .f32⟩
  | .hbm, ⟨23, _⟩ => ⟨S8x4096x1024, .f32⟩
  | .hbm, ⟨24, _⟩ => ⟨S8x4096x1024, .f32⟩
  | .hbm, ⟨25, _⟩ => ⟨S8x1x1024, .f32⟩
  | .hbm, ⟨26, _⟩ => ⟨S8x1024, .f32⟩
  | .hbm, ⟨27, _⟩ => ⟨S8x1x1024, .f32⟩
  | .hbm, ⟨28, _⟩ => ⟨S8x1024, .f32⟩
  | .hbm, ⟨29, _⟩ => ⟨S8x1x1024, .f32⟩
  | .hbm, ⟨30, _⟩ => ⟨S_, .f32⟩
  | .hbm, ⟨31, _⟩ => ⟨S8x1x1024, .f32⟩
  | .hbm, ⟨32, _⟩ => ⟨S8x1x1024, .f32⟩
  | .hbm, ⟨33, _⟩ => ⟨S8x4096x1024, .f32⟩
  | .hbm, ⟨34, _⟩ => ⟨S8x4096x1024, .f32⟩
  | .hbm, ⟨35, _⟩ => ⟨S8x1x1024, .f32⟩
  | .hbm, ⟨36, _⟩ => ⟨S8x4096x1024, .f32⟩
  | .hbm, ⟨37, _⟩ => ⟨S8x4096x1024, .f32⟩
  | .hbm, ⟨38, _⟩ => ⟨S1024x2840, .f32⟩
  | .hbm, ⟨39, _⟩ => ⟨S8x4096x2840, .f32⟩
  | .hbm, ⟨40, _⟩ => ⟨S8x4096x256, .f32⟩
  | .hbm, ⟨41, _⟩ => ⟨S8x4096x768, .f32⟩
  | .hbm, ⟨42, _⟩ => ⟨S8x4096x1792, .f32⟩
  | .hbm, ⟨43, _⟩ => ⟨S8x4096x24, .f32⟩
  | .hbm, ⟨44, _⟩ => ⟨S3x1792, .f32⟩
  | .hbm, ⟨45, _⟩ => ⟨S1792, .f32⟩
  | .hbm, ⟨46, _⟩ => ⟨S8x1x1792, .f32⟩
  | .hbm, ⟨47, _⟩ => ⟨S_, .f32⟩
  | .hbm, ⟨48, _⟩ => ⟨S8x1x1792, .f32⟩
  | .hbm, ⟨49, _⟩ => ⟨S8x4095x1792, .f32⟩
  | .hbm, ⟨50, _⟩ => ⟨S8x4096x1792, .f32⟩
  | .hbm, ⟨51, _⟩ => ⟨S8x4095x1792, .f32⟩
  | .hbm, ⟨52, _⟩ => ⟨S8x4096x1792, .f32⟩
  | .hbm, ⟨53, _⟩ => ⟨S1x1792, .f32⟩
  | .hbm, ⟨54, _⟩ => ⟨S1792, .f32⟩
  | .hbm, ⟨55, _⟩ => ⟨S1x1x1792, .f32⟩
  | .hbm, ⟨56, _⟩ => ⟨S8x4096x1792, .f32⟩
  | .hbm, ⟨57, _⟩ => ⟨S8x4096x1792, .f32⟩
  | .hbm, ⟨58, _⟩ => ⟨S1x1792, .f32⟩
  | .hbm, ⟨59, _⟩ => ⟨S1792, .f32⟩
  | .hbm, ⟨60, _⟩ => ⟨S1x1x1792, .f32⟩
  | .hbm, ⟨61, _⟩ => ⟨S8x4096x1792, .f32⟩
  | .hbm, ⟨62, _⟩ => ⟨S8x4096x1792, .f32⟩
  | .hbm, ⟨63, _⟩ => ⟨S8x4096x1792, .f32⟩
  | .hbm, ⟨64, _⟩ => ⟨S1x1792, .f32⟩
  | .hbm, ⟨65, _⟩ => ⟨S1792, .f32⟩
  | .hbm, ⟨66, _⟩ => ⟨S1x1x1792, .f32⟩
  | .hbm, ⟨67, _⟩ => ⟨S8x4096x1792, .f32⟩
  | .hbm, ⟨68, _⟩ => ⟨S8x4096x1792, .f32⟩
  | .hbm, ⟨69, _⟩ => ⟨S8x4096x1792, .f32⟩
  | .hbm, ⟨70, _⟩ => ⟨S1x1x1792, .f32⟩
  | .hbm, ⟨71, _⟩ => ⟨S8x4096x1792, .f32⟩
  | .hbm, ⟨72, _⟩ => ⟨S8x4096x1792, .f32⟩
  | .hbm, ⟨73, _⟩ => ⟨S8x4096x1792, .f32⟩
  | .hbm, ⟨74, _⟩ => ⟨S8x4096x1792, .f32⟩
  | .hbm, ⟨75, _⟩ => ⟨S_, .f32⟩
  | .hbm, ⟨76, _⟩ => ⟨S8x4096x1792, .f32⟩
  | .hbm, ⟨77, _⟩ => ⟨S8x4096x1792, .f32⟩
  | .hbm, ⟨78, _⟩ => ⟨S_, .f32⟩
  | .hbm, ⟨79, _⟩ => ⟨S8x4096x1792, .f32⟩
  | .hbm, ⟨80, _⟩ => ⟨S8x4096x1792, .f32⟩
  | .hbm, ⟨81, _⟩ => ⟨S8x4096x1792, .f32⟩
  | .hbm, ⟨82, _⟩ => ⟨S8x4096x512, .f32⟩
  | .hbm, ⟨83, _⟩ => ⟨S8x4096x768, .f32⟩
  | .hbm, ⟨84, _⟩ => ⟨S8x4096x512, .f32⟩
  | .hbm, ⟨85, _⟩ => ⟨S2x12, .f32⟩
  | .hbm, ⟨86, _⟩ => ⟨S24, .f32⟩
  | .hbm, ⟨87, _⟩ => ⟨S1x1x24, .f32⟩
  | .hbm, ⟨88, _⟩ => ⟨S8x4096x24, .f32⟩
  | .hbm, ⟨89, _⟩ => ⟨S8x4096x24, .f32⟩
  | .hbm, ⟨90, _⟩ => ⟨S_, .f32⟩
  | .hbm, ⟨91, _⟩ => ⟨S8x4096x8, .f32⟩
  | .hbm, ⟨92, _⟩ => ⟨S8x4096x32, .f32⟩
  | .hbm, ⟨93, _⟩ => ⟨S_, .f32⟩
  | .hbm, ⟨94, _⟩ => ⟨S8x4096x32, .f32⟩
  | .hbm, ⟨95, _⟩ => ⟨S8x4096x32, .f32⟩
  | .hbm, ⟨96, _⟩ => ⟨S8x4096x32, .f32⟩
  | .hbm, ⟨97, _⟩ => ⟨S8x4096x32, .f32⟩
  | .hbm, ⟨98, _⟩ => ⟨S8x4096x32, .i1⟩
  | .hbm, ⟨99, _⟩ => ⟨S8x4096x32, .f32⟩
  | .hbm, ⟨100, _⟩ => ⟨S8x4096x32, .f32⟩
  | .hbm, ⟨101, _⟩ => ⟨S8x4096x32, .f32⟩
  | .hbm, ⟨102, _⟩ => ⟨S8x4096x32, .f32⟩
  | .hbm, ⟨103, _⟩ => ⟨S8x4096x32, .f32⟩
  | .hbm, ⟨104, _⟩ => ⟨S8x4096x32, .f32⟩
  | .hbm, ⟨105, _⟩ => ⟨S8x4096x32, .f32⟩
  | .hbm, ⟨106, _⟩ => ⟨S8x4096x32, .f32⟩
  | .hbm, ⟨107, _⟩ => ⟨S8x32x4096, .f32⟩
  | .hbm, ⟨108, _⟩ => ⟨S8x4096x768, .bf16⟩
  | .hbm, ⟨109, _⟩ => ⟨S8x4096x512, .bf16⟩
  | .hbm, ⟨110, _⟩ => ⟨S8x4096x768, .bf16⟩
  | .hbm, ⟨111, _⟩ => ⟨S8x4096x512, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_3 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_call0_v0 : Ref sig .tc := ⟨.hbm, 73, rfl⟩
abbrev main_call0_v1 : Ref sig .tc := ⟨.hbm, 74, rfl⟩
abbrev main_call0_cst : Ref sig .tc := ⟨.hbm, 75, rfl⟩
abbrev main_call0_v2 : Ref sig .tc := ⟨.hbm, 76, rfl⟩
abbrev main_call0_v3 : Ref sig .tc := ⟨.hbm, 77, rfl⟩
abbrev main_call0_cst_0 : Ref sig .tc := ⟨.hbm, 78, rfl⟩
abbrev main_call0_v4 : Ref sig .tc := ⟨.hbm, 79, rfl⟩
abbrev main_call0_v5 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_4 : Ref sig .tc := ⟨.hbm, 90, rfl⟩
abbrev main_v70 : Ref sig .tc := ⟨.hbm, 91, rfl⟩
abbrev main_v71 : Ref sig .tc := ⟨.hbm, 92, rfl⟩
abbrev main_call1_cst : Ref sig .tc := ⟨.hbm, 93, rfl⟩
abbrev main_call1_v0 : Ref sig .tc := ⟨.hbm, 94, rfl⟩
abbrev main_call1_v1 : Ref sig .tc := ⟨.hbm, 95, rfl⟩
abbrev main_call1_v2 : Ref sig .tc := ⟨.hbm, 96, rfl⟩
abbrev main_call1_v3 : Ref sig .tc := ⟨.hbm, 97, rfl⟩
abbrev main_call1_v4 : Ref sig .tc := ⟨.hbm, 98, rfl⟩
abbrev main_call1_v5 : Ref sig .tc := ⟨.hbm, 99, rfl⟩
abbrev main_call1_v6 : Ref sig .tc := ⟨.hbm, 100, rfl⟩
abbrev main_call1_v7 : Ref sig .tc := ⟨.hbm, 101, rfl⟩
abbrev main_call1_v8 : Ref sig .tc := ⟨.hbm, 102, rfl⟩
abbrev main_call1_v9 : Ref sig .tc := ⟨.hbm, 103, rfl⟩
abbrev main_call1_v10 : Ref sig .tc := ⟨.hbm, 104, rfl⟩
abbrev main_call1_v11 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩

abbrev nD : Nat := 1
abbrev τ : Topo := Topo.v7x

variable {F : FTy → Type} [FloatOps F]
-- ==== Mixout.lean ====
abbrev S8x4096x768 : Shape := ⟨3, ![8, 4096, 768]⟩
abbrev S8x4096x256 : Shape := ⟨3, ![8, 4096, 256]⟩
abbrev S1x12 : Shape := ⟨2, ![1, 12]⟩
abbrev S1x768 : Shape := ⟨2, ![1, 768]⟩
abbrev S1x1024x1024 : Shape := ⟨3, ![1, 1024, 1024]⟩
abbrev S12 : Shape := ⟨1, ![12]⟩
abbrev S12x64 : Shape := ⟨2, ![12, 64]⟩
abbrev S768 : Shape := ⟨1, ![768]⟩
abbrev S1024x1024 : Shape := ⟨2, ![1024, 1024]⟩
abbrev S8x4096x1024 : Shape := ⟨3, ![8, 4096, 1024]⟩
abbrev S1x2048x768 : Shape := ⟨3, ![1, 2048, 768]⟩
abbrev S1x2048x256 : Shape := ⟨3, ![1, 2048, 256]⟩
abbrev S1x2048x1024 : Shape := ⟨3, ![1, 2048, 1024]⟩
abbrev S1x128 : Shape := ⟨2, ![1, 128]⟩
abbrev S1x256x768 : Shape := ⟨3, ![1, 256, 768]⟩
abbrev S256x768 : Shape := ⟨2, ![256, 768]⟩
abbrev S256x128 : Shape := ⟨2, ![256, 128]⟩
abbrev S256 : Shape := ⟨1, ![256]⟩
abbrev S256x1 : Shape := ⟨2, ![256, 1]⟩
abbrev S1x256x256 : Shape := ⟨3, ![1, 256, 256]⟩
abbrev S256x256 : Shape := ⟨2, ![256, 256]⟩
abbrev S256x1024 : Shape := ⟨2, ![256, 1024]⟩
abbrev S1x256x1024 : Shape := ⟨3, ![1, 256, 1024]⟩

abbrev nBuf : Space → Nat
  | .hbm => 17
  | .vmem => 15
  | .smem => 0
  | _ => 0

abbrev bufTy : (tb : Table) → Fin (tcTables nBuf tb) → BufTy
  | .hbm, ⟨0, _⟩ => ⟨S8x4096x768, .bf16⟩
  | .hbm, ⟨1, _⟩ => ⟨S8x4096x768, .bf16⟩
  | .hbm, ⟨2, _⟩ => ⟨S8x4096x768, .bf16⟩
  | .hbm, ⟨3, _⟩ => ⟨S8x4096x768, .bf16⟩
  | .hbm, ⟨4, _⟩ => ⟨S8x4096x256, .bf16⟩
  | .hbm, ⟨5, _⟩ => ⟨S1x12, .f32⟩
  | .hbm, ⟨6, _⟩ => ⟨S1x768, .f32⟩
  | .hbm, ⟨7, _⟩ => ⟨S1x1024x1024, .f32⟩
  | .hbm, ⟨8, _⟩ => ⟨S12, .f32⟩
  | .hbm, ⟨9, _⟩ => ⟨S12x64, .f32⟩
  | .hbm, ⟨10, _⟩ => ⟨S768, .f32⟩
  | .hbm, ⟨11, _⟩ => ⟨S1x768, .f32⟩
  | .hbm, ⟨12, _⟩ => ⟨S768, .f32⟩
  | .hbm, ⟨13, _⟩ => ⟨S1x768, .f32⟩
  | .hbm, ⟨14, _⟩ => ⟨S1024x1024, .f32⟩
  | .hbm, ⟨15, _⟩ => ⟨S1024x1024, .bf16⟩
  | .hbm, ⟨16, _⟩ => ⟨S8x4096x1024, .f32⟩
  | .local _ .vmem, ⟨0, _⟩ => ⟨S1x2048x768, .bf16⟩
  | .local _ .vmem, ⟨1, _⟩ => ⟨S1x2048x768, .bf16⟩
  | .local _ .vmem, ⟨2, _⟩ => ⟨S1x2048x768, .bf16⟩
  | .local _ .vmem, ⟨3, _⟩ => ⟨S1x2048x768, .bf16⟩
  | .local _ .vmem, ⟨4, _⟩ => ⟨S1x2048x768, .bf16⟩
  | .local _ .vmem, ⟨5, _⟩ => ⟨S1x2048x768, .bf16⟩
  | .local _ .vmem, ⟨6, _⟩ => ⟨S1x2048x768, .bf16⟩
  | .local _ .vmem, ⟨7, _⟩ => ⟨S1x2048x768, .bf16⟩
  | .local _ .vmem, ⟨8, _⟩ => ⟨S1x2048x256, .bf16⟩
  | .local _ .vmem, ⟨9, _⟩ => ⟨S1x2048x256, .bf16⟩
  | .local _ .vmem, ⟨10, _⟩ => ⟨S1x768, .f32⟩
  | .local _ .vmem, ⟨11, _⟩ => ⟨S1x768, .f32⟩
  | .local _ .vmem, ⟨12, _⟩ => ⟨S1024x1024, .bf16⟩
  | .local _ .vmem, ⟨13, _⟩ => ⟨S1x2048x1024, .f32⟩
  | .local _ .vmem, ⟨14, _⟩ => ⟨S1x2048x1024, .f32⟩
  | _, _ => ⟨S8x4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x2048x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MixoutIdeal.lean ====
variable {F : FTy → Type} [FloatOps F] [Named F]
def κ : String → Option EReal := fun
  | "inv192" => some ((192⁻¹ : ℝ) : EReal)
  | _ => none
-- ==== MixoutRefIdeal.lean ====
abbrev S8x4096x768 : Shape := ⟨3, ![8, 4096, 768]⟩
abbrev S8x4096x256 : Shape := ⟨3, ![8, 4096, 256]⟩
abbrev S1x12 : Shape := ⟨2, ![1, 12]⟩
abbrev S1x768 : Shape := ⟨2, ![1, 768]⟩
abbrev S1x1024x1024 : Shape := ⟨3, ![1, 1024, 1024]⟩
abbrev S8x4096x12x64 : Shape := ⟨4, ![8, 4096, 12, 64]⟩
abbrev S12 : Shape := ⟨1, ![12]⟩
abbrev S12x1 : Shape := ⟨2, ![12, 1]⟩
abbrev S1x1x12x1 : Shape := ⟨4, ![1, 1, 12, 1]⟩
abbrev S_ : Shape := ⟨0, ![]⟩
abbrev S8x4096x4x192 : Shape := ⟨4, ![8, 4096, 4, 192]⟩
abbrev S768 : Shape := ⟨1, ![768]⟩
abbrev S4x192 : Shape := ⟨2, ![4, 192]⟩
abbrev S8x4096x4 : Shape := ⟨3, ![8, 4096, 4]⟩
abbrev S8x4096x4x1 : Shape := ⟨4, ![8, 4096, 4, 1]⟩
abbrev S1x1x4x192 : Shape := ⟨4, ![1, 1, 4, 192]⟩
abbrev S8x4096x1024 : Shape := ⟨3, ![8, 4096, 1024]⟩
abbrev S1024x1024 : Shape := ⟨2, ![1024, 1024]⟩

abbrev nBuf : Space → Nat
  | .hbm => 57
  | .vmem => 0
  | .smem => 0
  | _ => 0

abbrev bufTy : (tb : Table) → Fin (tcTables nBuf tb) → BufTy
  | .hbm, ⟨0, _⟩ => ⟨S8x4096x768, .bf16⟩
  | .hbm, ⟨1, _⟩ => ⟨S8x4096x768, .bf16⟩
  | .hbm, ⟨2, _⟩ => ⟨S8x4096x768, .bf16⟩
  | .hbm, ⟨3, _⟩ => ⟨S8x4096x768, .bf16⟩
  | .hbm, ⟨4, _⟩ => ⟨S8x4096x256, .bf16⟩
  | .hbm, ⟨5, _⟩ => ⟨S1x12, .f32⟩
  | .hbm, ⟨6, _⟩ => ⟨S1x768, .f32⟩
  | .hbm, ⟨7, _⟩ => ⟨S1x1024x1024, .f32⟩
  | .hbm, ⟨8, _⟩ => ⟨S8x4096x768, .f32⟩
  | .hbm, ⟨9, _⟩ => ⟨S8x4096x12x64, .f32⟩
  | .hbm, ⟨10, _⟩ => ⟨S8x4096x768, .f32⟩
  | .hbm, ⟨11, _⟩ => ⟨S8x4096x12x64, .f32⟩
  | .hbm, ⟨12, _⟩ => ⟨S8x4096x768, .f32⟩
  | .hbm, ⟨13, _⟩ => ⟨S8x4096x12x64, .f32⟩
  | .hbm, ⟨14, _⟩ => ⟨S8x4096x12x64, .f32⟩
  | .hbm, ⟨15, _⟩ => ⟨S12, .f32⟩
  | .hbm, ⟨16, _⟩ => ⟨S12x1, .f32⟩
  | .hbm, ⟨17, _⟩ => ⟨S1x1x12x1, .f32⟩
  | .hbm, ⟨18, _⟩ => ⟨S8x4096x12x64, .f32⟩
  | .hbm, ⟨19, _⟩ => ⟨S8x4096x12x64, .f32⟩
  | .hbm, ⟨20, _⟩ => ⟨S8x4096x12x64, .f32⟩
  | .hbm, ⟨21, _⟩ => ⟨S8x4096x768, .f32⟩
  | .hbm, ⟨22, _⟩ => ⟨S8x4096x768, .f32⟩
  | .hbm, ⟨23, _⟩ => ⟨S8x4096x768, .f32⟩
  | .hbm, ⟨24, _⟩ => ⟨S8x4096x768, .f32⟩
  | .hbm, ⟨25, _⟩ => ⟨S_, .f32⟩
  | .hbm, ⟨26, _⟩ => ⟨S8x4096x768, .f32⟩
  | .hbm, ⟨27, _⟩ => ⟨S8x4096x768, .f32⟩
  | .hbm, ⟨28, _⟩ => ⟨S_, .f32⟩
  | .hbm, ⟨29, _⟩ => ⟨S8x4096x768, .f32⟩
  | .hbm, ⟨30, _⟩ => ⟨S8x4096x768, .f32⟩
  | .hbm, ⟨31, _⟩ => ⟨S8x4096x768, .f32⟩
  | .hbm, ⟨32, _⟩ => ⟨S8x4096x768, .f32⟩
  | .hbm, ⟨33, _⟩ => ⟨S8x4096x4x192, .f32⟩
  | .hbm, ⟨34, _⟩ => ⟨S768, .f32⟩
  | .hbm, ⟨35, _⟩ => ⟨S4x192, .f32⟩
  | .hbm, ⟨36, _⟩ => ⟨S8x4096x4x192, .f32⟩
  | .hbm, ⟨37, _⟩ => ⟨S_, .f32⟩
  | .hbm, ⟨38, _⟩ => ⟨S8x4096x4, .f32⟩
  | .hbm, ⟨39, _⟩ => ⟨S8x4096x4x1, .f32⟩
  | .hbm, ⟨40, _⟩ => ⟨S_, .f32⟩
  | .hbm, ⟨41, _⟩ => ⟨S8x4096x4x1, .f32⟩
  | .hbm, ⟨42, _⟩ => ⟨S8x4096x4x1, .f32⟩
  | .hbm, ⟨43, _⟩ => ⟨S_, .f32⟩
  | .hbm, ⟨44, _⟩ => ⟨S8x4096x4x1, .f32⟩
  | .hbm, ⟨45, _⟩ => ⟨S8x4096x4x1, .f32⟩
  | .hbm, ⟨46, _⟩ => ⟨S8x4096x4x1, .f32⟩
  | .hbm, ⟨47, _⟩ => ⟨S8x4096x4x192, .f32⟩
  | .hbm, ⟨48, _⟩ => ⟨S8x4096x4x192, .f32⟩
  | .hbm, ⟨49, _⟩ => ⟨S1x1x4x192, .f32⟩
  | .hbm, ⟨50, _⟩ => ⟨S8x4096x4x192, .f32⟩
  | .hbm, ⟨51, _⟩ => ⟨S8x4096x4x192, .f32⟩
  | .hbm, ⟨52, _⟩ => ⟨S8x4096x768, .f32⟩
  | .hbm, ⟨53, _⟩ => ⟨S8x4096x256, .f32⟩
  | .hbm, ⟨54, _⟩ => ⟨S8x4096x1024, .f32⟩
  | .hbm, ⟨55, _⟩ => ⟨S1024x1024, .f32⟩
  | .hbm, ⟨56, _⟩ => ⟨S8x4096x1024, .f32⟩
  | _, _ => ⟨S8x4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst : Ref sig .tc := ⟨.hbm, 37, rfl⟩
abbrev main_v21 : Ref sig .tc := ⟨.hbm, 38, rfl⟩
abbrev main_v22 : Ref sig .tc := ⟨.hbm, 39, rfl⟩
abbrev main_cst_0 : Ref sig .tc := ⟨.hbm, 40, rfl⟩
abbrev main_v23 : Ref sig .tc := ⟨.hbm, 41, rfl⟩
abbrev main_v24 : Ref sig .tc := ⟨.hbm, 42, rfl⟩
abbrev main_cst_1 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩

abbrev nD : Nat := 1
abbrev τ : Topo := Topo.v7x

variable {F : FTy → Type} [FloatOps F]
-- ==== Mod.lean ====
abbrev S8x1024 : Shape := ⟨2, ![8, 1024]⟩
abbrev S1024 : Shape := ⟨1, ![1024]⟩
abbrev S1x1024x9216 : Shape := ⟨3, ![1, 1024, 9216]⟩
abbrev S1x9216 : Shape := ⟨2, ![1, 9216]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S1024x9216 : Shape := ⟨2, ![1024, 9216]⟩
abbrev S9216 : Shape := ⟨1, ![9216]⟩
abbrev S16x9216 : Shape := ⟨2, ![16, 9216]⟩
abbrev S1024x1024 : Shape := ⟨2, ![1024, 1024]⟩

abbrev nBuf : Space → Nat
  | .hbm => 12
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S1x1024x9216, .f32⟩
  | .hbm, ⟨3, _⟩ => ⟨S1x9216, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S1024x9216, .f32⟩
  | .hbm, ⟨9, _⟩ => ⟨S9216, .f32⟩
  | .hbm, ⟨10, _⟩ => ⟨S1x9216, .f32⟩
  | .hbm, ⟨11, _⟩ => ⟨S16x9216, .f32⟩
  | .local _ .vmem, ⟨0, _⟩ => ⟨S16x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S16x1024, .f32⟩
  | .local _ .vmem, ⟨6, _⟩ => ⟨S16x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModRefIdeal.lean ====
abbrev S8x1024 : Shape := ⟨2, ![8, 1024]⟩
abbrev S1024 : Shape := ⟨1, ![1024]⟩
abbrev S1x1024x9216 : Shape := ⟨3, ![1, 1024, 9216]⟩
abbrev S1x9216 : Shape := ⟨2, ![1, 9216]⟩
abbrev S_ : Shape := ⟨0, ![]⟩
abbrev S1024x9216 : Shape := ⟨2, ![1024, 9216]⟩
abbrev S8x9216 : Shape := ⟨2, ![8, 9216]⟩
abbrev S9216 : Shape := ⟨1, ![9216]⟩
abbrev S7x9216 : Shape := ⟨2, ![7, 9216]⟩
abbrev S16x9216 : Shape := ⟨2, ![16, 9216]⟩

abbrev nBuf : Space → Nat
  | .hbm => 36
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S1x1024x9216, .f32⟩
  | .hbm, ⟨3, _⟩ => ⟨S1x9216, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S1024x9216, .f32⟩
  | .hbm, ⟨14, _⟩ => ⟨S8x9216, .f32⟩
  | .hbm, ⟨15, _⟩ => ⟨S9216, .f32⟩
  | .hbm, ⟨16, _⟩ => ⟨S1x9216, .f32⟩
  | .hbm, ⟨17, _⟩ => ⟨S8x9216, .f32⟩
  | .hbm, ⟨18, _⟩ => ⟨S8x9216, .f32⟩
  | .hbm, ⟨19, _⟩ => ⟨S1024, .f32⟩
  | .hbm, ⟨20, _⟩ => ⟨S1024, .f32⟩
  | .hbm, ⟨21, _⟩ => ⟨S_, .f32⟩
  | .hbm, ⟨22, _⟩ => ⟨S1024, .f32⟩
  | .hbm, ⟨23, _⟩ => ⟨S1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S1024, .f32⟩
  | .hbm, ⟨28, _⟩ => ⟨S1024x9216, .f32⟩
  | .hbm, ⟨29, _⟩ => ⟨S9216, .f32⟩
  | .hbm, ⟨30, _⟩ => ⟨S9216, .f32⟩
  | .hbm, ⟨31, _⟩ => ⟨S9216, .f32⟩
  | .hbm, ⟨32, _⟩ => ⟨S1x9216, .f32⟩
  | .hbm, ⟨33, _⟩ => ⟨S9216, .f32⟩
  | .hbm, ⟨34, _⟩ => ⟨S7x9216, .f32⟩
  | .hbm, ⟨35, _⟩ => ⟨S16x9216, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_call1_v0 : Ref sig .tc := ⟨.hbm, 19, rfl⟩
abbrev main_call1_v1 : Ref sig .tc := ⟨.hbm, 20, rfl⟩
abbrev main_call1_cst : Ref sig .tc := ⟨.hbm, 21, rfl⟩
abbrev main_call1_v2 : Ref sig .tc := ⟨.hbm, 22, rfl⟩
abbrev main_call1_v3 : Ref sig .tc := ⟨.hbm, 23, rfl⟩
abbrev main_call1_cst_0 : Ref sig .tc := ⟨.hbm, 24, rfl⟩
abbrev main_call1_v4 : Ref sig .tc := ⟨.hbm, 25, rfl⟩
abbrev main_call1_v5 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩

abbrev nD : Nat := 1
abbrev τ : Topo := Topo.v7x

variable {F : FTy → Type} [FloatOps F]
-- ==== Proof.StateFrame.lean ====
/-
  The claims about the state scan other than its value: the frames of its three programs, and what its idealization
  changes, the constant 1/log 2.
-/
module

public import proofs.«01_k».proof.Defs
public import proofs.«01_k».proof.Proof.Gen.State.Frame
public import proofs.«01_k».proof.Proof.Gen.StateIdeal.Frame
public import proofs.«01_k».proof.Proof.Gen.StateRefIdeal.Run
public import Idealize.ShloMosaic.Lib.Quiescent

@[expose] public section

noncomputable section

namespace Cert.StateClaim

open Idealize.ShloMosaic Idealize.ShloMosaic.TcCoe Idealize.SL.Sem

/-- The kernel leaves its arguments, ends and leaves every semaphore at zero. -/
theorem frame : Cert.quiescent_State := fun m ρ _ => Cert.State.Gen.frame m ρ

/-- So does its idealization. -/
theorem frame_ideal : Cert.quiescent_StateIdeal := fun m ρ _ => Cert.StateIdeal.Gen.frame m ρ

/-- So does the reference. -/
theorem frame_ref : Cert.quiescent_StateRefIdeal := fun m ρ _ =>
  (θ_run Cert.StateRefIdeal.defs _ _).mono (fun r h => ⟨fun c => (h c).2, sem_eq_zero_of_no_sems (by decide) r.2⟩)
    (Cert.StateRefIdeal.Value.run (F := Ideal) m ρ)

/-- The named constant is `1 / log 2` to the literal's precision. -/
theorem preserves : Cert.preserves_State_StateIdeal :=
  IdealRules.named_const.statement Cert.StateIdeal.κ "log2e" .f32 0x3FB8AA3B#32 (((Real.log 2)⁻¹ : ℝ) : EReal) rfl

end Cert.StateClaim

end
-- ==== Proof.StateTile.lean ====
/-
  What the state kernel's body leaves in its output block for one batch: two chunks of 128 steps in each direction,
  every chunk the same computation of a state from a state.
-/
module

public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.Gen.StateIdeal.Value

@[expose] public section

set_option maxRecDepth 16384

noncomputable section

namespace Cert.StateIdeal.Gen

open Idealize.ShloMosaic Idealize.ShloMosaic.TcCoe Idealize.SL.Sem

/-- The group of 128 input columns with the other head's columns set to zero, one head above the other. -/
def heads (x : FVec Ideal S128x128 .bf16) : FVec Ideal S256x128 .bf16 :=
  concatenate S256x128 0
    [⟨S128x128, select (broadcastTo S128x128 (shapeCast S1x128 k0_pay40 shapeCasts_S1x128_S1x128) broadcasts_S1x128_S128x128) x
        (broadcast S128x128 (Scalar.ofBits .bf16 0x0000#16))⟩,
      ⟨S128x128, select (broadcastTo S128x128 (shapeCast S1x128 k0_pay40 shapeCasts_S1x128_S1x128) broadcasts_S1x128_S128x128)
        (broadcast S128x128 (Scalar.ofBits .bf16 0x0000#16)) x⟩]
    concatenates_S128x128_S128x128_S256x128_d0

/-- What a pair of heads adds to its 128 columns of the state: weights `wa`, `wb` along the steps, keys `ba`, `bb`. -/
def pair (ba bb : FVec Ideal S128x128 .bf16) (wa wb : FVec Ideal S1x128 .bf16) (x : FVec Ideal S128x128 .bf16) : FVec Ideal S128x128 .f32 :=
  matmul dot_S128x256_S256x128_S128x128_1_0_0_1_n_n none
    (concatenate S128x256 1 [⟨S128x128, mulf ba (broadcastTo S128x128 wa broadcasts_S1x128_S128x128)⟩,
      ⟨S128x128, mulf bb (broadcastTo S128x128 wb broadcasts_S1x128_S128x128)⟩] concatenates_S128x128_S128x128_S128x256_d1)
    (heads x) (constant S128x128 .f32 0x00000000#32)

/-- The decay of a pair of heads over the chunk, laid along the pair's 128 columns. -/
def decay (ea eb : FVec Ideal S8x1 .f32) : FVec Ideal S1x128 .f32 :=
  extractStridedSlice S1x128 ![0, 0]
    (select (broadcastTo S8x128 (shapeCast S1x128 k0_pay40 shapeCasts_S1x128_S1x128) broadcasts_S1x128_S8x128)
      (broadcastTo S8x128 (shapeCast S8x1 ea shapeCasts_S8x1_S8x1) broadcasts_S8x1_S8x128)
      (broadcastTo S8x128 (shapeCast S8x1 eb shapeCasts_S8x1_S8x1) broadcasts_S8x1_S8x128)) slices_S8x128_o0_0_S1x128

/-- One chunk: keys `b`, inputs `x`, weights `w` of the steps, decays `e` over the chunk, the state `h` before it. -/
def chunk (b : Vec Ideal S1x128x512 .bf16) (x : Vec Ideal S1x128x768 .bf16) (w : FVec Ideal S16x128 .bf16) (e : FVec Ideal S8x128 .f32)
    (h : FVec Ideal S128x768 .f32) : FVec Ideal S128x768 .f32 :=
  addf (mulf h (broadcastTo S128x768 (concatenate S1x768 1
      [⟨S1x128, decay (extractStridedSlice S8x1 ![0, 0] e slices_S8x128_o0_0_S8x1) (extractStridedSlice S8x1 ![0, 1] e slices_S8x128_o0_1_S8x1)⟩,
       ⟨S1x128, decay (extractStridedSlice S8x1 ![0, 2] e slices_S8x128_o0_2_S8x1) (extractStridedSlice S8x1 ![0, 3] e slices_S8x128_o0_3_S8x1)⟩,
       ⟨S1x128, decay (extractStridedSlice S8x1 ![0, 4] e slices_S8x128_o0_4_S8x1) (extractStridedSlice S8x1 ![0, 5] e slices_S8x128_o0_5_S8x1)⟩,
       ⟨S1x128, decay (extractStridedSlice S8x1 ![0, 6] e slices_S8x128_o0_6_S8x1) (extractStridedSlice S8x1 ![0, 7] e slices_S8x128_o0_7_S8x1)⟩,
       ⟨S1x128, decay (extractStridedSlice S8x1 ![0, 8] e slices_S8x128_o0_8_S8x1) (extractStridedSlice S8x1 ![0, 9] e slices_S8x128_o0_9_S8x1)⟩,
       ⟨S1x128, decay (extractStridedSlice S8x1 ![0, 10] e slices_S8x128_o0_10_S8x1) (extractStridedSlice S8x1 ![0, 11] e slices_S8x128_o0_11_S8x1)⟩]
      concatenates_S1x128_S1x128_S1x128_S1x128_S1x128_S1x128_S1x768_d1) broadcasts_S1x768_S128x768))
    (concatenate S128x768 1
      [⟨S128x128, pair (k0_pay36 b) (k0_pay36 b) (extractStridedSlice S1x128 ![0, 0] w slices_S16x128_o0_0_S1x128) (extractStridedSlice S1x128 ![1, 0] w slices_S16x128_o1_0_S1x128) (extractStridedSlice S128x128 ![0, 0] (k0_pay32 x) slices_S128x768_o0_0_S128x128)⟩,
       ⟨S128x128, pair (k0_pay36 b) (k0_pay37 b) (extractStridedSlice S1x128 ![2, 0] w slices_S16x128_o2_0_S1x128) (extractStridedSlice S1x128 ![3, 0] w slices_S16x128_o3_0_S1x128) (extractStridedSlice S128x128 ![0, 128] (k0_pay32 x) slices_S128x768_o0_128_S128x128)⟩,
       ⟨S128x128, pair (k0_pay37 b) (k0_pay37 b) (extractStridedSlice S1x128 ![4, 0] w slices_S16x128_o4_0_S1x128) (extractStridedSlice S1x128 ![5, 0] w slices_S16x128_o5_0_S1x128) (extractStridedSlice S128x128 ![0, 256] (k0_pay32 x) slices_S128x768_o0_256_S128x128)⟩,
       ⟨S128x128, pair (k0_pay38 b) (k0_pay38 b) (extractStridedSlice S1x128 ![6, 0] w slices_S16x128_o6_0_S1x128) (extractStridedSlice S1x128 ![7, 0] w slices_S16x128_o7_0_S1x128) (extractStridedSlice S128x128 ![0, 384] (k0_pay32 x) slices_S128x768_o0_384_S128x128)⟩,
       ⟨S128x128, pair (k0_pay38 b) (k0_pay39 b) (extractStridedSlice S1x128 ![8, 0] w slices_S16x128_o8_0_S1x128) (extractStridedSlice S1x128 ![9, 0] w slices_S16x128_o9_0_S1x128) (extractStridedSlice S128x128 ![0, 512] (k0_pay32 x) slices_S128x768_o0_512_S128x128)⟩,
       ⟨S128x128, pair (k0_pay39 b) (k0_pay39 b) (extractStridedSlice S1x128 ![10, 0] w slices_S16x128_o10_0_S1x128) (extractStridedSlice S1x128 ![11, 0] w slices_S16x128_o11_0_S1x128) (extractStridedSlice S128x128 ![0, 640] (k0_pay32 x) slices_S128x768_o0_640_S128x128)⟩]
      concatenates_S128x128_S128x128_S128x128_S128x128_S128x128_S128x128_S128x768_d1)

/-- One forward chunk, from its steps `dt` and their running log decays `cs`. -/
def chunkF (b : Vec Ideal S1x128x512 .bf16) (x : Vec Ideal S1x128x768 .bf16) (dt cs : FVec Ideal S16x128 .f32) (h : FVec Ideal S128x768 .f32) :
    FVec Ideal S128x768 .f32 := chunk b x (k0_pay34 dt cs) (k0_pay35 cs) h

/-- One backward chunk: the running log decays end at the chunk's first step. -/
def chunkB (b : Vec Ideal S1x128x512 .bf16) (x : Vec Ideal S1x128x768 .bf16) (dt cs : FVec Ideal S16x128 .f32) (h : FVec Ideal S128x768 .f32) :
    FVec Ideal S128x768 .f32 := chunk b x (k0_pay64 dt (k0_pay62 cs) (k0_pay63 cs)) (k0_pay65 (k0_pay62 cs)) h

/-- The forward running log decays of both chunks, from the decay rates and the steps. -/
def csF0 (al va : Vec Ideal S2x16x128 .f32) (dt : Vec Ideal S1x32x256 .f32) : FVec Ideal S16x128 .f32 :=
  k0_pay21 k0_pay7 (k0_pay13 al va dt) (k0_pay15 al va dt) (k0_pay16 al va dt) (k0_pay17 al va dt) (k0_pay18 al va dt) (k0_pay19 al va dt)
/-- The second chunk's. -/
def csF1 (al va : Vec Ideal S2x16x128 .f32) (dt : Vec Ideal S1x32x256 .f32) : FVec Ideal S16x128 .f32 :=
  k0_pay22 k0_pay7 (k0_pay13 al va dt) (k0_pay15 al va dt) (k0_pay16 al va dt) (k0_pay17 al va dt) (k0_pay18 al va dt) (k0_pay19 al va dt)

/-- The forward direction's row of a two-direction state. -/
def row0 (h : Vec Ideal S2x128x768 .f32) : Vec Ideal S1x128x768 .f32 := View.ld h (Rect.unit ![0, 0, 0] ![1, 128, 768] inb_S2x128x768_S1x128x768_0_0_0)
/-- The backward direction's row. -/
def row1 (h : Vec Ideal S2x128x768 .f32) : Vec Ideal S1x128x768 .f32 := View.ld h (Rect.unit ![1, 0, 0] ![1, 128, 768] inb_S2x128x768_S1x128x768_1_0_0)

/-- The output block read back from the state after the two directions' last stores, `hb` and `hf`, over the initial state `h`. -/
def stored (hb hf : FVec Ideal S128x768 .f32) (h : FVec Ideal S2x128x768 .f32) : Vec Ideal S1x2x128x768 .f32 :=
  k0_pay3 (F := Ideal) fun j => View.canon (Val := Elt Ideal) (e := EltTy.f32)
    [⟨Rect.unit ![1, 0, 0] ![1, 128, 768] inb_S2x128x768_S1x128x768_1_0_0, k0_pay2 hb⟩,
     ⟨Rect.unit ![0, 0, 0] ![1, 128, 768] inb_S2x128x768_S1x128x768_0_0_0, k0_pay1 hf⟩,
     ⟨Rect.unit ![0, 0, 0] ![2, 128, 768] inb_S2x128x768_S2x128x768_0_0_0, h⟩]
    ((Rect.unit (s := S2x128x768) ![0, 0, 0] ![2, 128, 768] inb_S2x128x768_S2x128x768_0_0_0).toLoadRect.idx j)

/-- The forward direction's state after both chunks, from the chunks' keys and inputs. -/
def finalF (b0 b1 : Vec Ideal S1x128x512 .bf16) (x0 x1 : Vec Ideal S1x128x768 .bf16) (dt : Vec Ideal S1x32x256 .f32)
    (h0 : Vec Ideal S1x2x128x768 .f32) (al va : Vec Ideal S2x16x128 .f32) : FVec Ideal S128x768 .f32 :=
  chunkF b1 x1 (k0_pay11 dt) (csF1 al va dt) (chunkF b0 x0 (k0_pay10 dt) (csF0 al va dt) (k0_pay29 (row0 (k0_pay4 h0))))

/-- The backward direction's, which takes the second chunk first. -/
def finalB (b0 b1 : Vec Ideal S1x128x512 .bf16) (x0 x1 : Vec Ideal S1x128x768 .bf16) (dt : Vec Ideal S1x32x256 .f32)
    (h0 : Vec Ideal S1x2x128x768 .f32) (al va : Vec Ideal S2x16x128 .f32) : FVec Ideal S128x768 .f32 :=
  chunkB b0 x0 (k0_pay24 dt) (k0_pay27 (k0_pay5 al va) k0_pay6 dt)
    (chunkB b1 x1 (k0_pay25 dt) (k0_pay28 (k0_pay5 al va) k0_pay6 dt) (k0_pay30 (row1 (k0_pay4 h0))))

variable (m : (ℓ : Loc nD τ sig) → Buf (Elt Ideal) ℓ)

/-- The body leaves the two directions' states of what it loads in its output block. -/
theorem outs_raw (c : Dev nD) (t : Fin cfg0.N) (h1 : (ms0_1 t).IsWhole) (h2 : (ms0_2 t).IsWhole) (h3 : (ms0_3 t).IsWhole) (h5 : (ms0_5 t).IsWhole) (h6 : (ms0_6 t).IsWhole) (h7 : (ms0_7 t).IsWhole) (h8 : (ms0_8 t).IsWhole) (h9 : (ms0_9 t).IsWhole) (h10 : (ms0_10 t).IsWhole) :
    outsAt0 m c t = stored (finalB (View.readAt (Elt Ideal) (ms0_5 t).view (Rect.unit (s := S1x256x512) ![0, 0, 0] ![1, 128, 512] inb_S1x256x512_S1x128x512_0_0_0).toLoadRect (h5.unread (iblk m c 5 t)))
      (View.readAt (Elt Ideal) (ms0_5 t).view (Rect.unit (s := S1x256x512) ![0, 128, 0] ![1, 128, 512] inb_S1x256x512_S1x128x512_0_128_0).toLoadRect (h5.unread (iblk m c 5 t)))
      (View.readAt (Elt Ideal) (ms0_6 t).view (Rect.unit (s := S1x256x768) ![0, 0, 0] ![1, 128, 768] inb_S1x256x768_S1x128x768_0_0_0).toLoadRect (h6.unread (iblk m c 6 t)))
      (View.readAt (Elt Ideal) (ms0_6 t).view (Rect.unit (s := S1x256x768) ![0, 128, 0] ![1, 128, 768] inb_S1x256x768_S1x128x768_0_128_0).toLoadRect (h6.unread (iblk m c 6 t)))
      (View.readAt (Elt Ideal) (ms0_7 t).view (Rect.unit (s := S1x32x256) ![0, 0, 0] S1x32x256.size inb_S1x32x256_S1x32x256_0_0_0).toLoadRect (h7.unread (iblk m c 7 t)))
      (View.readAt (Elt Ideal) (ms0_8 t).view (Rect.unit (s := S1x2x128x768) ![0, 0, 0, 0] S1x2x128x768.size inb_S1x2x128x768_S1x2x128x768_0_0_0_0).toLoadRect (h8.unread (iblk m c 8 t)))
      (View.readAt (Elt Ideal) (ms0_9 t).view (Rect.unit (s := S2x16x128) ![0, 0, 0] S2x16x128.size inb_S2x16x128_S2x16x128_0_0_0).toLoadRect (h9.unread (iblk m c 9 t)))
      (View.readAt (Elt Ideal) (ms0_10 t).view (Rect.unit (s := S2x16x128) ![0, 0, 0] S2x16x128.size inb_S2x16x128_S2x16x128_0_0_0).toLoadRect (h10.unread (iblk m c 10 t))))
      (finalF (View.readAt (Elt Ideal) (ms0_1 t).view (Rect.unit (s := S1x256x512) ![0, 0, 0] ![1, 128, 512] inb_S1x256x512_S1x128x512_0_0_0).toLoadRect (h1.unread (iblk m c 1 t)))
      (View.readAt (Elt Ideal) (ms0_1 t).view (Rect.unit (s := S1x256x512) ![0, 128, 0] ![1, 128, 512] inb_S1x256x512_S1x128x512_0_128_0).toLoadRect (h1.unread (iblk m c 1 t)))
      (View.readAt (Elt Ideal) (ms0_2 t).view (Rect.unit (s := S1x256x768) ![0, 0, 0] ![1, 128, 768] inb_S1x256x768_S1x128x768_0_0_0).toLoadRect (h2.unread (iblk m c 2 t)))
      (View.readAt (Elt Ideal) (ms0_2 t).view (Rect.unit (s := S1x256x768) ![0, 128, 0] ![1, 128, 768] inb_S1x256x768_S1x128x768_0_128_0).toLoadRect (h2.unread (iblk m c 2 t)))
      (View.readAt (Elt Ideal) (ms0_3 t).view (Rect.unit (s := S1x32x256) ![0, 0, 0] S1x32x256.size inb_S1x32x256_S1x32x256_0_0_0).toLoadRect (h3.unread (iblk m c 3 t)))
      (View.readAt (Elt Ideal) (ms0_8 t).view (Rect.unit (s := S1x2x128x768) ![0, 0, 0, 0] S1x2x128x768.size inb_S1x2x128x768_S1x2x128x768_0_0_0_0).toLoadRect (h8.unread (iblk m c 8 t)))
      (View.readAt (Elt Ideal) (ms0_9 t).view (Rect.unit (s := S2x16x128) ![0, 0, 0] S2x16x128.size inb_S2x16x128_S2x16x128_0_0_0).toLoadRect (h9.unread (iblk m c 9 t)))
      (View.readAt (Elt Ideal) (ms0_10 t).view (Rect.unit (s := S2x16x128) ![0, 0, 0] S2x16x128.size inb_S2x16x128_S2x16x128_0_0_0).toLoadRect (h10.unread (iblk m c 10 t)))) (k0_pay4 (View.readAt (Elt Ideal) (ms0_8 t).view (Rect.unit (s := S1x2x128x768) ![0, 0, 0, 0] S1x2x128x768.size inb_S1x2x128x768_S1x2x128x768_0_0_0_0).toLoadRect (h8.unread (iblk m c 8 t)))) := by
  unfold outsAt0
  frame_open
  simp (disch := decide) only [↓ View.readCov_skip, ↓ View.readCov_cons_toLoadRect, ↓ View.readCov_fill]
  rw [View.read_writes_junk_eq_canon]
  rw [View.canon_cons_unit_lit _ _ _ (by decide), View.readCov_eq_canon']
  refine Eq.trans (b := stored _ _ _) rfl ?_
  refine congr (congrArg₂ stored ?_ ?_) ?_
  · simp only [finalB, chunkB, chunk, pair, heads, decay, row1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149]
  · simp only [finalF, chunkF, chunk, pair, heads, decay, csF0, csF1, row0, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149]
  · rfl

/-- The same of its input blocks. -/
theorem outs_eq (c : Dev nD) (t : Fin cfg0.N) :
    outsAt0 m c t = stored (finalB (View.ld (iblk m c 5 t) (Rect.unit ![0, 0, 0] ![1, 128, 512] inb_S1x256x512_S1x128x512_0_0_0))
      (View.ld (iblk m c 5 t) (Rect.unit ![0, 128, 0] ![1, 128, 512] inb_S1x256x512_S1x128x512_0_128_0))
      (View.ld (iblk m c 6 t) (Rect.unit ![0, 0, 0] ![1, 128, 768] inb_S1x256x768_S1x128x768_0_0_0))
      (View.ld (iblk m c 6 t) (Rect.unit ![0, 128, 0] ![1, 128, 768] inb_S1x256x768_S1x128x768_0_128_0))
      (iblk m c 7 t) (iblk m c 8 t) (iblk m c 9 t) (iblk m c 10 t))
      (finalF (View.ld (iblk m c 1 t) (Rect.unit ![0, 0, 0] ![1, 128, 512] inb_S1x256x512_S1x128x512_0_0_0))
      (View.ld (iblk m c 1 t) (Rect.unit ![0, 128, 0] ![1, 128, 512] inb_S1x256x512_S1x128x512_0_128_0))
      (View.ld (iblk m c 2 t) (Rect.unit ![0, 0, 0] ![1, 128, 768] inb_S1x256x768_S1x128x768_0_0_0))
      (View.ld (iblk m c 2 t) (Rect.unit ![0, 128, 0] ![1, 128, 768] inb_S1x256x768_S1x128x768_0_128_0))
      (iblk m c 3 t) (iblk m c 8 t) (iblk m c 9 t) (iblk m c 10 t)) (k0_pay4 (iblk m c 8 t)) := by
  rw [outs_raw m c t (hstage0_1 _) (hstage0_2 _) (hstage0_3 _) (hstage0_5 _) (hstage0_6 _) (hstage0_7 _) (hstage0_8 _) (hstage0_9 _) (hstage0_10 _)]
  simp (disch := decide) only [View.readAt_eq_ld, Memref.IsWhole.read_unread, View.ld_unit_lit']
  rfl
end Cert.StateIdeal.Gen
end
-- ==== Proof.Scan.lean ====
/-
  The arithmetic of one entry of the recurrent state after 256 steps, over the extended reals: no array and no program occurs
  here. A step adds its weighted key times its input; its weight is its size times the decay over the steps between it and the end.
  Both the kernel, which takes two chunks of 128 steps one after the other, and the reference are shown to compute it.
-/
module

public import Idealize.ShloMosaic.Lib.Pointwise

@[expose] public section

noncomputable section

namespace Cert.Scan

open Idealize.ShloMosaic

/-- Step `k` of the first chunk among the 256. -/
abbrev lo (k : Fin 128) : Fin 256 := ⟨k.val, by omega⟩
/-- Step `k` of the second chunk among the 256. -/
abbrev hi (k : Fin 128) : Fin 256 := ⟨128 + k.val, by omega⟩

/-- The sum of the terms after `i`. -/
def later {n : Nat} (u : Fin n → ℝ) (i : Fin n) : ℝ := ∑ k, if i < k then u k else 0
/-- The sum of the terms before `i`. -/
def earlier {n : Nat} (u : Fin n → ℝ) (i : Fin n) : ℝ := ∑ k, if k < i then u k else 0

/-- The entry of the state that keys `b` and inputs `x` leave with weights `w` of the steps. -/
def state (b x : Fin 256 → EReal) (w : Fin 256 → ℝ) : EReal := ∑ l, x l * (w l : EReal) * b l

/-- The weights of the steps `d` at the rate `a`, the decay running to the last step. -/
def fwd (d : Fin 256 → ℝ) (a : ℝ) (l : Fin 256) : ℝ := d l * Real.exp (later (fun k => d k * a) l)
/-- The weights, the decay running to the first step. -/
def bwd (d : Fin 256 → ℝ) (a : ℝ) (l : Fin 256) : ℝ := d l * Real.exp (earlier (fun k => d k * a) l)

/-- That entry at the rate `a`, which is real or the negative infinity; at that rate no step leaves anything. -/
def reach (b x : Fin 256 → EReal) (w : (Fin 256 → ℝ) → ℝ → Fin 256 → ℝ) (d : Fin 256 → ℝ) (a : EReal) : EReal :=
  if a = ⊥ then 0 else state b x (w d a.toReal)

theorem reach_coe (b x : Fin 256 → EReal) (w : (Fin 256 → ℝ) → ℝ → Fin 256 → ℝ) (d : Fin 256 → ℝ) (a : ℝ) :
    reach b x w d a = state b x (w d a) := by
  rw [reach, if_neg (EReal.coe_ne_bot a), EReal.toReal_coe]

theorem reach_bot (b x : Fin 256 → EReal) (w : (Fin 256 → ℝ) → ℝ → Fin 256 → ℝ) (d : Fin 256 → ℝ) : reach b x w d ⊥ = 0 :=
  if_pos rfl

/-- The state of batch `p` in direction `q`, at row `n` and column `c`: the keys of the column's group, the inputs of the column,
    the steps and the rate of the column's head. -/
def entry (b : Fin 8 → Fin 256 → Fin 512 → EReal) (x : Fin 8 → Fin 256 → Fin 768 → EReal) (t : Fin 8 → Fin 32 → Fin 256 → EReal)
    (al : Fin 2 → Fin 12 → EReal) (p : Fin 8) (q : Fin 2) (n : Fin 128) (c : Fin 768) : EReal :=
  reach (fun l => b p l ⟨128 * (c.val / 192) + n.val, by omega⟩) (fun l => x p l c) (if q = 0 then fwd else bwd)
    (fun l => (t p ⟨12 * q.val + c.val / 64, by omega⟩ l).toReal) (0 - Ideal.exp (al q ⟨c.val / 64, by omega⟩))

/-- A sum over 256 steps is the sum over both chunks. -/
theorem sum_chunks {M : Type} [AddCommMonoid M] (f : Fin 256 → M) : ∑ k, f k = (∑ k, f (lo k)) + ∑ k, f (hi k) :=
  Fin.sum_univ_add (M := M) (a := 128) (b := 128) f

/-- The terms up to the end less the terms up to `i` are the terms after `i`. -/
theorem total_sub_upto {n : Nat} (u : Fin n → ℝ) (i : Fin n) : (∑ k, u k) - (∑ k, if k ≤ i then u k else 0) = later u i := by
  rw [later, ← Finset.sum_sub_distrib]
  refine Finset.sum_congr rfl fun k _ => ?_
  by_cases h : k ≤ i
  · rw [if_pos h, if_neg (not_lt.2 h), sub_self]
  · rw [if_neg h, if_pos (not_le.1 h), sub_zero]

/-- The terms from the start on less the terms from `i` on are the terms before `i`. -/
theorem total_sub_from {n : Nat} (u : Fin n → ℝ) (i : Fin n) : (∑ k, u k) - (∑ k, if i ≤ k then u k else 0) = earlier u i := by
  rw [earlier, ← Finset.sum_sub_distrib]
  refine Finset.sum_congr rfl fun k _ => ?_
  by_cases h : i ≤ k
  · rw [if_pos h, if_neg (not_lt.2 h), sub_self]
  · rw [if_neg h, if_pos (not_le.1 h), sub_zero]

/-- The terms up to the last step of a chunk are all of them. -/
theorem upto_last (u : Fin 128 → ℝ) : (∑ k, if k ≤ 127 then u k else 0) = ∑ k, u k :=
  Finset.sum_congr rfl fun k _ => if_pos (Fin.le_last k)
/-- The terms from the first step of a chunk on are all of them. -/
theorem from_first (u : Fin 128 → ℝ) : (∑ k, if 0 ≤ k then u k else 0) = ∑ k, u k :=
  Finset.sum_congr rfl fun k _ => if_pos (Fin.zero_le k)

theorem later_lo (u : Fin 256 → ℝ) (k : Fin 128) : later u (lo k) = later (fun j => u (lo j)) k + ∑ j, u (hi j) := by
  rw [later, sum_chunks]
  refine congrArg₂ (· + ·) rfl (Finset.sum_congr rfl fun j _ => if_pos ?_)
  show k.val < 128 + j.val
  omega

theorem later_hi (u : Fin 256 → ℝ) (k : Fin 128) : later u (hi k) = later (fun j => u (hi j)) k := by
  rw [later, sum_chunks, Finset.sum_eq_zero (fun j _ => if_neg ?_), zero_add]
  · refine Finset.sum_congr rfl fun j _ => if_congr ?_ rfl rfl
    show 128 + k.val < 128 + j.val ↔ k.val < j.val
    omega
  · show ¬ 128 + k.val < j.val
    omega

theorem earlier_lo (u : Fin 256 → ℝ) (k : Fin 128) : earlier u (lo k) = earlier (fun j => u (lo j)) k := by
  rw [earlier, sum_chunks, Finset.sum_eq_zero (s := Finset.univ) (f := fun j : Fin 128 => if hi j < lo k then u (hi j) else 0)
    (fun j _ => if_neg ?_), add_zero]
  · rfl
  · show ¬ 128 + j.val < k.val
    omega

theorem earlier_hi (u : Fin 256 → ℝ) (k : Fin 128) : earlier u (hi k) = earlier (fun j => u (hi j)) k + ∑ j, u (lo j) := by
  rw [earlier, sum_chunks, add_comm]
  refine congrArg₂ (· + ·) (Finset.sum_congr rfl fun j _ => if_congr ?_ rfl rfl) (Finset.sum_congr rfl fun j _ => if_pos ?_)
  · show 128 + j.val < 128 + k.val ↔ j.val < k.val
    omega
  · show j.val < 128 + k.val
    omega

/-- A positive real factor goes through a sum. -/
theorem sum_mul_exp {n : Nat} (f : Fin n → EReal) (r : ℝ) : (∑ k, f k) * (Real.exp r : EReal) = ∑ k, f k * (Real.exp r : EReal) := by
  have h0 : (0 : EReal) ≤ (Real.exp r : EReal) := EReal.coe_nonneg.2 (Real.exp_pos r).le
  let φ : EReal →+ EReal :=
    { toFun := fun y => y * (Real.exp r : EReal), map_zero' := zero_mul _,
      map_add' := fun y z => EReal.right_distrib_of_nonneg_of_ne_top h0 (EReal.coe_ne_top _) y z }
  exact map_sum φ f Finset.univ

/-- A key weighted, times the input, decayed further: the same step with the longer decay. -/
theorem step (b x : EReal) (d s r : ℝ) :
    b * ((Real.exp s * d : ℝ) : EReal) * x * (Real.exp r : EReal) = x * ((d * Real.exp (s + r) : ℝ) : EReal) * b := by
  rw [show (d * Real.exp (s + r) : ℝ) = Real.exp s * d * Real.exp r by rw [Real.exp_add]; ring, EReal.coe_mul]
  ac_rfl

/-- A key weighted, times the input. -/
theorem step_last (b x : EReal) (d s : ℝ) : b * ((Real.exp s * d : ℝ) : EReal) * x = x * ((d * Real.exp s : ℝ) : EReal) * b := by
  rw [mul_comm (Real.exp s) d]
  ac_rfl

/-- Two forward chunks from the zero state. -/
theorem two_fwd (b x : Fin 256 → EReal) (d : Fin 256 → ℝ) (a : ℝ) (r : ℝ) :
    (0 * (Real.exp r : EReal) +
        ∑ k, b (lo k) * ((Real.exp (later (fun j => d (lo j) * a) k) * d (lo k) : ℝ) : EReal) * x (lo k)) *
          (Real.exp (∑ j, d (hi j) * a) : EReal) +
      ∑ k, b (hi k) * ((Real.exp (later (fun j => d (hi j) * a) k) * d (hi k) : ℝ) : EReal) * x (hi k) = state b x (fwd d a) := by
  rw [zero_mul, zero_add, sum_mul_exp, state, sum_chunks]
  refine congrArg₂ (· + ·) (Finset.sum_congr rfl fun k _ => ?_) (Finset.sum_congr rfl fun k _ => ?_)
  · rw [step, fwd, later_lo]
  · rw [step_last, fwd, later_hi]

/-- Two backward chunks from the zero state, the second one first. -/
theorem two_bwd (b x : Fin 256 → EReal) (d : Fin 256 → ℝ) (a : ℝ) (r : ℝ) :
    (0 * (Real.exp r : EReal) +
        ∑ k, b (hi k) * ((Real.exp (earlier (fun j => d (hi j) * a) k) * d (hi k) : ℝ) : EReal) * x (hi k)) *
          (Real.exp (∑ j, d (lo j) * a) : EReal) +
      ∑ k, b (lo k) * ((Real.exp (earlier (fun j => d (lo j) * a) k) * d (lo k) : ℝ) : EReal) * x (lo k) = state b x (bwd d a) := by
  rw [zero_mul, zero_add, sum_mul_exp, state, sum_chunks, add_comm]
  refine congrArg₂ (· + ·) (Finset.sum_congr rfl fun k _ => ?_) (Finset.sum_congr rfl fun k _ => ?_)
  · rw [step_last, bwd, earlier_lo]
  · rw [step, bwd, earlier_hi]

/-- A running sum over real terms is real. -/
theorem coe_sum {n : Nat} (x : Fin n → ℝ) (p : Fin n → Prop) [DecidablePred p] :
    ∑ k, (x k : EReal) * (if p k then 1 else 0) = ((∑ k, if p k then x k else 0 : ℝ) : EReal) := by
  let φ : ℝ →+ EReal := { toFun := fun r => (r : EReal), map_zero' := EReal.coe_zero, map_add' := EReal.coe_add }
  refine Eq.trans (Finset.sum_congr rfl fun k _ => ?_) (map_sum φ _ _).symm
  show _ = (((if p k then x k else 0 : ℝ)) : EReal)
  by_cases hk : p k
  · rw [if_pos hk, if_pos hk, mul_one]
  · rw [if_neg hk, if_neg hk, mul_zero, EReal.coe_zero]

/-- A running sum taken as the sum of the terms, of their rounding rests and of the rests' rests. -/
def split {n : Nat} (z : Fin n → EReal) (p : Fin n → Prop) [DecidablePred p] : EReal :=
  ((∑ k, z k * (if p k then 1 else 0)) + ∑ k, (z k - z k) * (if p k then 1 else 0)) +
    ∑ k, ((z k - z k) - (z k - z k)) * (if p k then 1 else 0)

/-- Over real terms it is the real sum: the rests are zero. -/
theorem split_coe {n : Nat} (d : Fin n → ℝ) (a : ℝ) (p : Fin n → Prop) [DecidablePred p] :
    split (fun k => (d k : EReal) * a) p = ((∑ k, if p k then d k * a else 0 : ℝ) : EReal) := by
  have h : ∀ r : ℝ, (r : EReal) - r = 0 := fun r => by rw [← EReal.coe_sub, sub_self, EReal.coe_zero]
  simp only [split, ← EReal.coe_mul, h, sub_zero, zero_mul, Finset.sum_const_zero, add_zero]
  exact coe_sum _ p

/-- An infinite term. -/
theorem mul_bot_cases (d : ℝ) (h : d ≠ 0) : (d : EReal) * ⊥ = ⊥ ∨ (d : EReal) * ⊥ = ⊤ :=
  (lt_or_gt_of_ne h).elim (fun h => .inr (EReal.coe_mul_bot_of_neg h)) fun h => .inl (EReal.coe_mul_bot_of_pos h)

/-- A sum with a negative infinite term is negative infinite. -/
theorem sum_bot {n : Nat} (f : Fin n → EReal) (k : Fin n) (h : f k = ⊥) : ∑ j, f j = ⊥ := by
  rw [← Finset.add_sum_erase _ _ (Finset.mem_univ k), h, EReal.bot_add]

/-- At the negative infinite rate a running sum over a step that is not zero is negative infinite: the rest of an infinite term is. -/
theorem split_bot {n : Nat} (d : Fin n → ℝ) (p : Fin n → Prop) [DecidablePred p] (k : Fin n) (hk : d k ≠ 0) (hp : p k) :
    split (fun k => (d k : EReal) * ⊥) p = ⊥ := by
  rw [split, sum_bot (fun j => ((d j : EReal) * ⊥ - (d j : EReal) * ⊥) * (if p j then 1 else 0)) k ?_, EReal.add_bot, EReal.bot_add]
  rw [if_pos hp, mul_one]
  rcases mul_bot_cases _ hk with h | h <;> rw [h] <;> rfl

/-- A step weighted by two to a difference with the negative infinity is weighted by zero. -/
theorem weight_bot (s t d : EReal) (r : ℝ) (hr : 0 < r) (h : d ≠ 0 → s = ⊥) : Ideal.exp2 (s * (r : EReal) - t) * d = 0 := by
  by_cases hd : d = 0
  · rw [hd, mul_zero]
  · rw [h hd, EReal.bot_mul_coe_of_pos hr, EReal.bot_sub, Ideal.exp2_bot, zero_mul]

/-- Two chunks whose steps all weigh zero leave the zero state. -/
theorem two_zero {n : Nat} (b0 b1 x0 x1 : Fin n → EReal) (e0 e1 : EReal) :
    (0 * e0 + ∑ k, b0 k * 0 * x0 k) * e1 + ∑ k, b1 k * 0 * x1 k = 0 := by
  simp only [zero_mul, mul_zero, Finset.sum_const_zero, add_zero]

/-- Two to a difference of two logarithms scaled to base two. -/
theorem exp2_sub (s t : ℝ) :
    Ideal.exp2 ((s : EReal) * (((Real.log 2)⁻¹ : ℝ) : EReal) - (t : EReal) * (((Real.log 2)⁻¹ : ℝ) : EReal)) = (Real.exp (s - t) : EReal) := by
  rw [← EReal.coe_mul, ← EReal.coe_mul, ← EReal.coe_sub, Ideal.exp2_coe]
  refine congrArg _ ?_
  show (2 : ℝ) ^ (s * (Real.log 2)⁻¹ - t * (Real.log 2)⁻¹) = Real.exp (s - t)
  rw [Real.rpow_def_of_pos two_pos, ← sub_mul, mul_comm, mul_assoc, inv_mul_cancel₀ (Real.log_pos one_lt_two).ne', mul_one]

/-- Two to a logarithm scaled to base two. -/
theorem exp2_one (s : ℝ) : Ideal.exp2 ((s : EReal) * (((Real.log 2)⁻¹ : ℝ) : EReal)) = (Real.exp s : EReal) := by
  have h := exp2_sub s 0
  rwa [EReal.coe_zero, zero_mul, sub_zero, sub_zero] at h

/-- The rate is real or the negative infinity. -/
theorem rate_cases (y : EReal) : (0 : EReal) - Ideal.exp y = ⊥ ∨ ∃ a : ℝ, (0 : EReal) - Ideal.exp y = a := by
  induction y with
  | bot => exact .inr ⟨0, by rw [Ideal.exp_bot, sub_zero, EReal.coe_zero]⟩
  | coe r => exact .inr ⟨0 - Real.exp r, by rw [Ideal.exp_coe, EReal.coe_sub, EReal.coe_zero]⟩
  | top => exact .inl (by rw [Ideal.exp_top]; rfl)

/-- The running sums of a sequence. -/
def csum (u : Fin 256 → EReal) (l : Fin 256) : EReal := ∑ k, if k ≤ l then u k else 0

/-- No step is after the last. -/
theorem le_final (k : Fin 256) : k ≤ 255 := Fin.le_last k

/-- The last running sum is that at `l` and the later terms. -/
theorem csum_last (u : Fin 256 → EReal) (l : Fin 256) : csum u 255 = csum u l + ∑ k, if k ≤ l then 0 else u k := by
  rw [csum, csum, ← Finset.sum_add_distrib]
  refine Finset.sum_congr rfl fun k _ => ?_
  rw [if_pos (le_final k)]
  by_cases h : k ≤ l
  · rw [if_pos h, if_pos h, add_zero]
  · rw [if_neg h, if_neg h, zero_add]

/-- The running sums of real terms are real. -/
theorem csum_coe (u : Fin 256 → ℝ) (l : Fin 256) : csum (fun k => (u k : EReal)) l = ((∑ k, if k ≤ l then u k else 0 : ℝ) : EReal) := by
  rw [← coe_sum, csum]
  refine Finset.sum_congr rfl fun k _ => ?_
  by_cases h : k ≤ l
  · rw [if_pos h, if_pos h, mul_one]
  · rw [if_neg h, if_neg h, mul_zero]

/-- After an infinite term the last running sum less the one at the term is negative infinite. -/
theorem csum_bot (d : Fin 256 → ℝ) (l : Fin 256) (h : d l ≠ 0) :
    csum (fun k => (d k : EReal) * ⊥) 255 - csum (fun k => (d k : EReal) * ⊥) l = ⊥ := by
  have e : ∃ y, csum (fun k => (d k : EReal) * ⊥) l = (d l : EReal) * ⊥ + y := ⟨_, by
    rw [csum, ← Finset.add_sum_erase _ _ (Finset.mem_univ l), if_pos le_rfl]⟩
  obtain ⟨y, hy⟩ := e
  rw [csum_last _ l, hy]
  rcases mul_bot_cases _ h with h | h <;> rw [h]
  · rw [EReal.bot_add, EReal.bot_add]; rfl
  · induction y with
    | bot => rw [EReal.add_bot, EReal.bot_add]; rfl
    | coe r => rw [EReal.top_add_coe]; exact EReal.add_bot _
    | top => rw [EReal.top_add_top]; exact EReal.add_bot _

/-- The reference's sum over the steps, each input weighted by its step and the exponential of the last running sum less its own. -/
theorem whole_fwd (b x : Fin 256 → EReal) (d : Fin 256 → ℝ) (a : EReal) (ha : a = ⊥ ∨ ∃ r : ℝ, a = r) :
    ∑ l, x l * ((d l : EReal) * Ideal.exp (csum (fun k => (d k : EReal) * a) 255 - csum (fun k => (d k : EReal) * a) l)) * b l =
      reach b x fwd d a := by
  rcases ha with rfl | ⟨r, rfl⟩
  · rw [reach_bot]
    refine Finset.sum_eq_zero fun l _ => ?_
    by_cases h : d l = 0
    · rw [h, EReal.coe_zero, zero_mul, mul_zero, zero_mul]
    · rw [csum_bot d l h, Ideal.exp_bot, mul_zero, mul_zero, zero_mul]
  · rw [reach_coe]
    refine Finset.sum_congr rfl fun l _ => ?_
    simp only [← EReal.coe_mul]
    rw [csum_coe, csum_coe, ← EReal.coe_sub, Ideal.exp_coe, ← EReal.coe_mul, fwd, ← total_sub_upto,
      Finset.sum_congr rfl fun k _ => if_pos (le_final k)]

/-- The terms after the reversed index of the reversed sequence are the terms before the index. -/
theorem later_rev (u : Fin 256 → ℝ) (l : Fin 256) : later (fun k => u k.rev) l.rev = earlier u l :=
  (Equiv.sum_comp Fin.revPerm _).symm.trans (Finset.sum_congr rfl fun k _ => by
    show (if l.rev < k.rev then u k.rev.rev else 0) = _
    simp only [Fin.rev_rev, Fin.rev_lt_rev])

/-- The forward scan of the reversed sequences is the backward scan. -/
theorem reach_rev (b x : Fin 256 → EReal) (d : Fin 256 → ℝ) (a : EReal) (ha : a = ⊥ ∨ ∃ r : ℝ, a = r) :
    reach (fun k => b k.rev) (fun k => x k.rev) fwd (fun k => d k.rev) a = reach b x bwd d a := by
  rcases ha with rfl | ⟨r, rfl⟩
  · rw [reach_bot, reach_bot]
  · rw [reach_coe, reach_coe]
    refine (Equiv.sum_comp Fin.revPerm _).symm.trans (Finset.sum_congr rfl fun l _ => ?_)
    show x l.rev.rev * (fwd (fun k => d k.rev) r l.rev : EReal) * b l.rev.rev = _
    rw [fwd, later_rev (fun k => d k * r), Fin.rev_rev, bwd]

end Cert.Scan
-- ==== Proof.StateChunk.lean ====
/-
  One chunk of the state kernel read at a row and a column, and the running log decays it takes its weights from.
-/
module

public import proofs.«01_k».proof.Proof.StateTile
public import proofs.«01_k».proof.Proof.Scan

@[expose] public section

set_option maxRecDepth 16384

noncomputable section

namespace Cert.StateIdeal.Gen

open Idealize.ShloMosaic Idealize.ShloMosaic.TcCoe Idealize.SL.Sem

/-- The lane mask of a pair of heads holds in the first 64 columns. -/
theorem lane : ∀ j : Fin 128, IntOp.cmpi .slt (BitVec.ofNat 32 j.val) 64#32 = if j.val < 64 then 1#1 else 0#1 := by decide

/-- Selecting by a decided bit. -/
theorem select_ite {p : Prop} [Decidable p] {α : Type} (x y : α) : Scalar.select (if p then 1#1 else 0#1) x y = if p then x else y := by
  by_cases h : p
  · rw [if_pos h, if_pos h]; rfl
  · rw [if_neg h, if_neg h]; rfl

/-- A pair of heads adds, in a column of the first head, the first head's weighted keys times the column, and in a column of the
    second head the second's. -/
theorem pair_apply (ba bb : FVec Ideal S128x128 .bf16) (wa wb : FVec Ideal S1x128 .bf16) (x : FVec Ideal S128x128 .bf16)
    (n j : Fin 128) :
    pair ba bb wa wb x (ix2 n j) =
      ∑ k : Fin 128, (if j.val < 64 then ba (ix2 n k) * wa (ix2 0 k) else bb (ix2 n k) * wb (ix2 0 k)) * x (ix2 k j) := by
  pointwise [pair, heads, k0_pay40]
  rw [lane j]
  simp only [select_ite]
  by_cases h : j.val < 64
  · simp only [if_pos h, Finset.sum_const_zero, add_zero]
  · simp only [if_neg h, Finset.sum_const_zero, zero_add]

/-- The decay in a column of a pair is its head's. -/
theorem decay_apply (ea eb : FVec Ideal S8x1 .f32) (j : Fin 128) :
    decay ea eb (ix2 0 j) = if j.val < 64 then ea (ix2 0 0) else eb (ix2 0 0) := by
  pointwise [decay, k0_pay40]
  rw [lane j, select_ite]

/-- A chunk at a row and a column: the state before it decayed, and the weighted keys of the column's group times the column. -/
theorem chunk_apply (b : Vec Ideal S1x128x512 .bf16) (x : Vec Ideal S1x128x768 .bf16) (w : FVec Ideal S16x128 .bf16)
    (e : FVec Ideal S8x128 .f32) (h : FVec Ideal S128x768 .f32) (n : Fin 128) (c : Fin 768) :
    chunk b x w e h (ix2 n c) = h (ix2 n c) * e (ix2 0 ⟨c.val / 64, by omega⟩) +
      ∑ k : Fin 128, b (ix3 0 k ⟨128 * (c.val / 192) + n.val, by omega⟩) * w (ix2 ⟨c.val / 64, by omega⟩ k) * x (ix3 0 k c) := by
  pointwise [chunk, k0_pay36, k0_pay37, k0_pay38, k0_pay39, k0_pay32, k0_pay31]
  simp only [decay_apply, pair_apply]
  pointwise
  have hc := c.isLt
  split_ifs <;>
    refine congrArg₂ (· + ·) (congrArg (h _ * ·) (congrArg (fun z => e (ix2 0 z)) (Fin.ext ?_))) (Finset.sum_congr rfl fun k _ =>
      congrArg₂ (· * ·) (congrArg₂ (· * ·) (congrArg (fun z => b (ix3 0 k z)) (Fin.ext ?_)) (congrArg (fun z => w (ix2 z k)) (Fin.ext ?_)))
        (congrArg (fun z => x (ix3 0 k z)) (Fin.ext ?_))) <;>
    simp <;> omega

/-- Comparing two small indices as words. -/
theorem cmp_le : ∀ k i : Fin 128, IntOp.cmpi .sle (BitVec.ofNat 32 k.val) (BitVec.ofNat 32 i.val) = if k ≤ i then 1#1 else 0#1 := by
  decide +kernel
/-- The other order. -/
theorem cmp_ge : ∀ k i : Fin 128, IntOp.cmpi .sge (BitVec.ofNat 32 k.val) (BitVec.ofNat 32 i.val) = if i ≤ k then 1#1 else 0#1 := by
  decide +kernel

/-- The upper triangle of ones. -/
theorem upper_apply (k i : Fin 128) : (k0_pay7 (F := Ideal)) (ix2 k i) = if k ≤ i then 1 else 0 := by
  pointwise [k0_pay7]
  rw [cmp_le, select_ite]

/-- The lower triangle of ones. -/
theorem lower_apply (k i : Fin 128) : (k0_pay6 (F := Ideal)) (ix2 k i) = if i ≤ k then 1 else 0 := by
  pointwise [k0_pay6]
  rw [cmp_ge, select_ite]

/-- The decay rate of a head in a direction, as the body computes it from the two arrays it is given. -/
def rate (al va : Vec Ideal S2x16x128 .f32) (q : Fin 2) (r : Fin 16) (k : Fin 128) : EReal :=
  (0 - Ideal.exp (al (ix3 q r k))) * va (ix3 q r k)

theorem rate_apply (al va : Vec Ideal S2x16x128 .f32) (q : Fin 2) (r : Fin 16) (k : Fin 128) :
    k0_pay5 al va (ix3 q r k) = rate al va q r k := by
  pointwise [k0_pay5, rate]

section decays
variable (al va : Vec Ideal S2x16x128 .f32) (dt : Vec Ideal S1x32x256 .f32) (r : Fin 16) (i : Fin 128)

/-- The forward log decays of the first chunk's steps. -/
theorem logF0 (k : Fin 128) : k0_pay12 al va dt (ix2 r k) = dt (ix3 0 ⟨r.val, by omega⟩ (Scan.lo k)) * rate al va 0 r k := by
  pointwise [k0_pay12, k0_pay8, k0_pay10, k0_pay9]
  rw [rate_apply]

/-- The second chunk's. -/
theorem logF1 (k : Fin 128) : k0_pay17 al va dt (ix2 r k) = dt (ix3 0 ⟨r.val, by omega⟩ (Scan.hi k)) * rate al va 0 r k := by
  pointwise [k0_pay17, k0_pay8, k0_pay11, k0_pay9]
  rw [rate_apply]

/-- The backward steps of the first chunk. -/
theorem stepB0 (k : Fin 128) : k0_pay24 dt (ix2 r k) = dt (ix3 0 ⟨12 + r.val, by omega⟩ (Scan.lo k)) := by
  pointwise [k0_pay24, k0_pay23]
/-- The second chunk's. -/
theorem stepB1 (k : Fin 128) : k0_pay25 dt (ix2 r k) = dt (ix3 0 ⟨12 + r.val, by omega⟩ (Scan.hi k)) := by
  pointwise [k0_pay25, k0_pay23]
/-- The forward steps of the first chunk. -/
theorem stepF0 (k : Fin 128) : k0_pay10 dt (ix2 r k) = dt (ix3 0 ⟨r.val, by omega⟩ (Scan.lo k)) := by
  pointwise [k0_pay10, k0_pay9]
/-- The second chunk's. -/
theorem stepF1 (k : Fin 128) : k0_pay11 dt (ix2 r k) = dt (ix3 0 ⟨r.val, by omega⟩ (Scan.hi k)) := by
  pointwise [k0_pay11, k0_pay9]

/-- The forward running log decays of the first chunk. -/
theorem csF0_apply :
    csF0 al va dt (ix2 r i) =
      Scan.split (fun k => dt (ix3 0 ⟨r.val, by omega⟩ (Scan.lo k)) * rate al va 0 r k) fun k => k ≤ i := by
  pointwise [csF0, k0_pay21, k0_pay20]
  simp (disch := omega) only [dif_pos, dif_neg, Nat.sub_sub, Nat.reduceAdd, Nat.add_sub_cancel_left, Fin.eta]
  pointwise [k0_pay13, k0_pay15, k0_pay16, k0_pay14]
  simp only [upper_apply, logF0]
  rfl

/-- The second chunk's. -/
theorem csF1_apply :
    csF1 al va dt (ix2 r i) =
      Scan.split (fun k => dt (ix3 0 ⟨r.val, by omega⟩ (Scan.hi k)) * rate al va 0 r k) fun k => k ≤ i := by
  pointwise [csF1, k0_pay22, k0_pay20]
  simp (disch := omega) only [dif_pos, dif_neg, Nat.sub_sub, Nat.reduceAdd, Nat.add_sub_cancel_left, Fin.eta]
  pointwise [k0_pay18, k0_pay19]
  simp only [upper_apply, logF1]
  rfl

/-- The backward running log decays of the first chunk. -/
theorem csB0_apply :
    k0_pay27 (k0_pay5 al va) k0_pay6 dt (ix2 r i) =
      Scan.split (fun k => dt (ix3 0 ⟨12 + r.val, by omega⟩ (Scan.lo k)) * rate al va 1 r k) fun k => i ≤ k := by
  pointwise [k0_pay27, k0_pay26]
  simp (disch := omega) only [dif_pos, dif_neg, Nat.sub_sub, Nat.reduceAdd, Nat.add_sub_cancel_left, Fin.eta]
  simp only [lower_apply, rate_apply, stepB0]
  rfl

/-- The second chunk's. -/
theorem csB1_apply :
    k0_pay28 (k0_pay5 al va) k0_pay6 dt (ix2 r i) =
      Scan.split (fun k => dt (ix3 0 ⟨12 + r.val, by omega⟩ (Scan.hi k)) * rate al va 1 r k) fun k => i ≤ k := by
  pointwise [k0_pay28, k0_pay26]
  simp (disch := omega) only [dif_pos, dif_neg, Nat.sub_sub, Nat.reduceAdd, Nat.add_sub_cancel_left, Fin.eta]
  simp only [lower_apply, rate_apply, stepB1]
  rfl

end decays

/-- The named constant is one over the logarithm of two. -/
theorem log2e_eq : (Named.named κ "log2e" 0x3FB8AA3B#32 : Ideal .f32) = (((Real.log 2)⁻¹ : ℝ) : EReal) :=
  IdealRules.named_const.ideal_named_scalar _ _ _ _ rfl

section weights
variable (dt cs : FVec Ideal S16x128 .f32) (r : Fin 16) (d : Fin 128 → ℝ) (hd : ∀ k, dt (ix2 r k) = d k)

section
include hd

/-- The weights of a forward chunk at a real rate. -/
theorem weightF (a : ℝ) (hc : ∀ i, cs (ix2 r i) = Scan.split (fun k => (d k : EReal) * a) fun k => k ≤ i) (k : Fin 128) :
    k0_pay34 dt cs (ix2 r k) = ((Real.exp (Scan.later (fun k => d k * a) k) * d k : ℝ) : EReal) := by
  pointwise [k0_pay34, k0_pay33]
  rw [hc, hc, hd, log2e_eq, EReal.coe_mul, ← Scan.total_sub_upto, Scan.split_coe, Scan.split_coe, Scan.upto_last]
  exact congrArg (· * _) (Scan.exp2_sub _ _)

/-- The weights of a backward chunk at a real rate. -/
theorem weightB (a : ℝ) (hc : ∀ i, cs (ix2 r i) = Scan.split (fun k => (d k : EReal) * a) fun k => i ≤ k) (k : Fin 128) :
    k0_pay64 dt (k0_pay62 cs) (k0_pay63 cs) (ix2 r k) = ((Real.exp (Scan.earlier (fun k => d k * a) k) * d k : ℝ) : EReal) := by
  pointwise [k0_pay64, k0_pay62, k0_pay63]
  rw [hc, hc, hd, log2e_eq, EReal.coe_mul, ← Scan.total_sub_from, Scan.split_coe, Scan.split_coe, Scan.from_first]
  exact congrArg (· * _) (Scan.exp2_sub _ _)

/-- At the negative infinite rate the weights of a forward chunk are zero. -/
theorem weightF_bot (hc : ∀ i, cs (ix2 r i) = Scan.split (fun k => (d k : EReal) * ⊥) fun k => k ≤ i) (k : Fin 128) :
    k0_pay34 dt cs (ix2 r k) = 0 := by
  pointwise [k0_pay34, k0_pay33]
  rw [hd, log2e_eq]
  exact Scan.weight_bot _ _ _ _ (inv_pos.2 (Real.log_pos one_lt_two)) fun h =>
    (hc _).trans (Scan.split_bot d _ k (fun h' => h (by rw [h', EReal.coe_zero])) (Fin.le_last k))

/-- So are those of a backward chunk. -/
theorem weightB_bot (hc : ∀ i, cs (ix2 r i) = Scan.split (fun k => (d k : EReal) * ⊥) fun k => i ≤ k) (k : Fin 128) :
    k0_pay64 dt (k0_pay62 cs) (k0_pay63 cs) (ix2 r k) = 0 := by
  pointwise [k0_pay64, k0_pay62, k0_pay63]
  rw [hd, log2e_eq]
  exact Scan.weight_bot _ _ _ _ (inv_pos.2 (Real.log_pos one_lt_two)) fun h =>
    (hc _).trans (Scan.split_bot d _ k (fun h' => h (by rw [h', EReal.coe_zero])) (Fin.zero_le k))

end

/-- The decay over a forward chunk at a real rate. -/
theorem totalF (a : ℝ) (hc : ∀ i, cs (ix2 r i) = Scan.split (fun k => (d k : EReal) * a) fun k => k ≤ i) :
    k0_pay35 cs (ix2 0 ⟨r.val, by omega⟩) = (Real.exp (∑ k, d k * a) : EReal) := by
  pointwise [k0_pay35, k0_pay33]
  rw [hc, log2e_eq, Scan.split_coe, Scan.upto_last]
  exact Scan.exp2_one _

/-- The decay over a backward chunk at a real rate. -/
theorem totalB (a : ℝ) (hc : ∀ i, cs (ix2 r i) = Scan.split (fun k => (d k : EReal) * a) fun k => i ≤ k) :
    k0_pay65 (k0_pay62 cs) (ix2 0 ⟨r.val, by omega⟩) = (Real.exp (∑ k, d k * a) : EReal) := by
  pointwise [k0_pay65, k0_pay62]
  rw [hc, log2e_eq, Scan.split_coe, Scan.from_first]
  exact Scan.exp2_one _

end weights

section final
variable (b0 b1 : Vec Ideal S1x128x512 .bf16) (x0 x1 : Vec Ideal S1x128x768 .bf16) (dt : Vec Ideal S1x32x256 .f32)
  (h0 : Vec Ideal S1x2x128x768 .f32) (al va : Vec Ideal S2x16x128 .f32) (n : Fin 128) (c : Fin 768) (b x : Fin 256 → EReal)
  (d : Fin 256 → ℝ) (a : EReal) (hr : a = ⊥ ∨ ∃ r : ℝ, a = r)
  (hb0 : ∀ k, b0 (ix3 0 k ⟨128 * (c.val / 192) + n.val, by omega⟩) = b (Scan.lo k))
  (hb1 : ∀ k, b1 (ix3 0 k ⟨128 * (c.val / 192) + n.val, by omega⟩) = b (Scan.hi k))
  (hx0 : ∀ k, x0 (ix3 0 k c) = x (Scan.lo k)) (hx1 : ∀ k, x1 (ix3 0 k c) = x (Scan.hi k))
include hr hb0 hb1 hx0 hx1

/-- The forward state after both chunks, read in a head's column: the scan of its group's keys and its inputs. -/
theorem finalF_apply (hd : ∀ k, dt (ix3 0 ⟨c.val / 64, by omega⟩ k) = d k) (ha : ∀ k, rate al va 0 ⟨c.val / 64, by omega⟩ k = a)
    (hh : h0 (ix4 0 0 n c) = 0) : finalF b0 b1 x0 x1 dt h0 al va (ix2 n c) = Scan.reach b x Scan.fwd d a := by
  have c0 := fun i => csF0_apply al va dt ⟨c.val / 64, by omega⟩ i
  have c1 := fun i => csF1_apply al va dt ⟨c.val / 64, by omega⟩ i
  simp only [hd, ha] at c0 c1
  have d0 := fun k => (stepF0 dt ⟨c.val / 64, by omega⟩ k).trans (hd _)
  have d1 := fun k => (stepF1 dt ⟨c.val / 64, by omega⟩ k).trans (hd _)
  have hz : k0_pay29 (row0 (k0_pay4 h0)) (ix2 n c) = 0 := by
    pointwise [k0_pay29, row0, View.ld_apply, k0_pay4]
    exact hh
  rw [finalF, chunkF, chunk_apply, chunkF, chunk_apply, hz]
  rcases hr with rfl | ⟨r, rfl⟩
  · simp only [weightF_bot _ _ _ _ d0 c0, weightF_bot _ _ _ _ d1 c1]
    rw [Scan.reach_bot]
    exact Scan.two_zero _ _ _ _ _ _
  · rw [totalF _ _ _ _ c0, totalF _ _ _ _ c1, Scan.reach_coe]
    simp only [weightF _ _ _ _ d0 _ c0, weightF _ _ _ _ d1 _ c1, hb0, hb1, hx0, hx1]
    exact Scan.two_fwd b x d r _

/-- The backward state after both chunks. -/
theorem finalB_apply (hd : ∀ k, dt (ix3 0 ⟨12 + c.val / 64, by omega⟩ k) = d k) (ha : ∀ k, rate al va 1 ⟨c.val / 64, by omega⟩ k = a)
    (hh : h0 (ix4 0 1 n c) = 0) : finalB b0 b1 x0 x1 dt h0 al va (ix2 n c) = Scan.reach b x Scan.bwd d a := by
  have c0 := fun i => csB0_apply al va dt ⟨c.val / 64, by omega⟩ i
  have c1 := fun i => csB1_apply al va dt ⟨c.val / 64, by omega⟩ i
  simp only [hd, ha] at c0 c1
  have d0 := fun k => (stepB0 dt ⟨c.val / 64, by omega⟩ k).trans (hd _)
  have d1 := fun k => (stepB1 dt ⟨c.val / 64, by omega⟩ k).trans (hd _)
  have hz : k0_pay30 (row1 (k0_pay4 h0)) (ix2 n c) = 0 := by
    pointwise [k0_pay30, row1, View.ld_apply, k0_pay4]
    exact hh
  rw [finalB, chunkB, chunk_apply, chunkB, chunk_apply, hz]
  rcases hr with rfl | ⟨r, rfl⟩
  · simp only [weightB_bot _ _ _ _ d0 c0, weightB_bot _ _ _ _ d1 c1]
    rw [Scan.reach_bot]
    exact Scan.two_zero _ _ _ _ _ _
  · rw [totalB _ _ _ _ c0, totalB _ _ _ _ c1, Scan.reach_coe]
    simp only [weightB _ _ _ _ d0 _ c0, weightB _ _ _ _ d1 _ c1, hb0, hb1, hx0, hx1]
    exact Scan.two_bwd b x d r _

end final

end Cert.StateIdeal.Gen
-- ==== Proof.StateValue.lean ====
/-
  The state kernel's result array: each entry is the scan of its group's keys and its column's inputs.
-/
module

public import Idealize.ShloMosaic.Lib.Pipeline.ValueKit
public import Idealize.ShloMosaic.Lib.Claim
public import proofs.«01_k».proof.Proof.StateChunk

@[expose] public section

set_option maxRecDepth 16384

noncomputable section

namespace Cert.StateIdeal.Gen

open Idealize.ShloMosaic Idealize.ShloMosaic.TcCoe Idealize.SL.Sem

/-- The place of an entry of a direction's row in the two-direction state. -/
theorem row_emb (q : ℕ) (inb : ∀ a : Fin 3, (![q, 0, 0] : Fin 3 → ℕ) a + S1x128x768.size a ≤ S2x128x768.size a) (hq : q < 2)
    (n : Fin 128) (c : Fin 768) :
    (Rect.unit (s := S2x128x768) ![q, 0, 0] S1x128x768.size inb).emb (ix3 (0 : Fin 1) n c) = ix3 (⟨q, hq⟩ : Fin 2) n c := by
  refine (eq_ix3 _).trans ?_
  congr 1
  · exact Fin.ext ((Rect.idx_unit_val _ _ _ _ 1).trans (Nat.zero_add _))
  · exact Fin.ext ((Rect.idx_unit_val _ _ _ _ 2).trans (Nat.zero_add _))

/-- The block read back: its first direction is the forward state, its second the backward one. -/
theorem stored_apply (hb hf : FVec Ideal S128x768 .f32) (h : FVec Ideal S2x128x768 .f32) (q : Fin 2) (n : Fin 128) (c : Fin 768) :
    stored hb hf h (ix4 0 q n c) = if q = 0 then hf (ix2 n c) else hb (ix2 n c) := by
  pointwise [stored, k0_pay3]
  have e0 := row_emb 0 inb_S2x128x768_S1x128x768_0_0_0 two_pos n c
  have e1 := row_emb 1 inb_S2x128x768_S1x128x768_1_0_0 one_lt_two n c
  fin_cases q
  · refine (View.canon_cons_of_not_mem _ _ fun hm => ?_).trans ?_
    · obtain ⟨i, hi, he⟩ := (LoadRect.mem_set _).mp hm (0 : Fin 3)
      have he' : 0 = 1 + 1 * i := he
      omega
    · refine (congrArg (View.canon _) e0.symm).trans ((View.canon_cons_emb _ _ _ _).trans ?_)
      pointwise [k0_pay1]
  · refine (congrArg (View.canon _) e1.symm).trans ((View.canon_cons_emb _ _ _ _).trans ?_)
    pointwise [k0_pay2]

variable (m : (ℓ : Loc nD τ sig) → Buf (Elt Ideal) ℓ)

/-- The block indices of the windows at a grid point. -/
theorem idx_all : ∀ t : Fin grid0.N, win0_1.index t = ![t.val, 0, 0] ∧ win0_2.index t = ![t.val, 0, 0] ∧
    win0_3.index t = ![t.val, 0, 0] ∧ win0_5.index t = ![t.val, 0, 0] ∧ win0_6.index t = ![t.val, 0, 0] ∧
    win0_7.index t = ![t.val, 0, 0] ∧ win0_8.index t = ![t.val, 0, 0, 0] ∧ win0_9.index t = ![0, 0, 0] ∧
    win0_10.index t = ![0, 0, 0] ∧ win0_11.index t = ![t.val, 0, 0, 0] := by decide +kernel

/-- The logarithms of the decay rates, as the host lays them out. -/
theorem host_al (c : Dev nD) (q : Fin 2) (r : Fin 12) (k : Fin 128) :
    (V m c main_v4 : S2x16x128.Idx → EReal) (ix3 q ⟨r.val, by omega⟩ k) = m ((c.tc : Thread nD τ).loc main_arg3) (ix3 0 q r) := by
  entry_read; pointwise

/-- The rows that hold a head are marked with a one. -/
theorem host_va (c : Dev nD) (q : Fin 2) (r : Fin 12) (k : Fin 128) :
    (V m c main_v9 : S2x16x128.Idx → EReal) (ix3 q ⟨r.val, by omega⟩ k) = (1 : EReal) := by
  entry_read; pointwise

/-- The state before the first step is zero. -/
theorem host_zero (c : Dev nD) (p : Fin 8) (q : Fin 2) (n : Fin 128) (k : Fin 768) :
    (V m c main_v10 : S8x2x128x768.Idx → EReal) (ix4 p q n k) = (0 : EReal) := by
  entry_read; pointwise

/-- The kernel's result, as a function of the argument arrays. -/
def result (c : Dev nD) : S8x2x128x768.Idx → EReal := fun i =>
  Scan.entry (fun p l j => m ((c.tc : Thread nD τ).loc main_arg0) (ix3 p l j)) (fun p l j => m ((c.tc : Thread nD τ).loc main_arg1) (ix3 p l j))
    (fun p r l => m ((c.tc : Thread nD τ).loc main_arg2) (ix3 p r l)) (fun q r => m ((c.tc : Thread nD τ).loc main_arg3) (ix3 0 q r))
    (i 0) (i 1) (i 2) (i 3)

/-- The steps of the heads are real. -/
def Steps (c : Dev nD) : Prop :=
  ∀ (p : Fin 8) (r : Fin 24) (l : Fin 256), ∃ d : ℝ, m ((c.tc : Thread nD τ).loc main_arg2) (ix3 p ⟨r.val, by omega⟩ l) = (d : EReal)

section
variable (c : Dev nD) (t : Fin cfg0.N)

/-- The blocks of the keys, inputs and steps are the batch's rows, read by both directions. -/
theorem block_rows (l : Fin 256) :
    (∀ j, (iblk m c 1 t : S1x256x512.Idx → EReal) (ix3 0 l j) = m ((c.tc : Thread nD τ).loc main_arg0) (ix3 ⟨t.val, t.isLt⟩ l j)) ∧
    (∀ j, (iblk m c 2 t : S1x256x768.Idx → EReal) (ix3 0 l j) = m ((c.tc : Thread nD τ).loc main_arg1) (ix3 ⟨t.val, t.isLt⟩ l j)) ∧
    (∀ r, (iblk m c 3 t : S1x32x256.Idx → EReal) (ix3 0 r l) = m ((c.tc : Thread nD τ).loc main_arg2) (ix3 ⟨t.val, t.isLt⟩ r l)) ∧
    (∀ j, (iblk m c 5 t : S1x256x512.Idx → EReal) (ix3 0 l j) = m ((c.tc : Thread nD τ).loc main_arg0) (ix3 ⟨t.val, t.isLt⟩ l j)) ∧
    (∀ j, (iblk m c 6 t : S1x256x768.Idx → EReal) (ix3 0 l j) = m ((c.tc : Thread nD τ).loc main_arg1) (ix3 ⟨t.val, t.isLt⟩ l j)) ∧
    ∀ r, (iblk m c 7 t : S1x32x256.Idx → EReal) (ix3 0 r l) = m ((c.tc : Thread nD τ).loc main_arg2) (ix3 ⟨t.val, t.isLt⟩ r l) := by
  obtain ⟨h1, h2, h3, h5, h6, h7, h8, h9, h10, h11⟩ := idx_all t
  exact ⟨fun j => by blk_ext [iblk, V, h1], fun j => by blk_ext [iblk, V, h2], fun j => by blk_ext [iblk, V, h3],
    fun j => by blk_ext [iblk, V, h5], fun j => by blk_ext [iblk, V, h6], fun j => by blk_ext [iblk, V, h7]⟩

/-- The block of the state before the first step is zero. -/
theorem block_zero (q : Fin 2) (n : Fin 128) (k : Fin 768) : (iblk m c 8 t : S1x2x128x768.Idx → EReal) (ix4 0 q n k) = (0 : EReal) := by
  obtain ⟨h1, h2, h3, h5, h6, h7, h8, h9, h10, h11⟩ := idx_all t
  refine Eq.trans ?_ (host_zero m c ⟨t.val, t.isLt⟩ q n k)
  blk_ext [iblk, h8]

/-- A head's row of decay rates. -/
theorem block_rate (q : Fin 2) (r : Fin 12) (k : Fin 128) :
    rate (iblk m c 9 t) (iblk m c 10 t) q ⟨r.val, by omega⟩ k =
      (0 : EReal) - Ideal.exp (m ((c.tc : Thread nD τ).loc main_arg3) (ix3 0 q r)) := by
  obtain ⟨h1, h2, h3, h5, h6, h7, h8, h9, h10, h11⟩ := idx_all t
  have e9 : (iblk m c 9 t : S2x16x128.Idx → EReal) (ix3 q ⟨r.val, by omega⟩ k) = m ((c.tc : Thread nD τ).loc main_arg3) (ix3 0 q r) := by
    refine Eq.trans ?_ (host_al m c q r k)
    blk_ext [iblk, h9]
  have e10 : (iblk m c 10 t : S2x16x128.Idx → EReal) (ix3 q ⟨r.val, by omega⟩ k) = (1 : EReal) := by
    refine Eq.trans ?_ (host_va m c q r k)
    blk_ext [iblk, h10]
  rw [rate, e9, e10, mul_one]

end

/-- An entry of the output block is the scan over the blocks' rows. -/
theorem block_apply (c : Dev nD) (hR : Steps m c) (t : Fin cfg0.N) (q : Fin 2) (n : Fin 128) (k : Fin 768) :
    outsAt0 m c t (ix4 0 q n k) = result m c (ix4 ⟨t.val, t.isLt⟩ q n k) := by
  let d : Fin 2 → Fin 256 → ℝ := fun q l =>
    EReal.toReal (m ((c.tc : Thread nD τ).loc main_arg2) (ix3 ⟨t.val, t.isLt⟩ ⟨12 * q.val + k.val / 64, by omega⟩ l))
  have hd : ∀ (q : Fin 2) (l : Fin 256),
      m ((c.tc : Thread nD τ).loc main_arg2) (ix3 ⟨t.val, t.isLt⟩ ⟨12 * q.val + k.val / 64, by omega⟩ l) = (d q l : EReal) := fun q l => by
    obtain ⟨e, he⟩ := hR ⟨t.val, t.isLt⟩ ⟨12 * q.val + k.val / 64, by omega⟩ l
    show _ = ((EReal.toReal _ : ℝ) : EReal)
    rw [he, EReal.toReal_coe]
  rw [outs_eq, stored_apply]
  fin_cases q
  · refine (finalF_apply _ _ _ _ _ _ _ _ n k (fun l => m ((c.tc : Thread nD τ).loc main_arg0) (ix3 ⟨t.val, t.isLt⟩ l ⟨128 * (k.val / 192) + n.val, by omega⟩))
      (fun l => m ((c.tc : Thread nD τ).loc main_arg1) (ix3 ⟨t.val, t.isLt⟩ l k)) (d 0) _ (Scan.rate_cases _) (fun l => ?_) (fun l => ?_) (fun l => ?_) (fun l => ?_)
      (fun l => ?_) (fun j => block_rate m c t 0 ⟨k.val / 64, by omega⟩ j) (block_zero m c t 0 n k)).trans ?_
    · pointwise [View.ld_apply]; exact (block_rows m c t (Scan.lo l)).1 _
    · pointwise [View.ld_apply]; exact (block_rows m c t (Scan.hi l)).1 _
    · pointwise [View.ld_apply]; exact (block_rows m c t (Scan.lo l)).2.1 _
    · pointwise [View.ld_apply]; exact (block_rows m c t (Scan.hi l)).2.1 _
    · exact ((block_rows m c t l).2.2.1 _).trans ((congrArg (fun r => m ((c.tc : Thread nD τ).loc main_arg2) (ix3 ⟨t.val, t.isLt⟩ r l)) (Fin.ext (Nat.zero_add _).symm)).trans (hd 0 l))
    · rfl
  · refine (finalB_apply _ _ _ _ _ _ _ _ n k (fun l => m ((c.tc : Thread nD τ).loc main_arg0) (ix3 ⟨t.val, t.isLt⟩ l ⟨128 * (k.val / 192) + n.val, by omega⟩))
      (fun l => m ((c.tc : Thread nD τ).loc main_arg1) (ix3 ⟨t.val, t.isLt⟩ l k)) (d 1) _ (Scan.rate_cases _) (fun l => ?_) (fun l => ?_) (fun l => ?_) (fun l => ?_)
      (fun l => ?_) (fun j => block_rate m c t 1 ⟨k.val / 64, by omega⟩ j) (block_zero m c t 1 n k)).trans ?_
    · pointwise [View.ld_apply]; exact (block_rows m c t (Scan.lo l)).2.2.2.1 _
    · pointwise [View.ld_apply]; exact (block_rows m c t (Scan.hi l)).2.2.2.1 _
    · pointwise [View.ld_apply]; exact (block_rows m c t (Scan.lo l)).2.2.2.2.1 _
    · pointwise [View.ld_apply]; exact (block_rows m c t (Scan.hi l)).2.2.2.2.1 _
    · exact ((block_rows m c t l).2.2.2.2.2 _).trans (hd 1 l)
    · rfl

/-- The output array after the run. -/
theorem arr_eq (c : Dev nD) (hR : Steps m c) : (dats m 0 c).arrAt 11 cfg0.N = result m c := by
  refine (dats m 0 c).arrAt_eq_of_covers 11 _ (by decide +kernel) fun t hf y => ?_
  blk_simp
  rw [after0_11]
  obtain ⟨h1, h2, h3, h5, h6, h7, h8, h9, h10, h11⟩ := idx_all t
  obtain ⟨p, q, n, k, rfl⟩ : ∃ (p : Fin 1) (q : Fin 2) (n : Fin 128) (k : Fin 768), y = ix4 p q n k := ⟨y 0, y 1, y 2, y 3, eq_ix4 y⟩
  obtain rfl : p = 0 := Subsingleton.elim _ _
  refine (block_apply m c hR t q n k).trans (congrArg (result m c) ((eq_ix4 _).trans ?_).symm)
  congr 1
  · refine Fin.ext ?_
    blk_simp [h11]
    exact Nat.add_zero _
  all_goals refine Fin.ext ?_; blk_simp [h11]

end Cert.StateIdeal.Gen

end
-- ==== Proof.StateRef.lean ====
/-
  The state reference's result array, index by index: the scan of its group's keys and its column's inputs.
-/
module

public import Idealize.ShloMosaic.Lib.Pointwise
public import proofs.«01_k».proof.Proof.Gen.StateRefIdeal.Read
public import proofs.«01_k».proof.Proof.Scan

@[expose] public section

set_option maxRecDepth 16384

noncomputable section

namespace Cert.StateRefIdeal.Read

open Cert.StateRefIdeal Cert.StateRefIdeal.Facts₀ Idealize.ShloMosaic Idealize.ShloMosaic.TcCoe Idealize.SL.Sem

/-- A sum taken term by term along a list. -/
theorem foldl_sum {ι : Type} (g : ι → EReal) (L : List ι) : ∀ v : EReal, L.foldl (fun r n => r + g n) v = v + (L.map g).sum := by
  induction L with
  | nil => exact fun v => (add_zero v).symm
  | cons a L ih => exact fun v => (ih _).trans (by rw [List.map_cons, List.sum_cons, add_assoc])

/-- The window of the running sum. -/
abbrev Win : Shape := ⟨3, ![1, 256, 1]⟩

/-- The window's places are those of its middle axis. -/
def places : Fin 256 ≃ Win.Idx where
  toFun w := ix3 (0 : Fin 1) w (0 : Fin 1)
  invFun i := i 1
  left_inv _ := rfl
  right_inv i := by
    refine Eq.trans ?_ (eq_ix3 i).symm
    rw [show i 0 = (0 : Fin 1) from Subsingleton.elim (α := Fin 1) _ _, show i 2 = (0 : Fin 1) from Subsingleton.elim (α := Fin 1) _ _]

/-- The windowed sum along the steps is the running sum. -/
theorem cumsum_apply (x : FVec Ideal S8x256x12 .f32) (init : S_.Idx → EReal) (h0 : init (Shape.Idx.first (by decide)) = 0)
    (h : S8x256x12.ReduceWindows ![1, 256, 1] ![1, 1, 1] ![0, 255, 0] ![0, 0, 0] S8x256x12) (hu : 0 < S_.numel)
    (p : Fin 8) (l : Fin 256) (r : Fin 12) :
    Host.reduceWindowAdd (F := Ideal) (φ := .f32) ![1, 256, 1] ![1, 1, 1] ![0, 255, 0] ![0, 0, 0] x init h hu (ix3 p l r) =
      Scan.csum (fun k => x (ix3 p k r)) l := by
  refine (foldl_sum _ _ _).trans ?_
  rw [← Fin.sum_univ_def, h0, zero_add]
  refine (Equiv.sum_comp (M := EReal) ((Equiv.addRight l.rev).trans (places.trans Win.rowMajor)) _).symm.trans
    (Finset.sum_congr rfl fun k _ => ?_)
  have hw : Win.rowMajor.symm (((Equiv.addRight l.rev).trans (places.trans Win.rowMajor)) k) = ix3 (0 : Fin 1) (k + l.rev) (0 : Fin 1) :=
    Equiv.symm_apply_apply _ _
  have hv : (k + l.rev).val = if k ≤ l then k.val + (255 - l.val) else k.val - l.val - 1 := by
    rw [Fin.val_add, Fin.val_rev]
    by_cases hk : k ≤ l
    · rw [if_pos hk]
      have := Fin.le_def.1 hk
      omega
    · rw [if_neg hk]
      have := Fin.lt_def.1 (not_le.1 hk)
      omega
  let w : Win.Idx := Win.rowMajor.symm (((Equiv.addRight l.rev).trans (places.trans Win.rowMajor)) k)
  have w0 : (w 0).val = 0 := congrArg (fun i : Win.Idx => (i 0).val) hw
  have w1 : (w 1).val = (k + l.rev).val := congrArg (fun i : Win.Idx => (i 1).val) hw
  have w2 : (w 2).val = 0 := congrArg (fun i : Win.Idx => (i 2).val) hw
  by_cases hk : k ≤ l
  · have hk' := Fin.le_def.1 hk
    rw [if_pos hk] at hv ⊢
    refine (dif_pos fun a => ?_).trans (congrArg x (funext fun a => Fin.ext ?_))
    · fin_cases a
      · show 0 ≤ p.val * 1 + (w 0).val ∧ p.val * 1 + (w 0).val - 0 < 8
        omega
      · show 255 ≤ l.val * 1 + (w 1).val ∧ l.val * 1 + (w 1).val - 255 < 256
        omega
      · show 0 ≤ r.val * 1 + (w 2).val ∧ r.val * 1 + (w 2).val - 0 < 12
        omega
    · fin_cases a
      · show p.val * 1 + (w 0).val - 0 = p.val
        omega
      · show l.val * 1 + (w 1).val - 255 = k.val
        omega
      · show r.val * 1 + (w 2).val - 0 = r.val
        omega
  · have hk' := Fin.lt_def.1 (not_le.1 hk)
    rw [if_neg hk] at hv ⊢
    refine dif_neg fun hin => ?_
    have : 255 ≤ l.val * 1 + (w 1).val := (hin 1).1
    omega

variable (x0 : (⟨S8x256x512, .bf16⟩ : BufTy).Contents (Elt Ideal)) (x1 : (⟨S8x256x768, .bf16⟩ : BufTy).Contents (Elt Ideal))
  (x2 : (⟨S8x32x256, .f32⟩ : BufTy).Contents (Elt Ideal)) (x3 : (⟨S1x2x12, .f32⟩ : BufTy).Contents (Elt Ideal))

/-- The logarithms of the forward decays. -/
theorem logF_apply (p : Fin 8) (l : Fin 256) (r : Fin 12) :
    val_main_v16 (F := Ideal) x2 x3 (ix3 p l r) = x2 (ix3 p ⟨r.val, by omega⟩ l) * ((0 : EReal) - Ideal.exp (x3 (ix3 0 0 r))) := by
  pointwise [val_main_v16, val_main_v15, val_main_v14, val_main_v13, val_main_v12, val_main_v11, val_main_v10, val_main_v9, val_main_v8,
    val_main_v7, val_main_v6, val_main_v5, val_main_v4]
  rw [zero_sub]

/-- The logarithms of the backward decays, the last step first. -/
theorem logB_apply (p : Fin 8) (l : Fin 256) (r : Fin 12) :
    val_main_v38 (F := Ideal) x2 x3 (ix3 p l r) = x2 (ix3 p ⟨12 + r.val, by omega⟩ l.rev) * ((0 : EReal) - Ideal.exp (x3 (ix3 0 1 r))) := by
  pointwise [val_main_v38, val_main_v37, val_main_v36, val_main_v34, val_main_v33, val_main_v32, val_main_v31, val_main_v30, val_main_v9, val_main_v8,
    val_main_v7, val_main_v6, val_main_v5, val_main_v4]
  rw [zero_sub]
  rfl

/-- Their running sums. -/
theorem csF_apply (p : Fin 8) (l : Fin 256) (r : Fin 12) : val_main_v17 (F := Ideal) x2 x3 (ix3 p l r) =
    Scan.csum (fun k => x2 (ix3 p ⟨r.val, by omega⟩ k) * ((0 : EReal) - Ideal.exp (x3 (ix3 0 0 r)))) l := by
  refine (cumsum_apply _ _ ?_ _ _ p l r).trans (congrArg (Scan.csum · l) (funext fun k => logF_apply x2 x3 p k r))
  pointwise [val_main_call0_call0_v0, val_main_call0_call0_cst]

theorem csB_apply (p : Fin 8) (l : Fin 256) (r : Fin 12) : val_main_v39 (F := Ideal) x2 x3 (ix3 p l r) =
    Scan.csum (fun k => x2 (ix3 p ⟨12 + r.val, by omega⟩ k.rev) * ((0 : EReal) - Ideal.exp (x3 (ix3 0 1 r)))) l := by
  refine (cumsum_apply _ _ ?_ _ _ p l r).trans (congrArg (Scan.csum · l) (funext fun k => logB_apply x2 x3 p k r))
  pointwise [val_main_call4_call0_v0, val_main_call4_call0_cst]

/-- The keys, inputs and steps of the backward direction, the last first. -/
theorem keyB_apply (p : Fin 8) (l : Fin 256) (g : Fin 4) (n : Fin 128) :
    val_main_v35 (F := Ideal) x0 (ix4 p l g n) = x0 (ix3 p l.rev ⟨g.val * 128 + n.val, by omega⟩) := by
  pointwise [val_main_v35, val_main_v3, val_main_v2]
  rfl

theorem inB_apply (p : Fin 8) (l : Fin 256) (r : Fin 12) (e : Fin 64) :
    val_main_v29 (F := Ideal) x1 (ix4 p l r e) = x1 (ix3 p l.rev ⟨r.val * 64 + e.val, by omega⟩) := by
  pointwise [val_main_v29, val_main_v1, val_main_v0]
  rfl

theorem stepB_apply (p : Fin 8) (l : Fin 256) (r : Fin 12) :
    val_main_v32 (F := Ideal) x2 (ix3 p l r) = x2 (ix3 p ⟨12 + r.val, by omega⟩ l.rev) := by
  pointwise [val_main_v32, val_main_v31, val_main_v30, val_main_v6, val_main_v5, val_main_v4]
  rfl

/-- The weights of the forward direction's inputs. -/
theorem weightF_apply (p : Fin 8) (l : Fin 256) (r : Fin 12) : val_main_v22 (F := Ideal) x2 x3 (ix3 p l r) =
    x2 (ix3 p ⟨r.val, by omega⟩ l) * Ideal.exp
      (Scan.csum (fun k => x2 (ix3 p ⟨r.val, by omega⟩ k) * ((0 : EReal) - Ideal.exp (x3 (ix3 0 0 r)))) 255 -
        Scan.csum (fun k => x2 (ix3 p ⟨r.val, by omega⟩ k) * ((0 : EReal) - Ideal.exp (x3 (ix3 0 0 r)))) l) := by
  rw [← csF_apply x2 x3 p 255 r, ← csF_apply x2 x3 p l r]
  pointwise [val_main_v22, val_main_v21, val_main_v20, val_main_v19, val_main_v18, val_main_v11, val_main_v10, val_main_v6, val_main_v5, val_main_v4]

/-- The weights of the backward direction's inputs, the last first. -/
theorem weightB_apply (p : Fin 8) (l : Fin 256) (r : Fin 12) : val_main_v44 (F := Ideal) x2 x3 (ix3 p l r) =
    x2 (ix3 p ⟨12 + r.val, by omega⟩ l.rev) * Ideal.exp
      (Scan.csum (fun k => x2 (ix3 p ⟨12 + r.val, by omega⟩ k.rev) * ((0 : EReal) - Ideal.exp (x3 (ix3 0 1 r)))) 255 -
        Scan.csum (fun k => x2 (ix3 p ⟨12 + r.val, by omega⟩ k.rev) * ((0 : EReal) - Ideal.exp (x3 (ix3 0 1 r)))) l) := by
  rw [← csB_apply x2 x3 p 255 r, ← csB_apply x2 x3 p l r, ← stepB_apply x2 p l r]
  pointwise [val_main_v44, val_main_v43, val_main_v42, val_main_v41, val_main_v40]

/-- The forward final state: the scan of the column's inputs. -/
theorem finalF_apply (p : Fin 8) (r : Fin 12) (e : Fin 64) (n : Fin 128) (d : Fin 256 → ℝ)
    (hd : ∀ l, x2 (ix3 p ⟨r.val, by omega⟩ l) = (d l : EReal)) :
    val_main_v28 (F := Ideal) x0 x1 x2 x3 (ix4 p r e n) =
      Scan.reach (fun l => x0 (ix3 p l ⟨r.val / 3 * 128 + n.val, by omega⟩)) (fun l => x1 (ix3 p l ⟨r.val * 64 + e.val, by omega⟩)) Scan.fwd d
        ((0 : EReal) - Ideal.exp (x3 (ix3 0 0 r))) := by
  rw [← Scan.whole_fwd _ _ _ _ (Scan.rate_cases _)]
  have hw := fun l => weightF_apply x2 x3 p l r
  simp only [hd] at hw
  simp only [← hw]
  clear hw
  pointwise [val_main_v28, val_main_v27, val_main_v26, val_main_v25, val_main_v24, val_main_v23, val_main_v1, val_main_v0, val_main_v3, val_main_v2]

/-- The backward final state. -/
theorem finalB_apply (p : Fin 8) (r : Fin 12) (e : Fin 64) (n : Fin 128) (d : Fin 256 → ℝ)
    (hd : ∀ l, x2 (ix3 p ⟨12 + r.val, by omega⟩ l) = (d l : EReal)) :
    val_main_v50 (F := Ideal) x0 x1 x2 x3 (ix4 p r e n) =
      Scan.reach (fun l => x0 (ix3 p l ⟨r.val / 3 * 128 + n.val, by omega⟩)) (fun l => x1 (ix3 p l ⟨r.val * 64 + e.val, by omega⟩)) Scan.bwd d
        ((0 : EReal) - Ideal.exp (x3 (ix3 0 1 r))) := by
  rw [← Scan.reach_rev _ _ _ _ (Scan.rate_cases _), ← Scan.whole_fwd _ _ _ _ (Scan.rate_cases _)]
  have e1 : r.val / 3 * 3 + r.val % 3 = r.val := by omega
  have hw := fun l => weightB_apply x2 x3 p l r
  simp only [hd] at hw
  simp only [← hw]
  clear hw
  pointwise [val_main_v50, val_main_v49, val_main_v48, val_main_v47, val_main_v46, val_main_v45]
  simp only [e1, keyB_apply, inB_apply]

/-- The reference's result at an index. -/
theorem result_apply (hx : ∀ (p : Fin 8) (r : Fin 24) (l : Fin 256), ∃ d : ℝ, x2 (ix3 p ⟨r.val, by omega⟩ l) = (d : EReal))
    (p : Fin 8) (q : Fin 2) (n : Fin 128) (c : Fin 768) : val_main_v55 (F := Ideal) x0 x1 x2 x3 (ix4 p q n c) =
      Scan.entry (fun p l j => x0 (ix3 p l j)) (fun p l j => x1 (ix3 p l j)) (fun p r l => x2 (ix3 p r l)) (fun q r => x3 (ix3 0 q r)) p q n c := by
  choose d hd using fun l => hx p ⟨12 * q.val + c.val / 64, by omega⟩ l
  unfold Scan.entry
  simp only [hd, EReal.toReal_coe]
  have e2 : c.val / 64 / 3 * 128 = 128 * (c.val / 192) := by omega
  have e3 : c.val / 64 * 64 + c.val % 64 = c.val := by omega
  pointwise [val_main_v55, val_main_v54, val_main_v53, val_main_v52, val_main_v51]
  fin_cases q
  · simp only [Nat.mul_zero, Nat.zero_add] at hd
    refine (dif_pos Nat.one_pos).trans ((finalF_apply x0 x1 x2 x3 p ⟨c.val / 64, by omega⟩ ⟨c.val % 64, by omega⟩ n d hd).trans ?_)
    simp only [e2, e3]
    rfl
  · simp only [Nat.mul_one] at hd
    refine (dif_neg (Nat.lt_irrefl 1)).trans ((finalB_apply x0 x1 x2 x3 p ⟨c.val / 64, by omega⟩ ⟨c.val % 64, by omega⟩ n d hd).trans ?_)
    simp only [e2, e3]
    rfl

end Cert.StateRefIdeal.Read

end
-- ==== Proof.StateClaim.lean ====
/-
  The value of the state scan: on finite steps the kernel and the reference end with equal results.
-/
module

public import proofs.«01_k».proof.Defs
public import proofs.«01_k».proof.Proof.Gen.Pre_finite_steps
public import proofs.«01_k».proof.Proof.StateFrame
public import proofs.«01_k».proof.Proof.StateValue
public import proofs.«01_k».proof.Proof.StateRef

@[expose] public section

noncomputable section

namespace Cert.StateClaim

open Idealize.ShloMosaic Idealize.ShloMosaic.TcCoe Idealize.SL.Sem

/-- The frame of the idealized kernel at a start with finite steps. -/
theorem frame_ideal_finite : Cert.quiescent_StateIdeal_pre_finite_steps := fun m ρ _ => frame_ideal m ρ trivial

/-- The frame of the reference at a start with finite steps. -/
theorem frame_ref_finite : Cert.quiescent_StateRefIdeal_pre_finite_steps := fun m ρ _ => frame_ref m ρ trivial

/-- An extended real of absolute value below infinity is real. -/
theorem real_of_abs_lt (y : EReal) (h : max y (-y) < ⊤) : ∃ d : ℝ, y = d := by
  induction y with
  | bot => exact absurd ((le_max_right _ _).trans_lt h) (by rw [EReal.neg_bot]; exact lt_irrefl _)
  | coe d => exact ⟨d, rfl⟩
  | top => exact absurd ((le_max_left _ _).trans_lt h) (lt_irrefl _)

/-- The bit of a truth value is one only for true. -/
theorem of_bit (b : Bool) (h : BitVec.ofBool b = 1#1) : b = true := by
  cases b
  · exact absurd h (by decide)
  · rfl

/-- The precondition says that the steps are real. -/
theorem steps (m : (ℓ : Loc Cert.StateIdeal.nD Cert.StateIdeal.τ Cert.StateIdeal.sig) → Buf (Elt Ideal) ℓ)
    (h : Cert.Pre_StateIdeal_finite_steps m) (c : Dev Cert.StateIdeal.nD) : Cert.StateIdeal.Gen.Steps m c := by
  intro p r l
  have e := congrFun (h c) (ix3 p r l)
  unfold Cert.Pre_finite_steps.fn at e
  pointwise at e
  have hlt := of_decide_eq_true (of_bit _ e)
  have htop : Ideal.ofBits .f32 0x7F800000#32 = ⊤ := by simp [Ideal.ofBits, Ideal.ieee]
  rw [htop] at hlt
  exact real_of_abs_lt _ hlt

/-- On equal arguments with finite steps the kernel and the reference end with equal results. -/
theorem algebraic : Cert.algebraic_StateIdeal_StateRefIdeal_pre_finite_steps := fun m ρ m' ρ' hpre hag =>
  ⟨fun c => Cert.StateIdeal.Gen.result m c,
    (θ_run _ _ _).mono (fun _ h c => ⟨(h c).1.trans (Cert.StateIdeal.Gen.arr_eq m c (steps m hpre c)), (h c).2⟩)
      (Cert.StateIdeal.Value.run_blocks (F := Ideal) m ρ),
    (θ_run _ _ _).mono (fun _ h c => ⟨(h c).1.trans (by
        obtain ⟨h0, h1, h2, h3⟩ := hag c
        rw [Cert.StateRefIdeal.Read.val_main_v55_eq, h0, h1, h2, h3]
        funext i
        obtain ⟨p, q, n, k, rfl⟩ : ∃ (p : Fin 8) (q : Fin 2) (n : Fin 128) (k : Fin 768), i = ix4 p q n k := ⟨i 0, i 1, i 2, i 3, eq_ix4 i⟩
        exact Cert.StateRefIdeal.Read.result_apply _ _ _ _ (steps m hpre c) p q n k), (h c).2⟩)
      (Cert.StateRefIdeal.Value.run (F := Ideal) m' ρ')⟩

end Cert.StateClaim

end
-- ==== Proof.Rows.lean ====
/-
  The arithmetic of one token of the gated feed-forward layer, over the extended reals: no array and no program
  occurs here. Both the kernels and the references are later shown to compute these functions of a token's row.
-/
module

public import Idealize.ShloMosaic.Lib.Pointwise

@[expose] public section

noncomputable section

namespace Cert.Rows

open Idealize.ShloMosaic

/-- The width of a row, as the float constant the programs divide by. -/
abbrev width : EReal := Ideal.ofBits .f32 0x44800000#32
/-- The small constant added below the root. -/
abbrev eps : EReal := Ideal.ofBits .f32 0x358637BD#32
/-- The factor one half. -/
abbrev half : EReal := Ideal.ofBits .f32 0x3F000000#32

/-- The factor of root-mean-square normalisation of a row: one over the root of its mean square plus `eps`. -/
def rms (v : Fin 1024 → EReal) : EReal := Ideal.rsqrt (Ideal.div (∑ k, v k * v k) width + eps)

/-- A row normalised, scaled by a gain and by one plus a modulation, and shifted. -/
def hidden (v gain scale shift : Fin 1024 → EReal) (k : Fin 1024) : EReal :=
  v k * rms v * (gain k * (1 + scale k)) + shift k

/-- `a` times the logistic function of `a`. -/
def silu (a : EReal) : EReal := a * Ideal.div 1 (1 + Ideal.exp (0 - a))

/-- One hidden unit of the gated layer: silu of the gate's inner product times the other inner product. -/
def unit (h wg wu : Fin 1024 → EReal) : EReal := silu (∑ k, h k * wg k) * ∑ k, h k * wu k

/-- The layer's projection back: the sum over all hidden units. -/
def down (h : Fin 1024 → EReal) (wg wu : Fin 1024 → Fin 2816 → EReal) (wd : Fin 2816 → Fin 1024 → EReal) (n : Fin 1024) :
    EReal :=
  ∑ j, unit h (fun k => wg k j) (fun k => wu k j) * wd j n

/-- The residual: the row plus its update normalised, with its gate and gain. -/
def residual (v upd gate gain : Fin 1024 → EReal) (n : Fin 1024) : EReal :=
  v n + upd n * rms upd * (half * gate n * gain n)

/-- The mixer's residual: the row plus the normalised projection with its gate and gain. -/
def mixed (v proj gate gain : Fin 1024 → EReal) (n : Fin 1024) : EReal := v n + proj n * rms proj * (gate n * gain n)

/-- The order of the factors in the mixer's residual does not matter. -/
theorem mixed_eq (v proj gate gain : Fin 1024 → EReal) (n : Fin 1024) :
    v n + gate n * (proj n * rms proj * gain n) = mixed v proj gate gain n := by
  rw [mixed]
  congr 1
  ac_rfl

/-- The whole layer on one row. -/
def layer (v gpre gpost shift scale gate : Fin 1024 → EReal) (wg wu : Fin 1024 → Fin 2816 → EReal)
    (wd : Fin 2816 → Fin 1024 → EReal) : Fin 1024 → EReal :=
  residual v (down (hidden v gpre scale shift) wg wu wd) gate gpost

/-- A sum over 2816 indices is the sum of its parts over the first 1024, the next 1024 and the last 768. -/
theorem sum_split (f : Fin 2816 → EReal) :
    ∑ j, f j = ((∑ j : Fin 1024, f ⟨j.val, by omega⟩) + ∑ j : Fin 1024, f ⟨1024 + j.val, by omega⟩) +
      ∑ j : Fin 768, f ⟨2048 + j.val, by omega⟩ := by
  have h1 := Fin.sum_univ_add (M := EReal) (a := 2048) (b := 768) f
  have h2 := Fin.sum_univ_add (M := EReal) (a := 1024) (b := 1024) (fun j : Fin 2048 => f (Fin.castAdd 768 j))
  exact h1.trans (congrArg (· + ∑ j : Fin 768, f (Fin.natAdd 2048 j)) h2)

/-- The projection back, summed over the three parts of the hidden units one after another. -/
theorem down_split (h : Fin 1024 → EReal) (wg wu : Fin 1024 → Fin 2816 → EReal) (wd : Fin 2816 → Fin 1024 → EReal)
    (n : Fin 1024) :
    down h wg wu wd n =
      ((∑ j : Fin 1024, unit h (fun k => wg k ⟨j.val, by omega⟩) (fun k => wu k ⟨j.val, by omega⟩) * wd ⟨j.val, by omega⟩ n) +
        ∑ j : Fin 1024, unit h (fun k => wg k ⟨1024 + j.val, by omega⟩) (fun k => wu k ⟨1024 + j.val, by omega⟩) *
          wd ⟨1024 + j.val, by omega⟩ n) +
        ∑ j : Fin 768, unit h (fun k => wg k ⟨2048 + j.val, by omega⟩) (fun k => wu k ⟨2048 + j.val, by omega⟩) *
          wd ⟨2048 + j.val, by omega⟩ n :=
  sum_split _

/-- The order of the factors in the modulated row does not matter. -/
theorem hidden_eq (v gain scale shift : Fin 1024 → EReal) (k : Fin 1024) :
    v k * rms v * gain k * (1 + scale k) + shift k = hidden v gain scale shift k := by
  rw [hidden, mul_assoc (v k * rms v)]

/-- The order of the factors in the residual does not matter. -/
theorem residual_eq (v upd gate gain : Fin 1024 → EReal) (n : Fin 1024) :
    v n + half * gate n * (upd n * rms upd * gain n) = residual v upd gate gain n := by
  rw [residual]
  congr 1
  ac_rfl

end Cert.Rows

end
-- ==== Proof.FfnTile.lean ====
/-
  What the feed-forward kernel's body computes for one block of 1024 tokens, index by index: each of its four stores
  is the same computation of a group of 256 rows, and one row of it is `Rows.layer` of that row.
-/
module

public import Idealize.ShloMosaic.Lib.Pointwise
public import proofs.«01_k».proof.Proof.Gen.FfnIdeal.Value
public import proofs.«01_k».proof.Proof.Rows

@[expose] public section

set_option maxRecDepth 16384

noncomputable section

namespace Cert.FfnIdeal.Gen

open Idealize.ShloMosaic Idealize.ShloMosaic.TcCoe Idealize.SL.Sem

/-- The computation of 256 rows `xs`, from the modulation rows, the two gains and the three weights, as the first
    store writes it. -/
def tile (mod : Vec Ideal S1x9x1024 .f32) (gpre gpost : Vec Ideal S1x1024 .f32) (xs : Vec Ideal S1x256x1024 .f32)
    (wg wu : Vec Ideal S1024x2816 .bf16) (wd : Vec Ideal S2816x1024 .bf16) : FVec Ideal S1x256x1024 .f32 :=
  k0_pay12 (k0_pay5 (View.ld mod r0_0) (View.ld gpost r0_1)) (k0_pay6 xs)
    (k0_pay7 (View.ld mod r0_0) (View.ld gpre r0_1) xs)
    (k0_pay10 (k0_pay7 (View.ld mod r0_0) (View.ld gpre r0_1) xs)
      (k0_pay8 (View.ld mod r0_0) (View.ld gpre r0_1) xs (View.ld wg r0_3)) (k0_pay9 (View.ld wu r0_3))
      (constant S256x1024 .f32 0x00000000#32) (View.ld wd r0_4) (View.ld wg r0_5) (View.ld wu r0_5) (View.ld wd r0_6))
    (k0_pay11 (k0_pay7 (View.ld mod r0_0) (View.ld gpre r0_1) xs) (View.ld wg r0_7)) (View.ld wu r0_7) (View.ld wd r0_8)

/-- The body leaves in its output block the four stores of `tile`, one per group of 256 rows. -/
theorem out_eq (x0 : Vec Ideal S1x1024x1024 .f32) (x1 : Vec Ideal S1x9x1024 .f32) (x2 x3 : Vec Ideal S1x1024 .f32)
    (x4 x5 : Vec Ideal S1024x2816 .bf16) (x6 : Vec Ideal S2816x1024 .bf16) :
    out0_7 (F := Ideal) x0 x1 x2 x3 x4 x5 x6 =
      View.canon [⟨r0_11, tile x1 x2 x3 (View.ld x0 r0_11) x4 x5 x6⟩, ⟨r0_10, tile x1 x2 x3 (View.ld x0 r0_10) x4 x5 x6⟩,
        ⟨r0_9, tile x1 x2 x3 (View.ld x0 r0_9) x4 x5 x6⟩, ⟨r0_2, tile x1 x2 x3 (View.ld x0 r0_2) x4 x5 x6⟩] := rfl

/-- The modulated, normalised rows at an index. -/
theorem hidden_apply (mod : Vec Ideal S1x9x1024 .f32) (g : Vec Ideal S1x1024 .f32) (xs : Vec Ideal S1x256x1024 .f32)
    (r : Fin 256) (k : Fin 1024) :
    k0_pay7 (F := Ideal) (View.ld mod r0_0) (View.ld g r0_1) xs (ix2 r k) =
      Rows.hidden (fun k => xs (ix3 0 r k)) (fun k => g (ix2 0 k)) (fun k => mod (ix3 0 1 k)) (fun k => mod (ix3 0 0 k)) k := by
  pointwise [k0_pay7, k0_pay6, k0_pay4, k0_pay3, k0_pay2]
  rfl

/-- One row of `tile` is the layer of that row. -/
theorem tile_apply (mod : Vec Ideal S1x9x1024 .f32) (gpre gpost : Vec Ideal S1x1024 .f32)
    (xs : Vec Ideal S1x256x1024 .f32) (wg wu : Vec Ideal S1024x2816 .bf16) (wd : Vec Ideal S2816x1024 .bf16)
    (r : Fin 256) (n : Fin 1024) :
    tile mod gpre gpost xs wg wu wd (ix3 0 r n) =
      Rows.layer (fun k => xs (ix3 0 r k)) (fun k => gpre (ix2 0 k)) (fun k => gpost (ix2 0 k)) (fun k => mod (ix3 0 0 k))
        (fun k => mod (ix3 0 1 k)) (fun k => mod (ix3 0 2 k)) (fun k j => wg (ix2 k j)) (fun k j => wu (ix2 k j))
        (fun j n => wd (ix2 j n)) n := by
  have hh := hidden_apply mod gpre xs r
  unfold tile k0_pay8
  generalize k0_pay7 (F := Ideal) (View.ld mod r0_0) (View.ld gpre r0_1) xs = h at hh ⊢
  have hd := fun n => Rows.down_split (fun k => h (ix2 r k)) (fun k j => wg (ix2 k j)) (fun k j => wu (ix2 k j))
    (fun j n => wd (ix2 j n)) n
  unfold Rows.layer
  rw [← funext hh]
  unfold Rows.residual Rows.rms
  simp only [hd]
  pointwise [k0_pay12, k0_pay10, k0_pay11, k0_pay9, k0_pay6, k0_pay5, k0_pay2]
  rfl

end Cert.FfnIdeal.Gen

end
-- ==== Proof.FfnValue.lean ====
/-
  The feed-forward kernel's result array: row `s` of batch `b` is `Rows.layer` of that row of the argument.
-/
module

public import Idealize.ShloMosaic.Lib.Pipeline.ValueKit
public import Idealize.ShloMosaic.Lib.Claim
public import proofs.«01_k».proof.Proof.FfnTile

@[expose] public section

set_option maxRecDepth 16384

noncomputable section

namespace Cert.FfnIdeal.Gen

open Idealize.ShloMosaic Idealize.ShloMosaic.TcCoe Idealize.SL.Sem

/-- The output block index by index: the layer of the block's row. -/
theorem out_apply (x0 : Vec Ideal S1x1024x1024 .f32) (x1 : Vec Ideal S1x9x1024 .f32) (x2 x3 : Vec Ideal S1x1024 .f32)
    (x4 x5 : Vec Ideal S1024x2816 .bf16) (x6 : Vec Ideal S2816x1024 .bf16) (y : S1x1024x1024.Idx) :
    out0_7 (F := Ideal) x0 x1 x2 x3 x4 x5 x6 y =
      Rows.layer (fun k => x0 (ix3 0 (y 1) k)) (fun k => x2 (ix2 0 k)) (fun k => x3 (ix2 0 k)) (fun k => x1 (ix3 0 0 k))
        (fun k => x1 (ix3 0 1 k)) (fun k => x1 (ix3 0 2 k)) (fun k j => x4 (ix2 k j)) (fun k j => x5 (ix2 k j))
        (fun j n => x6 (ix2 j n)) (y 2) := by
  rw [out_eq]
  have piece : ∀ (o : ℕ) (inb : ∀ a : Fin 3, (![0, o, 0] : Fin 3 → ℕ) a + S1x256x1024.size a ≤ S1x1024x1024.size a) (x : S1x256x1024.Idx),
      tile x1 x2 x3 (View.ld x0 (Rect.unit (s := S1x1024x1024) ![0, o, 0] S1x256x1024.size inb)) x4 x5 x6 x =
      (fun y : S1x1024x1024.Idx => Rows.layer (fun k => x0 (ix3 0 (y 1) k)) (fun k => x2 (ix2 0 k)) (fun k => x3 (ix2 0 k)) (fun k => x1 (ix3 0 0 k))
        (fun k => x1 (ix3 0 1 k)) (fun k => x1 (ix3 0 2 k)) (fun k j => x4 (ix2 k j)) (fun k j => x5 (ix2 k j))
        (fun j n => x6 (ix2 j n)) (y 2)) ((Rect.unit (s := S1x1024x1024) ![0, o, 0] S1x256x1024.size inb).emb x) := by
    intro o inb x
    obtain ⟨r, n, rfl⟩ : ∃ (r : Fin 256) (n : Fin 1024), x = ix3 0 r n := ⟨x 1, x 2, by
      refine (eq_ix3 x).trans ?_; congr 1; exact Subsingleton.elim _ _⟩
    rw [tile_apply]
    dsimp only
    congr 1
    · funext k
      rw [View.ld_apply]
      congr 1
      refine (eq_ix3 _).trans ?_
      congr 1 <;> refine Fin.ext ?_ <;> rw [Rect.idx_unit_val] <;> exact Nat.zero_add _
    · exact Fin.ext ((Rect.idx_unit_val _ _ _ _ 2).trans (Nat.zero_add _)).symm
  refine View.canon_apply_of_pieces (Val := Elt Ideal) (fun y : S1x1024x1024.Idx => Rows.layer (fun k => x0 (ix3 0 (y 1) k)) (fun k => x2 (ix2 0 k)) (fun k => x3 (ix2 0 k)) (fun k => x1 (ix3 0 0 k))
        (fun k => x1 (ix3 0 1 k)) (fun k => x1 (ix3 0 2 k)) (fun k j => x4 (ix2 k j)) (fun k j => x5 (ix2 k j))
        (fun j n => x6 (ix2 j n)) (y 2)) _ (fun p hp => ?_) y (cover0_7 _ _ _ _ y)
  simp only [List.mem_cons, List.not_mem_nil, or_false] at hp
  rcases hp with rfl | rfl | rfl | rfl
  · exact piece 768 _
  · exact piece 512 _
  · exact piece 256 _
  · exact piece 0 _

variable (m : (ℓ : Loc nD τ sig) → Buf (Elt Ideal) ℓ)

/-- The block indices of the eight windows at a grid point. -/
theorem idx_all : ∀ t : Fin grid0.N, win0_0.index t = ![t.val / 4, t.val % 4, 0] ∧ win0_1.index t = ![t.val / 4, 0, 0] ∧
    win0_2.index t = ![0, 0] ∧ win0_3.index t = ![0, 0] ∧ win0_4.index t = ![0, 0] ∧ win0_5.index t = ![0, 0] ∧
    win0_6.index t = ![0, 0] ∧ win0_7.index t = ![t.val / 4, t.val % 4, 0] := by decide +kernel

/-- The kernel's result, as a function of the argument arrays. -/
def result (c : Dev nD) : S8x4096x1024.Idx → EReal := fun i =>
  Rows.layer (fun k => m ((c.tc : Thread nD τ).loc main_arg0) (ix3 (i 0) (i 1) k))
    (fun k => m ((c.tc : Thread nD τ).loc main_arg2) (ix2 0 k)) (fun k => m ((c.tc : Thread nD τ).loc main_arg3) (ix2 0 k))
    (fun k => m ((c.tc : Thread nD τ).loc main_arg1) (ix3 ⟨(i 0).val, by have := (i 0).isLt; exact Nat.lt_of_lt_of_le this (by decide)⟩ 0 k))
    (fun k => m ((c.tc : Thread nD τ).loc main_arg1) (ix3 ⟨(i 0).val, by have := (i 0).isLt; exact Nat.lt_of_lt_of_le this (by decide)⟩ 1 k))
    (fun k => m ((c.tc : Thread nD τ).loc main_arg1) (ix3 ⟨(i 0).val, by have := (i 0).isLt; exact Nat.lt_of_lt_of_le this (by decide)⟩ 2 k))
    (fun k j => m ((c.tc : Thread nD τ).loc main_arg4) (ix3 0 k j)) (fun k j => m ((c.tc : Thread nD τ).loc main_arg5) (ix3 0 k j))
    (fun j n => m ((c.tc : Thread nD τ).loc main_arg6) (ix3 0 j n)) (i 2)

/-- The gain before the layer, as the host hands it over. -/
theorem host_gpre (c : Dev nD) (k : Fin 1024) :
    (V m c main_v1 : S1x1024.Idx → EReal) (ix2 0 k) = m ((c.tc : Thread nD τ).loc main_arg2) (ix2 0 k) := by
  entry_read; pointwise

/-- The gain after the layer, as the host hands it over. -/
theorem host_gpost (c : Dev nD) (k : Fin 1024) :
    (V m c main_v3 : S1x1024.Idx → EReal) (ix2 0 k) = m ((c.tc : Thread nD τ).loc main_arg3) (ix2 0 k) := by
  entry_read; pointwise

/-- The gate weight, as the host hands it over. -/
theorem host_wg (c : Dev nD) (k : Fin 1024) (j : Fin 2816) :
    (V m c main_v5 : S1024x2816.Idx → EReal) (ix2 k j) = m ((c.tc : Thread nD τ).loc main_arg4) (ix3 0 k j) := by
  entry_read; pointwise

/-- The up weight, as the host hands it over. -/
theorem host_wu (c : Dev nD) (k : Fin 1024) (j : Fin 2816) :
    (V m c main_v7 : S1024x2816.Idx → EReal) (ix2 k j) = m ((c.tc : Thread nD τ).loc main_arg5) (ix3 0 k j) := by
  entry_read; pointwise

/-- The down weight, as the host hands it over. -/
theorem host_wd (c : Dev nD) (k : Fin 2816) (j : Fin 1024) :
    (V m c main_v9 : S2816x1024.Idx → EReal) (ix2 k j) = m ((c.tc : Thread nD τ).loc main_arg6) (ix3 0 k j) := by
  entry_read; pointwise

/-- The output array after the run. -/
theorem arr_eq (c : Dev nD) : (dats m 0 c).arrAt 7 cfg0.N = result m c := by
  refine (dats m 0 c).arrAt_eq_of_covers 7 _ (by decide +kernel) fun t hf y => ?_
  blk_simp
  rw [after0_7]
  rw [out_apply]
  obtain ⟨h0, h1, h2, h3, h4, h5, h6, h7⟩ := idx_all t
  unfold result
  congr 1
  all_goals try (funext k)
  all_goals try (funext j)
  all_goals dsimp only
  · blk_ext [iblk, V, h0, h7]
  · refine Eq.trans ?_ (host_gpre m c k)
    blk_ext [iblk, h2]
  · refine Eq.trans ?_ (host_gpost m c k)
    blk_ext [iblk, h3]
  · blk_ext [iblk, V, h1, h7]
  · blk_ext [iblk, V, h1, h7]
  · blk_ext [iblk, V, h1, h7]
  · refine Eq.trans ?_ (host_wg m c k j)
    blk_ext [iblk, h4]
  · refine Eq.trans ?_ (host_wu m c k j)
    blk_ext [iblk, h5]
  · refine Eq.trans ?_ (host_wd m c k j)
    blk_ext [iblk, h6]
  · refine Fin.ext ?_
    blk_simp [h7]

end Cert.FfnIdeal.Gen

end
-- ==== Proof.FfnRef.lean ====
/-
  The feed-forward reference's result array, index by index: the layer of the row.
-/
module

public import Idealize.ShloMosaic.Lib.Pointwise
public import proofs.«01_k».proof.Proof.Gen.FfnRefIdeal.Read
public import proofs.«01_k».proof.Proof.Rows

@[expose] public section

set_option maxRecDepth 16384

noncomputable section

namespace Cert.FfnRefIdeal.Read

open Cert.FfnRefIdeal Idealize.ShloMosaic Idealize.ShloMosaic.TcCoe Idealize.SL.Sem

variable (x0 : (⟨S8x4096x1024, .f32⟩ : BufTy).Contents (Elt Ideal)) (x1 : (⟨S16x9x1024, .f32⟩ : BufTy).Contents (Elt Ideal))
  (x2 x3 : (⟨S1x1024, .f32⟩ : BufTy).Contents (Elt Ideal)) (x4 x5 : (⟨S1x1024x2816, .f32⟩ : BufTy).Contents (Elt Ideal))
  (x6 : (⟨S1x2816x1024, .f32⟩ : BufTy).Contents (Elt Ideal))

/-- The batch index among the sixteen of the modulation. -/
abbrev up (b : Fin 8) : Fin 16 := ⟨b.val, by omega⟩

/-- The modulated, normalised row. -/
theorem hidden_apply (b : Fin 8) (s : Fin 4096) (k : Fin 1024) :
    val_main_v31 (F := Ideal) x0 x1 x2 (ix3 b s k) =
      Rows.hidden (fun k => x0 (ix3 b s k)) (fun k => x2 (ix2 0 k)) (fun k => x1 (ix3 (up b) 1 k))
        (fun k => x1 (ix3 (up b) 0 k)) k := by
  rw [← Rows.hidden_eq]
  pointwise [val_main_v31, val_main_v30, val_main_v29, val_main_v28, val_main_v27, val_main_v26, val_main_v25, val_main_v24, val_main_v23,
    val_main_v22, val_main_v21, val_main_v20, val_main_v19, val_main_v18, val_main_v17, val_main_v16, val_main_v15, val_main_v14,
    val_main_v13, val_main_v12, val_main_v11, val_main_v10, val_main_v9, val_main_v8, val_main_v7, val_main_v2, val_main_v1, val_main_v0,
    val_main_cst, val_main_cst_0, val_main_cst_1, val_main_cst_2]
  rfl

/-- The projection back. -/
theorem down_apply (b : Fin 8) (s : Fin 4096) (n : Fin 1024) :
    val_main_v36 (F := Ideal) x0 x1 x2 x4 x5 x6 (ix3 b s n) =
      Rows.down (fun k => val_main_v31 (F := Ideal) x0 x1 x2 (ix3 b s k)) (fun k j => x4 (ix3 0 k j)) (fun k j => x5 (ix3 0 k j))
        (fun j n => x6 (ix3 0 j n)) n := by
  unfold val_main_v36 val_main_v35 val_main_v34 val_main_v33 val_main_call0_v5 val_main_call0_v3 val_main_call0_v1 val_main_call0_v0 val_main_v32
  generalize val_main_v31 (F := Ideal) x0 x1 x2 = h
  pointwise [val_main_v4, val_main_v5, val_main_v6, val_main_call0_v4, val_main_call0_v2, val_main_call0_cst, val_main_call0_cst_0]
  simp only [← zero_sub]
  rfl

/-- The reference's result at an index. -/
theorem result_apply (b : Fin 8) (s : Fin 4096) (n : Fin 1024) :
    val_main_v57 (F := Ideal) x0 x1 x2 x3 x4 x5 x6 (ix3 b s n) =
      Rows.layer (fun k => x0 (ix3 b s k)) (fun k => x2 (ix2 0 k)) (fun k => x3 (ix2 0 k)) (fun k => x1 (ix3 (up b) 0 k))
        (fun k => x1 (ix3 (up b) 1 k)) (fun k => x1 (ix3 (up b) 2 k)) (fun k j => x4 (ix3 0 k j)) (fun k j => x5 (ix3 0 k j))
        (fun j n => x6 (ix3 0 j n)) n := by
  have hd := down_apply x0 x1 x2 x4 x5 x6 b s
  unfold Rows.layer
  rw [← funext (hidden_apply x0 x1 x2 b s), ← funext hd, ← Rows.residual_eq]
  unfold val_main_v57 val_main_v56 val_main_v54 val_main_v51 val_main_v50 val_main_v49 val_main_v48 val_main_v46 val_main_v44 val_main_v43 val_main_v42
  generalize val_main_v36 (F := Ideal) x0 x1 x2 x4 x5 x6 = u
  pointwise [val_main_v55, val_main_v53, val_main_v52, val_main_v47, val_main_v45, val_main_v41, val_main_v40, val_main_v39,
    val_main_v38, val_main_v37, val_main_v3, val_main_v1, val_main_v0, val_main_cst_3, val_main_cst_4, val_main_cst_5, val_main_cst_6]
  rfl

end Cert.FfnRefIdeal.Read

end
-- ==== Proof.FfnClaim.lean ====
/-
  The claims about the first feed-forward layer: the frames of its three programs and the equality of the kernel's
  and the reference's results over the extended reals.
-/
module

public import proofs.«01_k».proof.Defs
public import proofs.«01_k».proof.Proof.Gen.Ffn.Frame
public import proofs.«01_k».proof.Proof.Gen.FfnRefIdeal.Run
public import proofs.«01_k».proof.Proof.FfnValue
public import proofs.«01_k».proof.Proof.FfnRef
public import Idealize.ShloMosaic.Lib.Quiescent

@[expose] public section

noncomputable section

namespace Cert.FfnClaim

open Idealize.ShloMosaic Idealize.ShloMosaic.TcCoe Idealize.SL.Sem

/-- The kernel leaves its arguments, ends and leaves every semaphore at zero. -/
theorem frame : Cert.quiescent_Ffn := fun m ρ _ => Cert.Ffn.Gen.frame m ρ

/-- So does its idealization. -/
theorem frame_ideal : Cert.quiescent_FfnIdeal := fun m ρ _ => Cert.FfnIdeal.Gen.frame m ρ

/-- So does the reference. -/
theorem frame_ref : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The idealization changes no operation. -/
theorem preserves : Cert.preserves_Ffn_FfnIdeal := trivial

/-- On equal arguments the kernel and the reference end with equal results. -/
theorem algebraic : Cert.algebraic_FfnIdeal_FfnRefIdeal := fun m ρ m' ρ' _ hag =>
  ⟨fun c => Cert.FfnIdeal.Gen.result m c,
    (θ_run _ _ _).mono (fun _ h c => ⟨(h c).1.trans (Cert.FfnIdeal.Gen.arr_eq m c), (h c).2⟩)
      (Cert.FfnIdeal.Value.run_blocks (F := Ideal) m ρ),
    (θ_run _ _ _).mono (fun _ h c => ⟨(h c).1.trans (by
        obtain ⟨h0, h1, h2, h3, h4, h5, h6⟩ := hag c
        rw [Cert.FfnRefIdeal.Read.val_main_v57_eq, h0, h1, h2, h3, h4, h5, h6]
        funext i
        obtain ⟨b, s, n, rfl⟩ : ∃ (b : Fin 8) (s : Fin 4096) (n : Fin 1024), i = ix3 b s n := ⟨i 0, i 1, i 2, eq_ix3 i⟩
        exact Cert.FfnRefIdeal.Read.result_apply _ _ _ _ _ _ _ b s n), (h c).2⟩)
      (Cert.FfnRefIdeal.Value.run (F := Ideal) m' ρ')⟩

end Cert.FfnClaim

end
-- ==== Proof.FfnPostTile.lean ====
/-
  What the second feed-forward kernel's body computes for one block of 1024 tokens, index by index: each of its four
  stores is the same computation of a group of 256 rows; one row of it is `Rows.layer` of the row that the mixer's
  residual, `Rows.mixed`, leaves.
-/
module

public import Idealize.ShloMosaic.Lib.Pointwise
public import proofs.«01_k».proof.Proof.Gen.FfnPostIdeal.Value
public import proofs.«01_k».proof.Proof.Rows

@[expose] public section

set_option maxRecDepth 16384

noncomputable section

namespace Cert.FfnPostIdeal.Gen

open Idealize.ShloMosaic Idealize.ShloMosaic.TcCoe Idealize.SL.Sem

/-- The rows after the mixer's residual: from the rows and the mixer's projections of them. -/
def mix (mod : Vec Ideal S1x9x1024 .f32) (gmix : Vec Ideal S1x1024 .f32) (xs ps : Vec Ideal S1x256x1024 .f32) :
    FVec Ideal S256x1024 .f32 :=
  k0_pay17 (k0_pay6 (View.ld mod r0_0) (View.ld gmix r0_1)) xs ps

/-- Those rows modulated and normalised. -/
def hid (mod : Vec Ideal S1x9x1024 .f32) (gmix gpre : Vec Ideal S1x1024 .f32) (xs ps : Vec Ideal S1x256x1024 .f32) :
    FVec Ideal S256x1024 .bf16 :=
  k0_pay18 (k0_pay3 (View.ld mod r0_0)) (k0_pay4 (View.ld mod r0_0) (View.ld gpre r0_1))
    (k0_pay6 (View.ld mod r0_0) (View.ld gmix r0_1)) xs ps

/-- The computation of 256 rows, as the second store writes it. -/
def tile (mod : Vec Ideal S1x9x1024 .f32) (gmix gpre gpost : Vec Ideal S1x1024 .f32) (xs ps : Vec Ideal S1x256x1024 .f32)
    (wg wu : Vec Ideal S1024x2816 .bf16) (wd : Vec Ideal S2816x1024 .bf16) : FVec Ideal S1x256x1024 .f32 :=
  k0_pay21 (k0_pay5 (View.ld mod r0_0) (View.ld gpost r0_1)) (mix mod gmix xs ps) (hid mod gmix gpre xs ps)
    (k0_pay19 (hid mod gmix gpre xs ps) (View.ld wg r0_3) (View.ld wu r0_3) (View.ld wd r0_4))
    (k0_pay20 (hid mod gmix gpre xs ps) (View.ld wg r0_5) (View.ld wu r0_5) (View.ld wd r0_6))
    (View.ld wg r0_7) (View.ld wu r0_7) (View.ld wd r0_8)

/-- The body leaves in its output block the four stores of `tile`, one per group of 256 rows. -/
theorem out_eq (x0 x1 : Vec Ideal S1x1024x1024 .f32) (x2 : Vec Ideal S1x9x1024 .f32) (x3 x4 x5 : Vec Ideal S1x1024 .f32)
    (x6 x7 : Vec Ideal S1024x2816 .bf16) (x8 : Vec Ideal S2816x1024 .bf16) :
    out0_9 (F := Ideal) x0 x1 x2 x3 x4 x5 x6 x7 x8 =
      View.canon [⟨r0_11, tile x2 x3 x4 x5 (View.ld x0 r0_11) (View.ld x1 r0_11) x6 x7 x8⟩,
        ⟨r0_10, tile x2 x3 x4 x5 (View.ld x0 r0_10) (View.ld x1 r0_10) x6 x7 x8⟩,
        ⟨r0_9, tile x2 x3 x4 x5 (View.ld x0 r0_9) (View.ld x1 r0_9) x6 x7 x8⟩,
        ⟨r0_2, tile x2 x3 x4 x5 (View.ld x0 r0_2) (View.ld x1 r0_2) x6 x7 x8⟩] := rfl

/-- The rows after the mixer's residual at an index. -/
theorem mix_apply (mod : Vec Ideal S1x9x1024 .f32) (gmix : Vec Ideal S1x1024 .f32) (xs ps : Vec Ideal S1x256x1024 .f32)
    (r : Fin 256) (k : Fin 1024) :
    mix mod gmix xs ps (ix2 r k) =
      Rows.mixed (fun k => xs (ix3 0 r k)) (fun k => ps (ix3 0 r k)) (fun k => mod (ix3 0 5 k)) (fun k => gmix (ix2 0 k)) k := by
  pointwise [mix, k0_pay17, k0_pay6, k0_pay2]
  rfl

/-- The modulated, normalised rows at an index. -/
theorem hidden_apply (mod : Vec Ideal S1x9x1024 .f32) (gmix gpre : Vec Ideal S1x1024 .f32) (xs ps : Vec Ideal S1x256x1024 .f32)
    (r : Fin 256) (k : Fin 1024) :
    hid mod gmix gpre xs ps (ix2 r k) =
      Rows.hidden (fun k => mix mod gmix xs ps (ix2 r k)) (fun k => gpre (ix2 0 k)) (fun k => mod (ix3 0 7 k))
        (fun k => mod (ix3 0 6 k)) k := by
  pointwise [hid, k0_pay18, k0_pay4, k0_pay3, k0_pay2]
  rfl

/-- One row of `tile` is the layer of that row. -/
theorem tile_apply (mod : Vec Ideal S1x9x1024 .f32) (gmix gpre gpost : Vec Ideal S1x1024 .f32)
    (xs ps : Vec Ideal S1x256x1024 .f32) (wg wu : Vec Ideal S1024x2816 .bf16) (wd : Vec Ideal S2816x1024 .bf16)
    (r : Fin 256) (n : Fin 1024) :
    tile mod gmix gpre gpost xs ps wg wu wd (ix3 0 r n) =
      Rows.layer (Rows.mixed (fun k => xs (ix3 0 r k)) (fun k => ps (ix3 0 r k)) (fun k => mod (ix3 0 5 k)) (fun k => gmix (ix2 0 k)))
        (fun k => gpre (ix2 0 k)) (fun k => gpost (ix2 0 k)) (fun k => mod (ix3 0 6 k))
        (fun k => mod (ix3 0 7 k)) (fun k => mod (ix3 0 8 k)) (fun k j => wg (ix2 k j)) (fun k j => wu (ix2 k j))
        (fun j n => wd (ix2 j n)) n := by
  have hx := mix_apply mod gmix xs ps r
  have hh := hidden_apply mod gmix gpre xs ps r
  unfold tile
  rw [← funext hx]
  generalize hid mod gmix gpre xs ps = h at hh ⊢
  generalize mix mod gmix xs ps = x at hx hh ⊢
  have hd := fun n => Rows.down_split (fun k => h (ix2 r k)) (fun k j => wg (ix2 k j)) (fun k j => wu (ix2 k j))
    (fun j n => wd (ix2 j n)) n
  unfold Rows.layer
  rw [← funext hh]
  unfold Rows.residual Rows.rms
  simp only [hd]
  pointwise [k0_pay21, k0_pay19, k0_pay20, k0_pay5, k0_pay2]
  rfl

end Cert.FfnPostIdeal.Gen

end
-- ==== Proof.FfnPostValue.lean ====
/-
  The second feed-forward kernel's result array: row `s` of batch `b` is `Rows.layer` of the row that the mixer's
  residual leaves there.
-/
module

public import Idealize.ShloMosaic.Lib.Pipeline.ValueKit
public import Idealize.ShloMosaic.Lib.Claim
public import proofs.«01_k».proof.Proof.FfnPostTile

@[expose] public section

set_option maxRecDepth 16384

noncomputable section

namespace Cert.FfnPostIdeal.Gen

open Idealize.ShloMosaic Idealize.ShloMosaic.TcCoe Idealize.SL.Sem

/-- The output block, index by index, as a function of the nine input blocks. -/
def block (x0 x1 : Vec Ideal S1x1024x1024 .f32) (x2 : Vec Ideal S1x9x1024 .f32) (x3 x4 x5 : Vec Ideal S1x1024 .f32)
    (x6 x7 : Vec Ideal S1024x2816 .bf16) (x8 : Vec Ideal S2816x1024 .bf16) (y : S1x1024x1024.Idx) : EReal :=
  Rows.layer (Rows.mixed (fun k => x0 (ix3 0 (y 1) k)) (fun k => x1 (ix3 0 (y 1) k)) (fun k => x2 (ix3 0 5 k)) (fun k => x3 (ix2 0 k)))
    (fun k => x4 (ix2 0 k)) (fun k => x5 (ix2 0 k)) (fun k => x2 (ix3 0 6 k)) (fun k => x2 (ix3 0 7 k)) (fun k => x2 (ix3 0 8 k))
    (fun k j => x6 (ix2 k j)) (fun k j => x7 (ix2 k j)) (fun j n => x8 (ix2 j n)) (y 2)

/-- A store's group of rows read at an index of the group: the block's row it starts from, further down. -/
theorem group_apply (x : Vec Ideal S1x1024x1024 .f32) (o : ℕ)
    (inb : ∀ a : Fin 3, (![0, o, 0] : Fin 3 → ℕ) a + S1x256x1024.size a ≤ S1x1024x1024.size a) (r : Fin 256) (n k : Fin 1024) :
    View.ld x (Rect.unit (s := S1x1024x1024) ![0, o, 0] S1x256x1024.size inb) (ix3 0 r k) =
      x (ix3 0 ((Rect.unit (s := S1x1024x1024) ![0, o, 0] S1x256x1024.size inb).emb (ix3 0 r n) 1) k) := by
  rw [View.ld_apply]
  congr 1
  refine (eq_ix3 _).trans ?_
  congr 1 <;> refine Fin.ext ?_ <;> rw [Rect.idx_unit_val] <;> exact Nat.zero_add _

/-- One store is `block` on its group of rows. -/
theorem piece (x0 x1 : Vec Ideal S1x1024x1024 .f32) (x2 : Vec Ideal S1x9x1024 .f32) (x3 x4 x5 : Vec Ideal S1x1024 .f32)
    (x6 x7 : Vec Ideal S1024x2816 .bf16) (x8 : Vec Ideal S2816x1024 .bf16) (o : ℕ)
    (inb : ∀ a : Fin 3, (![0, o, 0] : Fin 3 → ℕ) a + S1x256x1024.size a ≤ S1x1024x1024.size a) (x : S1x256x1024.Idx) :
    tile x2 x3 x4 x5 (View.ld x0 (Rect.unit (s := S1x1024x1024) ![0, o, 0] S1x256x1024.size inb))
      (View.ld x1 (Rect.unit (s := S1x1024x1024) ![0, o, 0] S1x256x1024.size inb)) x6 x7 x8 x =
      block x0 x1 x2 x3 x4 x5 x6 x7 x8 ((Rect.unit (s := S1x1024x1024) ![0, o, 0] S1x256x1024.size inb).emb x) := by
  obtain ⟨r, n, rfl⟩ : ∃ (r : Fin 256) (n : Fin 1024), x = ix3 0 r n := ⟨x 1, x 2, by
    refine (eq_ix3 x).trans ?_; congr 1; exact Subsingleton.elim _ _⟩
  rw [tile_apply, block]
  congr 1
  · congr 1 <;> funext k <;> exact group_apply _ o inb r n k
  · exact Fin.ext ((Rect.idx_unit_val _ _ _ _ 2).trans (Nat.zero_add _)).symm

/-- The output block is `block`. -/
theorem out_apply (x0 x1 : Vec Ideal S1x1024x1024 .f32) (x2 : Vec Ideal S1x9x1024 .f32) (x3 x4 x5 : Vec Ideal S1x1024 .f32)
    (x6 x7 : Vec Ideal S1024x2816 .bf16) (x8 : Vec Ideal S2816x1024 .bf16) (y : S1x1024x1024.Idx) :
    out0_9 (F := Ideal) x0 x1 x2 x3 x4 x5 x6 x7 x8 y = block x0 x1 x2 x3 x4 x5 x6 x7 x8 y := by
  rw [out_eq]
  refine View.canon_apply_of_pieces (Val := Elt Ideal) (block x0 x1 x2 x3 x4 x5 x6 x7 x8) _ (fun p hp => ?_) y (cover0_9 _ _ _ _ y)
  simp only [List.mem_cons, List.not_mem_nil, or_false] at hp
  rcases hp with rfl | rfl | rfl | rfl <;> exact piece x0 x1 x2 x3 x4 x5 x6 x7 x8 _ _

variable (m : (ℓ : Loc nD τ sig) → Buf (Elt Ideal) ℓ)

/-- The block indices of the ten windows at a grid point. -/
theorem idx_all : ∀ t : Fin grid0.N, win0_0.index t = ![t.val / 4, t.val % 4, 0] ∧ win0_1.index t = ![t.val / 4, t.val % 4, 0] ∧
    win0_2.index t = ![t.val / 4, 0, 0] ∧ win0_3.index t = ![0, 0] ∧ win0_4.index t = ![0, 0] ∧ win0_5.index t = ![0, 0] ∧
    win0_6.index t = ![0, 0] ∧ win0_7.index t = ![0, 0] ∧ win0_8.index t = ![0, 0] ∧
    win0_9.index t = ![t.val / 4, t.val % 4, 0] := by decide +kernel

/-- The batch index among the sixteen of the modulation. -/
abbrev up (b : Fin 8) : Fin 16 := ⟨b.val, by omega⟩

/-- The kernel's result, as a function of the argument arrays. -/
def result (c : Dev nD) : S8x4096x1024.Idx → EReal := fun i =>
  Rows.layer (Rows.mixed (fun k => m ((c.tc : Thread nD τ).loc main_arg0) (ix3 (i 0) (i 1) k))
      (fun k => m ((c.tc : Thread nD τ).loc main_arg1) (ix3 (i 0) (i 1) k))
      (fun k => m ((c.tc : Thread nD τ).loc main_arg2) (ix3 (up (i 0)) 5 k)) (fun k => m ((c.tc : Thread nD τ).loc main_arg3) (ix2 0 k)))
    (fun k => m ((c.tc : Thread nD τ).loc main_arg4) (ix2 0 k)) (fun k => m ((c.tc : Thread nD τ).loc main_arg5) (ix2 0 k))
    (fun k => m ((c.tc : Thread nD τ).loc main_arg2) (ix3 (up (i 0)) 6 k)) (fun k => m ((c.tc : Thread nD τ).loc main_arg2) (ix3 (up (i 0)) 7 k))
    (fun k => m ((c.tc : Thread nD τ).loc main_arg2) (ix3 (up (i 0)) 8 k))
    (fun k j => m ((c.tc : Thread nD τ).loc main_arg6) (ix3 0 k j)) (fun k j => m ((c.tc : Thread nD τ).loc main_arg7) (ix3 0 k j))
    (fun j n => m ((c.tc : Thread nD τ).loc main_arg8) (ix3 0 j n)) (i 2)

/-- The gain after the mixer, as the host hands it over. -/
theorem host_gmix (c : Dev nD) (k : Fin 1024) :
    (V m c main_v11 : S1x1024.Idx → EReal) (ix2 0 k) = m ((c.tc : Thread nD τ).loc main_arg3) (ix2 0 k) := by
  entry_read; pointwise

/-- The gain before the layer, as the host hands it over. -/
theorem host_gpre (c : Dev nD) (k : Fin 1024) :
    (V m c main_v1 : S1x1024.Idx → EReal) (ix2 0 k) = m ((c.tc : Thread nD τ).loc main_arg4) (ix2 0 k) := by
  entry_read; pointwise

/-- The gain after the layer, as the host hands it over. -/
theorem host_gpost (c : Dev nD) (k : Fin 1024) :
    (V m c main_v3 : S1x1024.Idx → EReal) (ix2 0 k) = m ((c.tc : Thread nD τ).loc main_arg5) (ix2 0 k) := by
  entry_read; pointwise

/-- The gate weight, as the host hands it over. -/
theorem host_wg (c : Dev nD) (k : Fin 1024) (j : Fin 2816) :
    (V m c main_v5 : S1024x2816.Idx → EReal) (ix2 k j) = m ((c.tc : Thread nD τ).loc main_arg6) (ix3 0 k j) := by
  entry_read; pointwise

/-- The up weight, as the host hands it over. -/
theorem host_wu (c : Dev nD) (k : Fin 1024) (j : Fin 2816) :
    (V m c main_v7 : S1024x2816.Idx → EReal) (ix2 k j) = m ((c.tc : Thread nD τ).loc main_arg7) (ix3 0 k j) := by
  entry_read; pointwise

/-- The down weight, as the host hands it over. -/
theorem host_wd (c : Dev nD) (k : Fin 2816) (j : Fin 1024) :
    (V m c main_v9 : S2816x1024.Idx → EReal) (ix2 k j) = m ((c.tc : Thread nD τ).loc main_arg8) (ix3 0 k j) := by
  entry_read; pointwise

/-- The modulation's block of a grid point is the row of the batch the point writes. -/
theorem read_mod (c : Dev nD) (t : Fin cfg0.N) (b : Fin 8) (hb : b.val = t.val / 4) (q : Fin 9) (k : Fin 1024) :
    (iblk m c 2 t : S1x9x1024.Idx → EReal) (ix3 0 q k) = m ((c.tc : Thread nD τ).loc main_arg2) (ix3 (up b) q k) := by
  obtain ⟨-, -, h2, -⟩ := idx_all t
  unfold up
  blk_ext [iblk, V, h2, hb]

/-- The blocks of a grid point's weights are the weights. -/
theorem read_w (c : Dev nD) (t : Fin cfg0.N) (k : Fin 1024) (j : Fin 2816) :
    (iblk m c 6 t : S1024x2816.Idx → EReal) (ix2 k j) = m ((c.tc : Thread nD τ).loc main_arg6) (ix3 0 k j) ∧
    (iblk m c 7 t : S1024x2816.Idx → EReal) (ix2 k j) = m ((c.tc : Thread nD τ).loc main_arg7) (ix3 0 k j) ∧
    (iblk m c 8 t : S2816x1024.Idx → EReal) (ix2 j k) = m ((c.tc : Thread nD τ).loc main_arg8) (ix3 0 j k) := by
  obtain ⟨-, -, -, -, -, -, h6, h7, h8, -⟩ := idx_all t
  refine ⟨Eq.trans ?_ (host_wg m c k j), Eq.trans ?_ (host_wu m c k j), Eq.trans ?_ (host_wd m c j k)⟩
  · blk_ext [iblk, h6]
  · blk_ext [iblk, h7]
  · blk_ext [iblk, h8]

/-- The blocks of a grid point's gains are the gains. -/
theorem read_gain (c : Dev nD) (t : Fin cfg0.N) (k : Fin 1024) :
    (iblk m c 3 t : S1x1024.Idx → EReal) (ix2 0 k) = m ((c.tc : Thread nD τ).loc main_arg3) (ix2 0 k) ∧
    (iblk m c 4 t : S1x1024.Idx → EReal) (ix2 0 k) = m ((c.tc : Thread nD τ).loc main_arg4) (ix2 0 k) ∧
    (iblk m c 5 t : S1x1024.Idx → EReal) (ix2 0 k) = m ((c.tc : Thread nD τ).loc main_arg5) (ix2 0 k) := by
  obtain ⟨-, -, -, h3, h4, h5, -⟩ := idx_all t
  refine ⟨Eq.trans ?_ (host_gmix m c k), Eq.trans ?_ (host_gpre m c k), Eq.trans ?_ (host_gpost m c k)⟩
  · blk_ext [iblk, h3]
  · blk_ext [iblk, h4]
  · blk_ext [iblk, h5]

/-- The output array after the run. -/
theorem arr_eq (c : Dev nD) : (dats m 0 c).arrAt 9 cfg0.N = result m c := by
  refine (dats m 0 c).arrAt_eq_of_covers 9 _ (by decide +kernel) fun t hf y => ?_
  blk_simp
  rw [after0_9]
  rw [out_apply]
  obtain ⟨h0, h1, h2, h3, h4, h5, h6, h7, h8, h9⟩ := idx_all t
  have hb : ∀ q k, (iblk m c 2 t : S1x9x1024.Idx → EReal) (ix3 0 q k) = _ :=
    read_mod m c t (((View.whole main_v12).slice (win0_9.rect t)).emb y 0) (by blk_simp [h9])
  unfold result block
  congr 1
  · congr 1 <;> funext k <;> dsimp only
    · blk_ext [iblk, V, h0, h9]
    · blk_ext [iblk, V, h1, h9]
    · exact hb 5 k
    · exact (read_gain m c t k).1
  · exact funext fun k => (read_gain m c t k).2.1
  · exact funext fun k => (read_gain m c t k).2.2
  · exact funext (hb 6)
  · exact funext (hb 7)
  · exact funext (hb 8)
  · exact funext fun k => funext fun j => (read_w m c t k j).1
  · exact funext fun k => funext fun j => (read_w m c t k j).2.1
  · exact funext fun j => funext fun k => (read_w m c t k j).2.2
  · refine Fin.ext ?_
    blk_simp [h9]

end Cert.FfnPostIdeal.Gen

end
-- ==== Proof.FfnPostRef.lean ====
/-
  The second feed-forward reference's result array, index by index: the layer of the row that the mixer's residual
  leaves.
-/
module

public import Idealize.ShloMosaic.Lib.Pointwise
public import proofs.«01_k».proof.Proof.Gen.FfnPostRefIdeal.Read
public import proofs.«01_k».proof.Proof.Rows

@[expose] public section

set_option maxRecDepth 16384

noncomputable section

namespace Cert.FfnPostRefIdeal.Read

open Cert.FfnPostRefIdeal Idealize.ShloMosaic Idealize.ShloMosaic.TcCoe Idealize.SL.Sem

variable (x0 x1 : (⟨S8x4096x1024, .f32⟩ : BufTy).Contents (Elt Ideal)) (x2 : (⟨S16x9x1024, .f32⟩ : BufTy).Contents (Elt Ideal))
  (x3 x4 x5 : (⟨S1x1024, .f32⟩ : BufTy).Contents (Elt Ideal)) (x6 x7 : (⟨S1x1024x2816, .f32⟩ : BufTy).Contents (Elt Ideal))
  (x8 : (⟨S1x2816x1024, .f32⟩ : BufTy).Contents (Elt Ideal))

/-- The batch index among the sixteen of the modulation. -/
abbrev up (b : Fin 8) : Fin 16 := ⟨b.val, by omega⟩

/-- The row after the mixer's residual. -/
theorem mixed_apply (b : Fin 8) (s : Fin 4096) (k : Fin 1024) :
    val_main_v21 (F := Ideal) x0 x1 x2 x3 (ix3 b s k) =
      Rows.mixed (fun k => x0 (ix3 b s k)) (fun k => x1 (ix3 b s k)) (fun k => x2 (ix3 (up b) 5 k)) (fun k => x3 (ix2 0 k)) k := by
  rw [← Rows.mixed_eq]
  pointwise [val_main_v21, val_main_v20, val_main_v19, val_main_v18, val_main_v17, val_main_v16, val_main_v15, val_main_v14, val_main_v13,
    val_main_v12, val_main_v11, val_main_v10, val_main_v9, val_main_v8, val_main_v7, val_main_v6, val_main_v5, val_main_v4, val_main_v3,
    val_main_v2, val_main_v1, val_main_v0, val_main_cst, val_main_cst_0, val_main_cst_1]
  rfl

/-- The modulated, normalised row. -/
theorem hidden_apply (b : Fin 8) (s : Fin 4096) (k : Fin 1024) :
    val_main_v52 (F := Ideal) x0 x1 x2 x3 x4 (ix3 b s k) =
      Rows.hidden (fun k => val_main_v21 (F := Ideal) x0 x1 x2 x3 (ix3 b s k)) (fun k => x4 (ix2 0 k)) (fun k => x2 (ix3 (up b) 7 k))
        (fun k => x2 (ix3 (up b) 6 k)) k := by
  rw [← Rows.hidden_eq]
  unfold val_main_v52 val_main_v49 val_main_v40 val_main_v37 val_main_v36 val_main_v35 val_main_v34 val_main_v32 val_main_v30 val_main_v29 val_main_v28
  generalize val_main_v21 (F := Ideal) x0 x1 x2 x3 = x
  pointwise [val_main_v51, val_main_v50, val_main_v48, val_main_v47, val_main_v46, val_main_v45, val_main_v44, val_main_v43, val_main_v42,
    val_main_v41, val_main_v39, val_main_v38, val_main_v33, val_main_v31, val_main_v23, val_main_v22, val_main_v0,
    val_main_cst_2, val_main_cst_3, val_main_cst_4, val_main_cst_5]
  rfl

/-- The projection back. -/
theorem down_apply (b : Fin 8) (s : Fin 4096) (n : Fin 1024) :
    val_main_v57 (F := Ideal) x0 x1 x2 x3 x4 x6 x7 x8 (ix3 b s n) =
      Rows.down (fun k => val_main_v52 (F := Ideal) x0 x1 x2 x3 x4 (ix3 b s k)) (fun k j => x6 (ix3 0 k j)) (fun k j => x7 (ix3 0 k j))
        (fun j n => x8 (ix3 0 j n)) n := by
  unfold val_main_v57 val_main_v56 val_main_v55 val_main_v54 val_main_call0_v5 val_main_call0_v3 val_main_call0_v1 val_main_call0_v0 val_main_v53
  generalize val_main_v52 (F := Ideal) x0 x1 x2 x3 x4 = h
  pointwise [val_main_v25, val_main_v26, val_main_v27, val_main_call0_v4, val_main_call0_v2, val_main_call0_cst, val_main_call0_cst_0]
  simp only [← zero_sub]
  rfl

/-- The reference's result at an index. -/
theorem result_apply (b : Fin 8) (s : Fin 4096) (n : Fin 1024) :
    val_main_v78 (F := Ideal) x0 x1 x2 x3 x4 x5 x6 x7 x8 (ix3 b s n) =
      Rows.layer (Rows.mixed (fun k => x0 (ix3 b s k)) (fun k => x1 (ix3 b s k)) (fun k => x2 (ix3 (up b) 5 k)) (fun k => x3 (ix2 0 k)))
        (fun k => x4 (ix2 0 k)) (fun k => x5 (ix2 0 k)) (fun k => x2 (ix3 (up b) 6 k))
        (fun k => x2 (ix3 (up b) 7 k)) (fun k => x2 (ix3 (up b) 8 k)) (fun k j => x6 (ix3 0 k j)) (fun k j => x7 (ix3 0 k j))
        (fun j n => x8 (ix3 0 j n)) n := by
  have hd := down_apply x0 x1 x2 x3 x4 x6 x7 x8 b s
  unfold Rows.layer
  rw [← funext (mixed_apply x0 x1 x2 x3 b s), ← funext (hidden_apply x0 x1 x2 x3 x4 b s), ← funext hd, ← Rows.residual_eq]
  unfold val_main_v78 val_main_v77 val_main_v75 val_main_v72 val_main_v71 val_main_v70 val_main_v69 val_main_v67 val_main_v65 val_main_v64 val_main_v63
  generalize val_main_v57 (F := Ideal) x0 x1 x2 x3 x4 x6 x7 x8 = u
  generalize val_main_v21 (F := Ideal) x0 x1 x2 x3 = x
  pointwise [val_main_v76, val_main_v74, val_main_v73, val_main_v68, val_main_v66, val_main_v62, val_main_v61, val_main_v60,
    val_main_v59, val_main_v58, val_main_v24, val_main_v22, val_main_v0, val_main_cst_6, val_main_cst_7, val_main_cst_8]
  rfl

end Cert.FfnPostRefIdeal.Read

end
-- ==== Proof.FfnPostClaim.lean ====
/-
  The claims about the second feed-forward layer: the frames of its three programs and the equality of the kernel's
  and the reference's results over the extended reals.
-/
module

public import proofs.«01_k».proof.Defs
public import proofs.«01_k».proof.Proof.Gen.FfnPost.Frame
public import proofs.«01_k».proof.Proof.Gen.FfnPostRefIdeal.Run
public import proofs.«01_k».proof.Proof.FfnPostValue
public import proofs.«01_k».proof.Proof.FfnPostRef
public import Idealize.ShloMosaic.Lib.Quiescent

@[expose] public section

noncomputable section

namespace Cert.FfnPostClaim

open Idealize.ShloMosaic Idealize.ShloMosaic.TcCoe Idealize.SL.Sem

/-- The kernel leaves its arguments, ends and leaves every semaphore at zero. -/
theorem frame : Cert.quiescent_FfnPost := fun m ρ _ => Cert.FfnPost.Gen.frame m ρ

/-- So does its idealization. -/
theorem frame_ideal : Cert.quiescent_FfnPostIdeal := fun m ρ _ => Cert.FfnPostIdeal.Gen.frame m ρ

/-- So does the reference. -/
theorem frame_ref : Cert.quiescent_FfnPostRefIdeal := fun m ρ _ =>
  (θ_run Cert.FfnPostRefIdeal.defs _ _).mono (fun r h => ⟨fun c => (h c).2, sem_eq_zero_of_no_sems (by decide) r.2⟩)
    (Cert.FfnPostRefIdeal.Value.run (F := Ideal) m ρ)

/-- The idealization changes no operation. -/
theorem preserves : Cert.preserves_FfnPost_FfnPostIdeal := trivial

/-- On equal arguments the kernel and the reference end with equal results. -/
theorem algebraic : Cert.algebraic_FfnPostIdeal_FfnPostRefIdeal := fun m ρ m' ρ' _ hag =>
  ⟨fun c => Cert.FfnPostIdeal.Gen.result m c,
    (θ_run _ _ _).mono (fun _ h c => ⟨(h c).1.trans (Cert.FfnPostIdeal.Gen.arr_eq m c), (h c).2⟩)
      (Cert.FfnPostIdeal.Value.run_blocks (F := Ideal) m ρ),
    (θ_run _ _ _).mono (fun _ h c => ⟨(h c).1.trans (by
        obtain ⟨h0, h1, h2, h3, h4, h5, h6, h7, h8⟩ := hag c
        rw [Cert.FfnPostRefIdeal.Read.val_main_v78_eq, h0, h1, h2, h3, h4, h5, h6, h7, h8]
        funext i
        obtain ⟨b, s, n, rfl⟩ : ∃ (b : Fin 8) (s : Fin 4096) (n : Fin 1024), i = ix3 b s n := ⟨i 0, i 1, i 2, eq_ix3 i⟩
        exact Cert.FfnPostRefIdeal.Read.result_apply _ _ _ _ _ _ _ _ _ b s n), (h c).2⟩)
      (Cert.FfnPostRefIdeal.Value.run (F := Ideal) m' ρ')⟩

end Cert.FfnPostClaim

end
-- ==== Proof.Window.lean ====
/-
  The arithmetic of the mixer's input projection, over the extended reals: a token's projected row, the convolution
  over three neighbouring tokens with its activation, and the step sizes.
-/
module

public import proofs.«01_k».proof.Proof.Rows

@[expose] public section

noncomputable section

namespace Cert.Window

open Idealize.ShloMosaic

/-- One column of a row's projection: the inner product of the normalised, modulated row with the column's weights. -/
def proj (v gain scale shift w : Fin 1024 → EReal) : EReal := ∑ k, Rows.hidden v gain scale shift k * w k

/-- A channel's value from the token before, the token and the token after, with the three weights and the bias. -/
def conv (before here after w0 w1 w2 b : EReal) : EReal := Rows.silu (before * w0 + here * w1 + after * w2 + b)

/-- The logarithm of one plus the exponential, in its stable form. -/
def softplus (a : EReal) : EReal := max a 0 + Ideal.log (1 + Ideal.exp (0 - max a (-a)))

/-- The column of the projection that a convolution channel reads. -/
abbrev col (c : Fin 1792) : Fin 2840 := ⟨1024 + c.val, by omega⟩

section
variable (x : Fin 8 → Fin 4096 → Fin 1024 → EReal) (mod : Fin 16 → Fin 9 → Fin 1024 → EReal) (gain : Fin 1024 → EReal)
  (w : Fin 1024 → Fin 2840 → EReal) (cw : Fin 3 → Fin 1792 → EReal) (cb : Fin 1792 → EReal) (bias : Fin 2 → Fin 12 → EReal)

/-- The projection of token `s` of batch `b`, column `j`. -/
def entry (b : Fin 8) (s : Fin 4096) (j : Fin 2840) : EReal :=
  proj (x b s) gain (mod ⟨b.val, by omega⟩ 4) (mod ⟨b.val, by omega⟩ 3) fun k => w k j

/-- The token before `s`, zero before the first. -/
def before (b : Fin 8) (s : Fin 4096) (j : Fin 2840) : EReal :=
  if s.val = 0 then 0 else entry x mod gain w b ⟨s.val - 1, by omega⟩ j

/-- The token after `s`, zero after the last. -/
def after (b : Fin 8) (s : Fin 4096) (j : Fin 2840) : EReal :=
  if h : s.val < 4095 then entry x mod gain w b ⟨s.val + 1, by omega⟩ j else 0

/-- A convolution channel at a token. -/
def chan (b : Fin 8) (s : Fin 4096) (c : Fin 1792) : EReal :=
  conv (before x mod gain w b s (col c)) (entry x mod gain w b s (col c)) (after x mod gain w b s (col c))
    (cw 0 c) (cw 1 c) (cw 2 c) (cb c)

/-- A row of steps: the first 24 rows hold the two directions' heads, the others the value at zero. -/
def step (b : Fin 8) (r : Fin 32) (s : Fin 4096) : EReal :=
  softplus (if h : r.val < 24 then entry x mod gain w b s ⟨2816 + r.val, by omega⟩ + bias ⟨r.val / 12, by omega⟩ ⟨r.val % 12, by omega⟩ else 0)

end

end Cert.Window

end
-- ==== Proof.InprojTile.lean ====
/-
  What the input projection's body computes for one block of 1024 tokens, index by index.
-/
module

public import Idealize.ShloMosaic.Lib.Pointwise
public import proofs.«01_k».proof.Proof.Gen.InprojIdeal.Value
public import proofs.«01_k».proof.Proof.Window

@[expose] public section

set_option maxRecDepth 16384

noncomputable section

namespace Cert.InprojIdeal.Gen

open Idealize.ShloMosaic Idealize.ShloMosaic.TcCoe Idealize.SL.Sem

/-- The projection of a group of 256 rows at an index. -/
theorem tile_apply (mod : Vec Ideal S1x9x1024 .f32) (g : Vec Ideal S1x1024 .f32) (xs : Vec Ideal S1x256x1024 .f32)
    (w : Vec Ideal S1024x2944 .bf16) (r : Fin 256) (j : Fin 2944) :
    k0_pay10 (F := Ideal) (k0_pay5 (View.ld mod r0_0)) (k0_pay6 (View.ld mod r0_0) (View.ld g r0_1)) xs (View.ld w r0_5) (ix2 r j) =
      Window.proj (fun k => xs (ix3 0 r k)) (fun k => g (ix2 0 k)) (fun k => mod (ix3 0 4 k)) (fun k => mod (ix3 0 3 k))
        (fun k => w (ix2 k j)) := by
  pointwise [k0_pay10, k0_pay6, k0_pay5, k0_pay4]
  rfl

/-- The row before the block, from the last of the eight rows before it. -/
theorem halo_before (mod : Vec Ideal S1x9x1024 .f32) (g : Vec Ideal S1x1024 .f32) (xp xn : Vec Ideal S1x8x1024 .f32)
    (w : Vec Ideal S1024x2944 .bf16) (c : Fin 1792) :
    k0_pay7 (F := Ideal) (View.ld mod r0_0) (View.ld g r0_1) (View.ld xp r0_2) (View.ld xn r0_2) (View.ld w r0_3) (ix2 7 c) =
      Window.proj (fun k => xp (ix3 0 7 k)) (fun k => g (ix2 0 k)) (fun k => mod (ix3 0 4 k)) (fun k => mod (ix3 0 3 k))
        (fun k => w (ix2 k ⟨1024 + c.val, by omega⟩)) := by
  pointwise [k0_pay7, k0_pay6, k0_pay5, k0_pay4]
  rfl

/-- The row after the block, from the first of the eight rows after it. -/
theorem halo_after (mod : Vec Ideal S1x9x1024 .f32) (g : Vec Ideal S1x1024 .f32) (xp xn : Vec Ideal S1x8x1024 .f32)
    (w : Vec Ideal S1024x2944 .bf16) (c : Fin 1792) :
    k0_pay7 (F := Ideal) (View.ld mod r0_0) (View.ld g r0_1) (View.ld xp r0_2) (View.ld xn r0_2) (View.ld w r0_3) (ix2 8 c) =
      Window.proj (fun k => xn (ix3 0 0 k)) (fun k => g (ix2 0 k)) (fun k => mod (ix3 0 4 k)) (fun k => mod (ix3 0 3 k))
        (fun k => w (ix2 k ⟨1024 + c.val, by omega⟩)) := by
  pointwise [k0_pay7, k0_pay6, k0_pay5, k0_pay4]
  rfl

/-- A group's convolution: `a` is the row before the group, `u` the group's projection, `n` the row after it. -/
def window (a : Fin 1792 → EReal) (u : FVec Ideal S256x2944 .f32) (n : Fin 1792 → EReal) (cw : Vec Ideal S3x1792 .f32)
    (cb : Vec Ideal S1x1792 .f32) (r : Fin 256) (c : Fin 1792) : EReal :=
  Window.conv (if r.val = 0 then a c else u (ix2 ⟨r.val - 1, by omega⟩ ⟨1024 + c.val, by omega⟩))
    (u (ix2 r ⟨1024 + c.val, by omega⟩))
    (if h : r.val < 255 then u (ix2 ⟨r.val + 1, by omega⟩ ⟨1024 + c.val, by omega⟩) else n c)
    (cw (ix2 0 c)) (cw (ix2 1 c)) (cw (ix2 2 c)) (cb (ix2 0 c))

/-- Rotating down by one row and replacing the first row of the first eight gives the row before. -/
theorem down_eq (f : Fin 256 → EReal) (a : EReal) (r : Fin 256) :
    (if _h : r.val < 8 then Scalar.select (IntOp.cmpi CmpIPredicate.eq (BitVec.ofNat 32 r.val) 0#32) a
        (f ⟨(r.val + 256 - 1) % 256, Nat.mod_lt _ (by decide)⟩)
      else f ⟨(8 + (r.val - 8) + 256 - 1) % 256, Nat.mod_lt _ (by decide)⟩) =
      if r.val = 0 then a else f ⟨r.val - 1, by omega⟩ := by
  by_cases h0 : r.val = 0
  · rw [dif_pos (by omega), if_pos h0, h0]
    rfl
  · rw [if_neg h0]
    have e : ∀ k (hk : k < 256), k = r.val - 1 → f ⟨k, hk⟩ = f ⟨r.val - 1, by omega⟩ := fun k hk h => congrArg f (Fin.ext h)
    by_cases h8 : r.val < 8
    · rw [dif_pos h8]
      have hb : IntOp.cmpi CmpIPredicate.eq (BitVec.ofNat 32 r.val) 0#32 = 0#1 := by
        have : ∀ k : Fin 8, k.val ≠ 0 → IntOp.cmpi CmpIPredicate.eq (BitVec.ofNat 32 k.val) 0#32 = 0#1 := by decide
        exact this ⟨r.val, h8⟩ h0
      rw [hb]
      exact e _ _ (by omega)
    · rw [dif_neg h8]
      exact e _ _ (by omega)

/-- Rotating up by one row and replacing the last row of the last eight gives the row after. -/
theorem up_eq (f : Fin 256 → EReal) (n : EReal) (r : Fin 256) :
    (if _h : r.val < 248 then f ⟨(r.val + 256 - 255) % 256, Nat.mod_lt _ (by decide)⟩
      else Scalar.select (IntOp.cmpi CmpIPredicate.eq (BitVec.ofNat 32 (r.val - 248)) 7#32) n
        (f ⟨(248 + (r.val - 248) + 256 - 255) % 256, Nat.mod_lt _ (by decide)⟩)) =
      if h : r.val < 255 then f ⟨r.val + 1, by omega⟩ else n := by
  by_cases h0 : r.val < 255
  · rw [dif_pos h0]
    have e : ∀ k (hk : k < 256), k = r.val + 1 → f ⟨k, hk⟩ = f ⟨r.val + 1, by omega⟩ := fun k hk h => congrArg f (Fin.ext h)
    by_cases h8 : r.val < 248
    · rw [dif_pos h8]
      exact e _ _ (by omega)
    · rw [dif_neg h8]
      have hb : IntOp.cmpi CmpIPredicate.eq (BitVec.ofNat 32 (r.val - 248)) 7#32 = 0#1 := by
        have : ∀ k : Fin 8, k.val ≠ 7 → IntOp.cmpi CmpIPredicate.eq (BitVec.ofNat 32 k.val) 7#32 = 0#1 := by decide
        exact this ⟨r.val - 248, by omega⟩ (by show r.val - 248 ≠ 7; omega)
      rw [hb]
      exact e _ _ (by omega)
  · have h255 : r.val - 248 = 7 := by omega
    rw [dif_neg h0, dif_neg (by omega), h255]
    rfl

/-- The first group's convolved rows. -/
theorem window0 (a : FVec Ideal S1x1792 .f32) (u n : FVec Ideal S256x2944 .f32) (cw : Vec Ideal S3x1792 .f32) (cb : Vec Ideal S1x1792 .f32)
    (r : Fin 256) (c : Fin 1792) :
    k0_pay17 (F := Ideal) a u n cw cb (ix2 r c) =
      window (fun c => a (ix2 0 c)) u (fun c => n (ix2 0 ⟨1024 + c.val, by omega⟩)) cw cb r c := by
  pointwise [k0_pay17, k0_pay16]
  refine congrArg Rows.silu (congrArg₂ (· + ·) (congrArg₂ (· + ·) (congrArg₂ (· + ·) (congrArg₂ (· * ·) ?_ rfl) rfl) (congrArg₂ (· * ·) ?_ rfl)) rfl)
  · exact down_eq (fun s => u (ix2 s ⟨1024 + c.val, by omega⟩)) _ r
  · exact up_eq (fun s => u (ix2 s ⟨1024 + c.val, by omega⟩)) _ r

/-- The second group's. -/
theorem window1 (a u n : FVec Ideal S256x2944 .f32) (cw : Vec Ideal S3x1792 .f32) (cb : Vec Ideal S1x1792 .f32)
    (r : Fin 256) (c : Fin 1792) :
    k0_pay27 (F := Ideal) (k0_pay25 a u n (k0_pay16 cw) (iota .tc S8x1792 32 [0] iota_S8x1792_d0_w32) cb)
        (k0_pay26 a u n (k0_pay16 cw) (iota .tc S8x1792 32 [0] iota_S8x1792_d0_w32) cb) (Scalar.ofBits .f32 0x3F800000#32) (ix2 r c) =
      window (fun c => a (ix2 255 ⟨1024 + c.val, by omega⟩)) u (fun c => n (ix2 0 ⟨1024 + c.val, by omega⟩)) cw cb r c := by
  pointwise [k0_pay27, k0_pay26, k0_pay25, k0_pay16]
  refine congrArg Rows.silu (congrArg₂ (· + ·) (congrArg₂ (· + ·) (congrArg₂ (· + ·) (congrArg₂ (· * ·) ?_ rfl) rfl) (congrArg₂ (· * ·) ?_ rfl)) rfl)
  · exact down_eq (fun s => u (ix2 s ⟨1024 + c.val, by omega⟩)) _ r
  · exact up_eq (fun s => u (ix2 s ⟨1024 + c.val, by omega⟩)) _ r

/-- The third group's. -/
theorem window2 (a u n : FVec Ideal S256x2944 .f32) (cw : Vec Ideal S3x1792 .f32) (cb : Vec Ideal S1x1792 .f32)
    (r : Fin 256) (c : Fin 1792) :
    k0_pay37 (F := Ideal) (k0_pay35 a u n (k0_pay16 cw) (iota .tc S8x1792 32 [0] iota_S8x1792_d0_w32) cb) k0_pay36 (ix2 r c) =
      window (fun c => a (ix2 255 ⟨1024 + c.val, by omega⟩)) u (fun c => n (ix2 0 ⟨1024 + c.val, by omega⟩)) cw cb r c := by
  pointwise [k0_pay37, k0_pay36, k0_pay35, k0_pay16]
  refine congrArg Rows.silu (congrArg₂ (· + ·) (congrArg₂ (· + ·) (congrArg₂ (· + ·) (congrArg₂ (· * ·) ?_ rfl) rfl) (congrArg₂ (· * ·) ?_ rfl)) rfl)
  · exact down_eq (fun s => u (ix2 s ⟨1024 + c.val, by omega⟩)) _ r
  · exact up_eq (fun s => u (ix2 s ⟨1024 + c.val, by omega⟩)) _ r

/-- The fourth group's. -/
theorem window3 (n : FVec Ideal S1x1792 .f32) (a u : FVec Ideal S256x2944 .f32) (cw : Vec Ideal S3x1792 .f32) (cb : Vec Ideal S1x1792 .f32)
    (r : Fin 256) (c : Fin 1792) :
    k0_pay46 (F := Ideal) (k0_pay45 n a u (k0_pay16 cw) (iota .tc S8x1792 32 [0] iota_S8x1792_d0_w32)) cb (ix2 r c) =
      window (fun c => a (ix2 255 ⟨1024 + c.val, by omega⟩)) u (fun c => n (ix2 0 c)) cw cb r c := by
  pointwise [k0_pay46, k0_pay45, k0_pay16]
  refine congrArg Rows.silu (congrArg₂ (· + ·) (congrArg₂ (· + ·) (congrArg₂ (· + ·) (congrArg₂ (· * ·) ?_ rfl) rfl) (congrArg₂ (· * ·) ?_ rfl)) rfl)
  · exact down_eq (fun s => u (ix2 s ⟨1024 + c.val, by omega⟩)) _ r
  · exact up_eq (fun s => u (ix2 s ⟨1024 + c.val, by omega⟩)) _ r

/-- The steps of a group. -/
theorem steps_apply (u : FVec Ideal S256x2944 .f32) (d : Vec Ideal S1x128 .f32) (r : Fin 32) (s : Fin 256) :
    k0_pay21 (F := Ideal) u d (ix3 0 r s) = Window.softplus (u (ix2 s ⟨2816 + r.val, by omega⟩) + d (ix2 0 ⟨r.val, by omega⟩)) := by
  pointwise [k0_pay21]
  rfl

end Cert.InprojIdeal.Gen

end
-- ==== Proof.InprojValue.lean ====
/-
  The input projection's body, group by group of 256 rows: the projection of each group and its convolution over
  neighbouring tokens, as functions of the input blocks.
-/
module

public import Idealize.ShloMosaic.Lib.Pipeline.ValueKit
public import Idealize.ShloMosaic.Lib.Claim
public import proofs.«01_k».proof.Proof.InprojTile

@[expose] public section

set_option maxRecDepth 16384

noncomputable section

namespace Cert.InprojIdeal.Gen

open Idealize.ShloMosaic Idealize.ShloMosaic.TcCoe Idealize.SL.Sem

section
variable (i : grid0.Coords) (x0 : Vec Ideal S1x1024x1024 .f32) (x1 x2 : Vec Ideal S1x8x1024 .f32) (x3 : Vec Ideal S1x9x1024 .f32)
  (x4 : Vec Ideal S1x1024 .f32) (x5 : Vec Ideal S1024x2944 .bf16) (x6 : Vec Ideal S3x1792 .f32) (x7 : Vec Ideal S1x1792 .f32)
  (x8 : Vec Ideal S1x128 .f32)

/-- A row's projection with the block's gains and weights. -/
def rowProj (v : Fin 1024 → EReal) (j : Fin 2944) : EReal :=
  Window.proj v (fun k => x4 (ix2 0 k)) (fun k => x3 (ix3 0 4 k)) (fun k => x3 (ix3 0 3 k)) (fun k => x5 (ix2 k j))

/-- The projection of the block's row `s`. -/
def P (s : Fin 1024) (j : Fin 2944) : EReal := rowProj x3 x4 x5 (fun k => x0 (ix3 0 s k)) j

/-- The row before the block, zero at the first block. -/
def first (c : Fin 1792) : EReal :=
  if (i 1).val = 0 then 0 else rowProj x3 x4 x5 (fun k => x1 (ix3 0 7 k)) ⟨1024 + c.val, by omega⟩

/-- The row after the block, zero at the last block. -/
def last (c : Fin 1792) : EReal :=
  if (i 1).val < 3 then rowProj x3 x4 x5 (fun k => x2 (ix3 0 0 k)) ⟨1024 + c.val, by omega⟩ else 0

/-- The block's convolved channels. -/
def blockConv (s : Fin 1024) (c : Fin 1792) : EReal :=
  Window.conv (if s.val = 0 then first i x1 x3 x4 x5 c else P x0 x3 x4 x5 ⟨s.val - 1, by omega⟩ ⟨1024 + c.val, by omega⟩)
    (P x0 x3 x4 x5 s ⟨1024 + c.val, by omega⟩)
    (if h : s.val < 1023 then P x0 x3 x4 x5 ⟨s.val + 1, by omega⟩ ⟨1024 + c.val, by omega⟩ else last i x2 x3 x4 x5 c)
    (x6 (ix2 0 c)) (x6 (ix2 1 c)) (x6 (ix2 2 c)) (x7 (ix2 0 c))

/-- A group of 256 rows of the block, projected. -/
theorem group (o : ℕ) (inb : ∀ a : Fin 3, (![0, o, 0] : Fin 3 → ℕ) a + S1x256x1024.size a ≤ S1x1024x1024.size a) (r : Fin 256)
    (j : Fin 2944) (h : o + r.val < 1024) :
    k0_pay10 (F := Ideal) (k0_pay5 (View.ld x3 r0_0)) (k0_pay6 (View.ld x3 r0_0) (View.ld x4 r0_1))
      (View.ld x0 (Rect.unit (s := S1x1024x1024) ![0, o, 0] S1x256x1024.size inb)) (View.ld x5 r0_5) (ix2 r j) =
      P x0 x3 x4 x5 ⟨o + r.val, h⟩ j := by
  rw [tile_apply]
  unfold P rowProj
  congr 1
  funext k
  rw [View.ld_apply]
  congr 1
  refine (eq_ix3 _).trans ?_
  congr 1
  · refine Fin.ext ?_; rw [Rect.idx_unit_val]; rfl
  · refine Fin.ext ?_; rw [Rect.idx_unit_val]; exact Nat.zero_add _

theorem p0 (r : Fin 256) (j : Fin 2944) : k0_pay53 (F := Ideal) i x0 x1 x2 x3 x4 x5 x6 x7 x8 (ix2 r j) = P x0 x3 x4 x5 ⟨0 + r.val, by omega⟩ j :=
  group x0 x3 x4 x5 0 _ r j (by omega)

theorem p1 (r : Fin 256) (j : Fin 2944) : k0_pay54 (F := Ideal) i x0 x1 x2 x3 x4 x5 x6 x7 x8 (ix2 r j) = P x0 x3 x4 x5 ⟨256 + r.val, by omega⟩ j :=
  group x0 x3 x4 x5 256 inb_S1x1024x1024_S1x256x1024_0_256_0 r j (by omega)

theorem p2 (r : Fin 256) (j : Fin 2944) : k0_pay55 (F := Ideal) i x0 x1 x2 x3 x4 x5 x6 x7 x8 (ix2 r j) = P x0 x3 x4 x5 ⟨512 + r.val, by omega⟩ j :=
  group x0 x3 x4 x5 512 inb_S1x1024x1024_S1x256x1024_0_512_0 r j (by omega)

theorem p3 (r : Fin 256) (j : Fin 2944) : k0_pay56 (F := Ideal) i x0 x1 x2 x3 x4 x5 x6 x7 x8 (ix2 r j) = P x0 x3 x4 x5 ⟨768 + r.val, by omega⟩ j :=
  group x0 x3 x4 x5 768 inb_S1x1024x1024_S1x256x1024_0_768_0 r j (by omega)

/-- The place in the grid's second axis, compared with a constant as a word. -/
theorem place_first : ∀ k : Fin 4, Scalar.cmpi .sgt (BitVec.ofNat 32 k.val) 0#32 = if k.val = 0 then 0#1 else 1#1 := by decide
theorem place_last : ∀ k : Fin 4, Scalar.cmpi .slt (BitVec.ofNat 32 k.val) 3#32 = if k.val < 3 then 1#1 else 0#1 := by decide

theorem first_apply (c : Fin 1792) : k0_pay52 (F := Ideal) i x0 x1 x2 x3 x4 x5 x6 x7 x8 (ix2 0 c) = first i x1 x3 x4 x5 c := by
  have hb := halo_before x3 x4 x1 x2 x5 c
  unfold k0_pay52 k0_pay8 first rowProj
  rw [← hb]
  generalize k0_pay7 (F := Ideal) (View.ld x3 r0_0) (View.ld x4 r0_1) (View.ld x1 r0_2) (View.ld x2 r0_2) (View.ld x5 r0_3) = h
  have hi := place_first ⟨(i 1).val, (i 1).isLt⟩
  dsimp only at hi ⊢
  rw [hi]
  by_cases h0 : (i 1).val = 0
  · rw [if_pos h0, if_pos h0]
    pointwise
  · rw [if_neg h0, if_neg h0]
    pointwise

theorem last_apply (c : Fin 1792) :
    k0_pay9 (F := Ideal) (k0_pay7 (View.ld x3 r0_0) (View.ld x4 r0_1) (View.ld x1 r0_2) (View.ld x2 r0_2) (View.ld x5 r0_3))
      (Scalar.cmpi .slt (BitVec.ofNat 32 (i 1).val) 3#32) (ix2 0 c) = last i x2 x3 x4 x5 c := by
  have hb := halo_after x3 x4 x1 x2 x5 c
  unfold k0_pay9 last rowProj
  rw [← hb]
  generalize k0_pay7 (F := Ideal) (View.ld x3 r0_0) (View.ld x4 r0_1) (View.ld x1 r0_2) (View.ld x2 r0_2) (View.ld x5 r0_3) = h
  have hi := place_last ⟨(i 1).val, (i 1).isLt⟩
  dsimp only at hi ⊢
  rw [hi]
  by_cases h0 : (i 1).val < 3
  · rw [if_pos h0, if_pos h0]
    pointwise
  · rw [if_neg h0, if_neg h0]
    pointwise

/-- A group's convolution is the block's at the group's rows. -/
theorem window_block (o : ℕ) (ho : o + 256 ≤ 1024) (a : Fin 1792 → EReal) (u : FVec Ideal S256x2944 .f32) (n : Fin 1792 → EReal)
    (hu : ∀ r j, u (ix2 r j) = P x0 x3 x4 x5 ⟨o + r.val, by omega⟩ j) (r : Fin 256) (c : Fin 1792)
    (ha : a c = if o = 0 then first i x1 x3 x4 x5 c else P x0 x3 x4 x5 ⟨o - 1, by omega⟩ ⟨1024 + c.val, by omega⟩)
    (hn : n c = if h : o + 256 < 1024 then P x0 x3 x4 x5 ⟨o + 256, h⟩ ⟨1024 + c.val, by omega⟩ else last i x2 x3 x4 x5 c) :
    window a u n x6 x7 r c = blockConv i x0 x1 x2 x3 x4 x5 x6 x7 ⟨o + r.val, by omega⟩ c := by
  unfold window blockConv
  have e : ∀ k k' (hk : k < 1024) (hk' : k' < 1024), k = k' →
      P x0 x3 x4 x5 ⟨k, hk⟩ ⟨1024 + c.val, by omega⟩ = P x0 x3 x4 x5 ⟨k', hk'⟩ ⟨1024 + c.val, by omega⟩ := by
    intro k k' hk hk' h; subst h; rfl
  have h1 : (if r.val = 0 then a c else u (ix2 ⟨r.val - 1, by omega⟩ ⟨1024 + c.val, by omega⟩)) =
      if o + r.val = 0 then first i x1 x3 x4 x5 c else P x0 x3 x4 x5 ⟨o + r.val - 1, by omega⟩ ⟨1024 + c.val, by omega⟩ := by
    by_cases hr : r.val = 0
    · rw [if_pos hr, ha]
      by_cases h0 : o = 0
      · rw [if_pos h0, if_pos (by omega)]
      · rw [if_neg h0, if_neg (by omega)]
        exact e _ _ _ _ (by omega)
    · rw [if_neg hr, if_neg (by omega), hu]
      exact e _ _ _ _ (by show o + (r.val - 1) = _; omega)
  have h2 : (if h : r.val < 255 then u (ix2 ⟨r.val + 1, by omega⟩ ⟨1024 + c.val, by omega⟩) else n c) =
      if h : o + r.val < 1023 then P x0 x3 x4 x5 ⟨o + r.val + 1, by omega⟩ ⟨1024 + c.val, by omega⟩ else last i x2 x3 x4 x5 c := by
    by_cases hr : r.val < 255
    · rw [dif_pos hr, dif_pos (by omega), hu]
      exact e _ _ _ _ (by show o + (r.val + 1) = _; omega)
    · rw [dif_neg hr, hn]
      by_cases h0 : o + 256 < 1024
      · rw [dif_pos h0, dif_pos (by omega)]
        exact e _ _ _ _ (by omega)
      · rw [dif_neg h0, dif_neg (by omega)]
  rw [h1, h2, hu]

/-- The weights of the convolution are read whole. -/
theorem load_cw : View.ld x6 r0_9 = x6 := View.ld_unit_lit' _ _ (by decide)
/-- So are its biases, -/
theorem load_cb : View.ld x7 r0_10 = x7 := View.ld_unit_lit' _ _ (by decide)
/-- and those of the steps. -/
theorem load_d : View.ld x8 r0_13 = x8 := View.ld_unit_lit' _ _ (by decide)

/-- The first group's projection, its rows counted from the block's first. -/
theorem p0' (r : Fin 256) (j : Fin 2944) : k0_pay53 (F := Ideal) i x0 x1 x2 x3 x4 x5 x6 x7 x8 (ix2 r j) = P x0 x3 x4 x5 ⟨r.val, by omega⟩ j := by
  rw [p0]; simp only [Nat.zero_add]

/-- The first group's convolved channels, as rows of the block. -/
theorem v0 (r : Fin 256) (c : Fin 1792) : k0_pay59 (F := Ideal) i x0 x1 x2 x3 x4 x5 x6 x7 x8 (ix2 r c) =
    blockConv i x0 x1 x2 x3 x4 x5 x6 x7 ⟨r.val, by omega⟩ c := by
  unfold k0_pay59
  rw [window0, load_cw, load_cb]
  have h := window_block i x0 x1 x2 x3 x4 x5 x6 x7 0 (by omega) (fun c => k0_pay52 (F := Ideal) i x0 x1 x2 x3 x4 x5 x6 x7 x8 (ix2 0 c))
    (k0_pay53 (F := Ideal) i x0 x1 x2 x3 x4 x5 x6 x7 x8)
    (fun c => k0_pay54 (F := Ideal) i x0 x1 x2 x3 x4 x5 x6 x7 x8 (ix2 0 ⟨1024 + c.val, by omega⟩)) (p0 i x0 x1 x2 x3 x4 x5 x6 x7 x8) r c
    ((first_apply i x0 x1 x2 x3 x4 x5 x6 x7 x8 c).trans (if_pos rfl).symm)
    (by rw [dif_pos (show 0 + 256 < 1024 by decide)]; exact p1 i x0 x1 x2 x3 x4 x5 x6 x7 x8 0 _)
  rw [h]
  simp only [Nat.zero_add]

/-- The second group's. -/
theorem v1 (r : Fin 256) (c : Fin 1792) : k0_pay27 (F := Ideal) (k0_pay60 i x0 x1 x2 x3 x4 x5 x6 x7 x8) (k0_pay61 i x0 x1 x2 x3 x4 x5 x6 x7 x8)
    (Scalar.ofBits .f32 0x3F800000#32) (ix2 r c) =
    blockConv i x0 x1 x2 x3 x4 x5 x6 x7 ⟨256 + r.val, by omega⟩ c := by
  refine (window1 _ _ _ _ _ r c).trans ?_
  rw [load_cw, load_cb]
  exact window_block i x0 x1 x2 x3 x4 x5 x6 x7 256 (by omega) _ _ _ (p1 i x0 x1 x2 x3 x4 x5 x6 x7 x8) r c
    (p0 i x0 x1 x2 x3 x4 x5 x6 x7 x8 255 _) (p2 i x0 x1 x2 x3 x4 x5 x6 x7 x8 0 _)

/-- The third group's. -/
theorem v2 (r : Fin 256) (c : Fin 1792) : k0_pay37 (F := Ideal) (k0_pay62 i x0 x1 x2 x3 x4 x5 x6 x7 x8) (k0_pay63 i x0 x1 x2 x3 x4 x5 x6 x7 x8) (ix2 r c) =
    blockConv i x0 x1 x2 x3 x4 x5 x6 x7 ⟨512 + r.val, by omega⟩ c := by
  refine (window2 _ _ _ _ _ r c).trans ?_
  rw [load_cw, load_cb]
  exact window_block i x0 x1 x2 x3 x4 x5 x6 x7 512 (by omega) _ _ _ (p2 i x0 x1 x2 x3 x4 x5 x6 x7 x8) r c
    (p1 i x0 x1 x2 x3 x4 x5 x6 x7 x8 255 _) (p3 i x0 x1 x2 x3 x4 x5 x6 x7 x8 0 _)

/-- The fourth group's. -/
theorem v3 (r : Fin 256) (c : Fin 1792) : k0_pay46 (F := Ideal) (k0_pay64 i x0 x1 x2 x3 x4 x5 x6 x7 x8) (View.ld x7 r0_10) (ix2 r c) =
    blockConv i x0 x1 x2 x3 x4 x5 x6 x7 ⟨768 + r.val, by omega⟩ c := by
  refine (window3 _ _ _ _ _ r c).trans ?_
  rw [load_cw, load_cb]
  exact window_block i x0 x1 x2 x3 x4 x5 x6 x7 768 (by omega) _ _ _ (p3 i x0 x1 x2 x3 x4 x5 x6 x7 x8) r c
    (p2 i x0 x1 x2 x3 x4 x5 x6 x7 x8 255 _) (last_apply i x1 x2 x3 x4 x5 c)

end

end Cert.InprojIdeal.Gen

end
-- ==== Proof.InprojOut.lean ====
/-
  The body stores each of its six results in four pieces, one for each group of 256 rows. Each
  result's block is read back here as one function of the block's rows.
-/
module

public import proofs.«01_k».proof.Proof.InprojValue

@[expose] public section

set_option maxRecDepth 16384

noncomputable section

namespace Cert.InprojIdeal.Gen

open Idealize.ShloMosaic Idealize.ShloMosaic.TcCoe Idealize.SL.Sem

section
variable (i : grid0.Coords) (x0 : Vec Ideal S1x1024x1024 .f32) (x1 x2 : Vec Ideal S1x8x1024 .f32) (x3 : Vec Ideal S1x9x1024 .f32)
  (x4 : Vec Ideal S1x1024 .f32) (x5 : Vec Ideal S1024x2944 .bf16) (x6 : Vec Ideal S3x1792 .f32) (x7 : Vec Ideal S1x1792 .f32)
  (x8 : Vec Ideal S1x128 .f32)

/-- Four stores of 256 rows each read back by rows. -/
theorem canon_rows (W : ℕ) (e : EltTy) (G : Fin 1024 → Fin W → Elt Ideal e)
    (b0 : ∀ a : Fin 3, (![0, 0, 0] : Fin 3 → ℕ) a + (⟨3, ![1, 256, W]⟩ : Shape).size a ≤ (⟨3, ![1, 1024, W]⟩ : Shape).size a)
    (b1 : ∀ a : Fin 3, (![0, 256, 0] : Fin 3 → ℕ) a + (⟨3, ![1, 256, W]⟩ : Shape).size a ≤ (⟨3, ![1, 1024, W]⟩ : Shape).size a)
    (b2 : ∀ a : Fin 3, (![0, 512, 0] : Fin 3 → ℕ) a + (⟨3, ![1, 256, W]⟩ : Shape).size a ≤ (⟨3, ![1, 1024, W]⟩ : Shape).size a)
    (b3 : ∀ a : Fin 3, (![0, 768, 0] : Fin 3 → ℕ) a + (⟨3, ![1, 256, W]⟩ : Shape).size a ≤ (⟨3, ![1, 1024, W]⟩ : Shape).size a)
    (q0 q1 q2 q3 : Vec Ideal (⟨3, ![1, 256, W]⟩ : Shape) e)
    (h0 : ∀ (r : Fin 256) (n : Fin W), q0 (ix3 0 r n) = G ⟨r.val, by omega⟩ n)
    (h1 : ∀ (r : Fin 256) (n : Fin W), q1 (ix3 0 r n) = G ⟨256 + r.val, by omega⟩ n)
    (h2 : ∀ (r : Fin 256) (n : Fin W), q2 (ix3 0 r n) = G ⟨512 + r.val, by omega⟩ n)
    (h3 : ∀ (r : Fin 256) (n : Fin W), q3 (ix3 0 r n) = G ⟨768 + r.val, by omega⟩ n)
    (y : (⟨3, ![1, 1024, W]⟩ : Shape).Idx)
    (hc : ∃ pc ∈ ([⟨Rect.unit (s := ⟨3, ![1, 1024, W]⟩) ![0, 768, 0] (⟨3, ![1, 256, W]⟩ : Shape).size b3, q3⟩,
      ⟨Rect.unit (s := ⟨3, ![1, 1024, W]⟩) ![0, 512, 0] (⟨3, ![1, 256, W]⟩ : Shape).size b2, q2⟩,
      ⟨Rect.unit (s := ⟨3, ![1, 1024, W]⟩) ![0, 256, 0] (⟨3, ![1, 256, W]⟩ : Shape).size b1, q1⟩,
      ⟨Rect.unit (s := ⟨3, ![1, 1024, W]⟩) ![0, 0, 0] (⟨3, ![1, 256, W]⟩ : Shape).size b0, q0⟩] :
        List (View.Piece (Elt Ideal) (⟨3, ![1, 1024, W]⟩ : Shape) e)), y ∈ pc.1.set) :
    View.canon (Val := Elt Ideal) (e := e) [⟨Rect.unit (s := ⟨3, ![1, 1024, W]⟩) ![0, 768, 0] (⟨3, ![1, 256, W]⟩ : Shape).size b3, q3⟩,
      ⟨Rect.unit (s := ⟨3, ![1, 1024, W]⟩) ![0, 512, 0] (⟨3, ![1, 256, W]⟩ : Shape).size b2, q2⟩,
      ⟨Rect.unit (s := ⟨3, ![1, 1024, W]⟩) ![0, 256, 0] (⟨3, ![1, 256, W]⟩ : Shape).size b1, q1⟩,
      ⟨Rect.unit (s := ⟨3, ![1, 1024, W]⟩) ![0, 0, 0] (⟨3, ![1, 256, W]⟩ : Shape).size b0, q0⟩] y = G (y 1) (y 2) := by
  have piece : ∀ (o : ℕ) (ho : o + 256 ≤ 1024) (inb : ∀ a : Fin 3, (![0, o, 0] : Fin 3 → ℕ) a + (⟨3, ![1, 256, W]⟩ : Shape).size a ≤ (⟨3, ![1, 1024, W]⟩ : Shape).size a)
      (q : Vec Ideal (⟨3, ![1, 256, W]⟩ : Shape) e) (h : ∀ (r : Fin 256) (n : Fin W), q (ix3 0 r n) = G ⟨o + r.val, by omega⟩ n)
      (x : (⟨3, ![1, 256, W]⟩ : Shape).Idx),
      q x = (fun y : (⟨3, ![1, 1024, W]⟩ : Shape).Idx => G (y 1) (y 2))
        ((Rect.unit (s := ⟨3, ![1, 1024, W]⟩) ![0, o, 0] (⟨3, ![1, 256, W]⟩ : Shape).size inb).emb x) := by
    intro o ho inb q h x
    obtain ⟨r, n, rfl⟩ : ∃ (r : Fin 256) (n : Fin W), x = ix3 0 r n := ⟨x 1, x 2, by
      refine (eq_ix3 x).trans ?_; congr 1; exact Subsingleton.elim _ _⟩
    rw [h]
    dsimp only
    congr 1
    · refine Fin.ext ?_
      symm
      exact Rect.idx_unit_val _ _ _ _ 1
    · exact Fin.ext ((Rect.idx_unit_val _ _ _ _ 2).trans (Nat.zero_add _)).symm
  refine View.canon_apply_of_pieces (Val := Elt Ideal) (fun y : (⟨3, ![1, 1024, W]⟩ : Shape).Idx => G (y 1) (y 2)) _ (fun p hp => ?_) y hc
  simp only [List.mem_cons, List.not_mem_nil, or_false] at hp
  rcases hp with rfl | rfl | rfl | rfl
  · exact piece 768 (by omega) b3 q3 h3
  · exact piece 512 (by omega) b2 q2 h2
  · exact piece 256 (by omega) b1 q1 h1
  · exact piece 0 (by omega) b0 q0 fun r n => (h0 r n).trans (by simp only [Nat.zero_add])

/-- The transform's columns of the projection. -/
theorem out_uf (y : S1x1024x256.Idx) : out0_9 (F := Ideal) i x0 x1 x2 x3 x4 x5 x6 x7 x8 y =
    P x0 x3 x4 x5 (y 1) ⟨(y 2).val, Nat.lt_of_lt_of_le (y 2).isLt (by decide)⟩ := by
  refine canon_rows 256 .f32 (fun s n => P x0 x3 x4 x5 s ⟨n.val, by omega⟩) _ _ _ _ _ _ _ _ (fun r n => ?_) (fun r n => ?_) (fun r n => ?_)
    (fun r n => ?_) y (cover0_9 _ _ _ _ y)
  · pointwise [k0_pay23]; exact p0' i x0 x1 x2 x3 x4 x5 x6 x7 x8 r _
  · pointwise [k0_pay33, k0_pay32]; exact p1 i x0 x1 x2 x3 x4 x5 x6 x7 x8 r _
  · pointwise [k0_pay43]; exact p2 i x0 x1 x2 x3 x4 x5 x6 x7 x8 r _
  · pointwise [k0_pay2]; exact p3 i x0 x1 x2 x3 x4 x5 x6 x7 x8 r _

/-- The gate's columns. -/
theorem out_z (y : S1x1024x768.Idx) : out0_10 (F := Ideal) i x0 x1 x2 x3 x4 x5 x6 x7 x8 y =
    P x0 x3 x4 x5 (y 1) ⟨256 + (y 2).val, by have h : (y 2).val < 768 := (y 2).isLt; omega⟩ := by
  refine canon_rows 768 .bf16 (fun s n => P x0 x3 x4 x5 s ⟨256 + n.val, by omega⟩) _ _ _ _ _ _ _ _ (fun r n => ?_) (fun r n => ?_) (fun r n => ?_)
    (fun r n => ?_) y (cover0_10 _ _ _ _ y)
  · pointwise [k0_pay24]; exact p0' i x0 x1 x2 x3 x4 x5 x6 x7 x8 r _
  · pointwise [k0_pay34]; exact p1 i x0 x1 x2 x3 x4 x5 x6 x7 x8 r _
  · pointwise [k0_pay44]; exact p2 i x0 x1 x2 x3 x4 x5 x6 x7 x8 r _
  · pointwise [k0_pay3]; exact p3 i x0 x1 x2 x3 x4 x5 x6 x7 x8 r _

/-- The first group's channels, out of the convolved ones. -/
theorem out_c (y : S1x1024x512.Idx) : out0_11 (F := Ideal) i x0 x1 x2 x3 x4 x5 x6 x7 x8 y =
    blockConv i x0 x1 x2 x3 x4 x5 x6 x7 (y 1) ⟨(y 2).val, Nat.lt_of_lt_of_le (y 2).isLt (by decide)⟩ := by
  refine canon_rows 512 .bf16 (fun s n => blockConv i x0 x1 x2 x3 x4 x5 x6 x7 s ⟨n.val, by omega⟩) _ _ _ _ _ _ _ _ (fun r n => ?_) (fun r n => ?_)
    (fun r n => ?_) (fun r n => ?_) y (cover0_11 _ _ _ _ y)
  · pointwise [k0_pay22]; exact v0 i x0 x1 x2 x3 x4 x5 x6 x7 x8 r _
  · have h := v1 i x0 x1 x2 x3 x4 x5 x6 x7 x8 r ⟨n.val, by omega⟩
    unfold k0_pay31
    generalize k0_pay27 (F := Ideal) _ _ _ = v at h ⊢
    pointwise; exact h
  · have h := v2 i x0 x1 x2 x3 x4 x5 x6 x7 x8 r ⟨n.val, by omega⟩
    unfold k0_pay42 k0_pay41
    generalize k0_pay37 (F := Ideal) _ _ = v at h ⊢
    pointwise; exact h
  · have h := v3 i x0 x1 x2 x3 x4 x5 x6 x7 x8 r ⟨n.val, by omega⟩
    generalize k0_pay46 (F := Ideal) _ _ = v at h ⊢
    pointwise [k0_pay1]; exact h

/-- The inputs' channels. -/
theorem out_x (y : S1x1024x768.Idx) : out0_12 (F := Ideal) i x0 x1 x2 x3 x4 x5 x6 x7 x8 y =
    blockConv i x0 x1 x2 x3 x4 x5 x6 x7 (y 1) ⟨512 + (y 2).val, by have h : (y 2).val < 768 := (y 2).isLt; omega⟩ := by
  refine canon_rows 768 .bf16 (fun s n => blockConv i x0 x1 x2 x3 x4 x5 x6 x7 s ⟨512 + n.val, by omega⟩) _ _ _ _ _ _ _ _ (fun r n => ?_) (fun r n => ?_)
    (fun r n => ?_) (fun r n => ?_) y (cover0_12 _ _ _ _ y)
  · have h := v0 i x0 x1 x2 x3 x4 x5 x6 x7 x8 r ⟨512 + n.val, by omega⟩
    unfold k0_pay59 at h
    unfold k0_pay19 k0_pay18
    generalize k0_pay17 (F := Ideal) _ _ _ _ _ = v at h ⊢
    pointwise; exact h
  · have h := v1 i x0 x1 x2 x3 x4 x5 x6 x7 x8 r ⟨512 + n.val, by omega⟩
    unfold k0_pay28
    generalize k0_pay27 (F := Ideal) _ _ _ = v at h ⊢
    pointwise; exact h
  · have h := v2 i x0 x1 x2 x3 x4 x5 x6 x7 x8 r ⟨512 + n.val, by omega⟩
    unfold k0_pay38
    generalize k0_pay37 (F := Ideal) _ _ = v at h ⊢
    pointwise; exact h
  · have h := v3 i x0 x1 x2 x3 x4 x5 x6 x7 x8 r ⟨512 + n.val, by omega⟩
    unfold k0_pay47
    generalize k0_pay46 (F := Ideal) _ _ = v at h ⊢
    pointwise; exact h

/-- The keys' channels. -/
theorem out_b (y : S1x1024x512.Idx) : out0_13 (F := Ideal) i x0 x1 x2 x3 x4 x5 x6 x7 x8 y =
    blockConv i x0 x1 x2 x3 x4 x5 x6 x7 (y 1) ⟨1280 + (y 2).val, by have h : (y 2).val < 512 := (y 2).isLt; omega⟩ := by
  refine canon_rows 512 .bf16 (fun s n => blockConv i x0 x1 x2 x3 x4 x5 x6 x7 s ⟨1280 + n.val, by omega⟩) _ _ _ _ _ _ _ _ (fun r n => ?_) (fun r n => ?_)
    (fun r n => ?_) (fun r n => ?_) y (cover0_13 _ _ _ _ y)
  · pointwise [k0_pay20]; exact v0 i x0 x1 x2 x3 x4 x5 x6 x7 x8 r _
  · have h := v1 i x0 x1 x2 x3 x4 x5 x6 x7 x8 r ⟨1280 + n.val, by omega⟩
    unfold k0_pay29
    generalize k0_pay27 (F := Ideal) _ _ _ = v at h ⊢
    pointwise; exact h
  · have h := v2 i x0 x1 x2 x3 x4 x5 x6 x7 x8 r ⟨1280 + n.val, by omega⟩
    unfold k0_pay39
    generalize k0_pay37 (F := Ideal) _ _ = v at h ⊢
    pointwise; exact h
  · have h := v3 i x0 x1 x2 x3 x4 x5 x6 x7 x8 r ⟨1280 + n.val, by omega⟩
    unfold k0_pay48
    generalize k0_pay46 (F := Ideal) _ _ = v at h ⊢
    pointwise; exact h

/-- The steps. -/
theorem out_d (y : S1x32x1024.Idx) : out0_14 (F := Ideal) i x0 x1 x2 x3 x4 x5 x6 x7 x8 y =
    Window.softplus (P x0 x3 x4 x5 (y 2) ⟨2816 + (y 1).val, by have h : (y 1).val < 32 := (y 1).isLt; omega⟩ +
      x8 (ix2 0 ⟨(y 1).val, Nat.lt_of_lt_of_le (y 1).isLt (by decide)⟩)) := by
  have piece : ∀ (o : ℕ) (ho : o + 256 ≤ 1024) (inb : ∀ a : Fin 3, (![0, 0, o] : Fin 3 → ℕ) a + S1x32x256.size a ≤ S1x32x1024.size a)
      (u : FVec Ideal S256x2944 .f32) (h : ∀ r j, u (ix2 r j) = P x0 x3 x4 x5 ⟨o + r.val, by omega⟩ j) (x : S1x32x256.Idx),
      k0_pay21 (F := Ideal) u (View.ld x8 r0_13) x = (fun y : S1x32x1024.Idx => Window.softplus (P x0 x3 x4 x5 (y 2)
          ⟨2816 + (y 1).val, by have h : (y 1).val < 32 := (y 1).isLt; omega⟩ +
        x8 (ix2 0 ⟨(y 1).val, Nat.lt_of_lt_of_le (y 1).isLt (by decide)⟩)))
        ((Rect.unit (s := S1x32x1024) ![0, 0, o] S1x32x256.size inb).emb x) := by
    intro o ho inb u h x
    obtain ⟨r, n, rfl⟩ : ∃ (r : Fin 32) (n : Fin 256), x = ix3 0 r n := ⟨x 1, x 2, by
      refine (eq_ix3 x).trans ?_; congr 1; exact Subsingleton.elim _ _⟩
    rw [steps_apply, h, load_d]
    dsimp only
    have e1 : ((Rect.unit (s := S1x32x1024) ![0, 0, o] S1x32x256.size inb).emb (ix3 0 r n) 1).val = r.val :=
      (Rect.idx_unit_val _ _ _ _ 1).trans (Nat.zero_add _)
    have e2 : (⟨o + n.val, by omega⟩ : Fin 1024) = (Rect.unit (s := S1x32x1024) ![0, 0, o] S1x32x256.size inb).emb (ix3 0 r n) 2 := by
      refine Fin.ext ?_
      symm
      exact Rect.idx_unit_val _ _ _ _ 2
    rw [← e2]
    simp only [e1]
  refine View.canon_apply_of_pieces (Val := Elt Ideal) (fun y : S1x32x1024.Idx => Window.softplus (P x0 x3 x4 x5 (y 2)
          ⟨2816 + (y 1).val, by have h : (y 1).val < 32 := (y 1).isLt; omega⟩ +
        x8 (ix2 0 ⟨(y 1).val, Nat.lt_of_lt_of_le (y 1).isLt (by decide)⟩))) _ (fun p hp => ?_) y (cover0_14 _ _ _ _ y)
  simp only [List.mem_cons, List.not_mem_nil, or_false] at hp
  rcases hp with rfl | rfl | rfl | rfl
  · exact piece 768 (by omega) inb_S1x32x1024_S1x32x256_0_0_768 _ (p3 i x0 x1 x2 x3 x4 x5 x6 x7 x8)
  · exact piece 512 (by omega) inb_S1x32x1024_S1x32x256_0_0_512 _ (p2 i x0 x1 x2 x3 x4 x5 x6 x7 x8)
  · exact piece 256 (by omega) inb_S1x32x1024_S1x32x256_0_0_256 _ (p1 i x0 x1 x2 x3 x4 x5 x6 x7 x8)
  · exact piece 0 (by omega) inb_S1x32x1024_S1x32x256_0_0_0 _ (p0 i x0 x1 x2 x3 x4 x5 x6 x7 x8)

end

end Cert.InprojIdeal.Gen

end
-- ==== Proof.InprojArr.lean ====
/-
  Each of the six result arrays, after the run, is one function of the argument arrays: the projection, the
  convolution over three neighbouring tokens, or the step sizes of `Window`.
-/
module

public import proofs.«01_k».proof.Proof.InprojOut

@[expose] public section

set_option maxRecDepth 16384

noncomputable section

namespace Cert.InprojIdeal.Gen

open Idealize.ShloMosaic Idealize.ShloMosaic.TcCoe Idealize.SL.Sem

variable (m : (ℓ : Loc nD τ sig) → Buf (Elt Ideal) ℓ)

/-- The argument arrays, index by index. -/
def ax (c : Dev nD) (b : Fin 8) (s : Fin 4096) (k : Fin 1024) : EReal := m ((c.tc : Thread nD τ).loc main_arg0) (ix3 b s k)
def amod (c : Dev nD) (b : Fin 16) (r : Fin 9) (k : Fin 1024) : EReal := m ((c.tc : Thread nD τ).loc main_arg1) (ix3 b r k)
def ag (c : Dev nD) (k : Fin 1024) : EReal := m ((c.tc : Thread nD τ).loc main_arg2) (ix2 0 k)
def aw (c : Dev nD) (k : Fin 1024) (j : Fin 2840) : EReal := m ((c.tc : Thread nD τ).loc main_arg3) (ix3 0 k j)
def acw (c : Dev nD) (q : Fin 3) (n : Fin 1792) : EReal := m ((c.tc : Thread nD τ).loc main_arg4) (ix3 0 q n)
def acb (c : Dev nD) (n : Fin 1792) : EReal := m ((c.tc : Thread nD τ).loc main_arg5) (ix2 0 n)
def ad (c : Dev nD) (q : Fin 2) (h : Fin 12) : EReal := m ((c.tc : Thread nD τ).loc main_arg6) (ix3 0 q h)

/-- The block indices of the windows at a grid point, and the point's place along the rows. -/
theorem idx_in : ∀ t : Fin grid0.N, win0_0.index t = ![t.val / 4, t.val % 4, 0] ∧ win0_1.index t = ![t.val / 4, t.val % 4 * 128 - 1, 0] ∧
    win0_2.index t = ![t.val / 4, min ((t.val % 4 + 1) * 128) 511, 0] ∧ win0_3.index t = ![t.val / 4, 0, 0] ∧
    win0_4.index t = ![0, 0] ∧ win0_5.index t = ![0, 0] ∧ win0_6.index t = ![0, 0] ∧ win0_7.index t = ![0, 0] ∧
    win0_8.index t = ![0, 0] ∧ (grid0.coords t 1).val = t.val % 4 := by decide +kernel

theorem idx_out : ∀ t : Fin grid0.N, win0_9.index t = ![t.val / 4, t.val % 4, 0] ∧ win0_10.index t = ![t.val / 4, t.val % 4, 0] ∧
    win0_11.index t = ![t.val / 4, t.val % 4, 0] ∧ win0_12.index t = ![t.val / 4, t.val % 4, 0] ∧
    win0_13.index t = ![t.val / 4, t.val % 4, 0] ∧ win0_14.index t = ![t.val / 4, 0, t.val % 4] := by decide +kernel

/-- The gain, as the host hands it over. -/
theorem host_g (c : Dev nD) (k : Fin 1024) : (V m c main_v10 : S1x1024.Idx → EReal) (ix2 0 k) = ag m c k := by
  unfold ag
  simp only [V, hostOps0, hostOps0_1, hostOps0_2, hostOps0_3, hostOps0_4, List.flatten_cons, List.flatten_nil, List.append_nil,
    List.cons_append, List.nil_append]
  entry_read
  pointwise

/-- The number zero, converted from an integer. -/
theorem zero_conv : FloatOps.sitofp (F := Ideal) .f32 (0#32 : BitVec 32) = (0 : EReal) := by
  show (((0#32 : BitVec 32).toInt : ℝ) : EReal) = 0
  simp

/-- A weight padded with zero columns. -/
theorem pad_w (x : S1x1024x2840.Idx → EReal) (k : Fin 1024) (j : Fin 2944) :
    pad S1024x2944 ![0, 0] ![0, 104] ![0, 0] (shapeCast S1024x2840 x shapeCasts_S1x1024x2840_S1024x2840)
      (sitofp (F := Ideal) .f32 (constantI S_ 32 0#32)) pads_S1024x2840_S1024x2944_000_01040 h_S_ (ix2 k j) =
      if h : j.val < 2840 then x (ix3 0 k ⟨j.val, h⟩) else 0 := by
  refine Eq.trans ?_ (congrArg (fun z => if h : j.val < 2840 then x (ix3 0 k ⟨j.val, h⟩) else z) zero_conv)
  pointwise

/-- A row of two times twelve, padded with zeros. -/
theorem pad_d (x : S1x2x12.Idx → EReal) (r : Fin 128) :
    pad S1x128 ![0, 0] ![0, 104] ![0, 0]
      (shapeCast S1x24 (shapeCast S2x12 x shapeCasts_S1x2x12_S2x12) shapeCasts_S2x12_S1x24)
      (sitofp (F := Ideal) .f32 (constantI S_ 32 0#32)) pads_S1x24_S1x128_000_01040 h_S_ (ix2 0 r) =
      if h : r.val < 24 then x (ix3 0 ⟨r.val / 12, by omega⟩ ⟨r.val % 12, by omega⟩) else 0 := by
  refine Eq.trans ?_ (congrArg (fun z => if h : r.val < 24 then x (ix3 0 ⟨r.val / 12, by omega⟩ ⟨r.val % 12, by omega⟩) else z) zero_conv)
  pointwise

/-- The projection's weight, with zero columns after its own. -/
theorem host_w (c : Dev nD) (k : Fin 1024) (j : Fin 2944) :
    (V m c main_v2 : S1024x2944.Idx → EReal) (ix2 k j) = if h : j.val < 2840 then aw m c k ⟨j.val, h⟩ else 0 := by
  unfold aw
  simp only [V, hostOps0, hostOps0_1, hostOps0_2, hostOps0_3, hostOps0_4, List.flatten_cons, List.flatten_nil, List.append_nil,
    List.cons_append, List.nil_append]
  entry_read
  exact pad_w (m ((c.tc : Thread nD τ).loc main_arg3)) k j

/-- The convolution's weight. -/
theorem host_cw (c : Dev nD) (q : Fin 3) (n : Fin 1792) : (V m c main_v6 : S3x1792.Idx → EReal) (ix2 q n) = acw m c q n := by
  unfold acw
  simp only [V, hostOps0, hostOps0_1, hostOps0_2, hostOps0_3, hostOps0_4, List.flatten_cons, List.flatten_nil, List.append_nil,
    List.cons_append, List.nil_append]
  entry_read
  pointwise

/-- The convolution's bias. -/
theorem host_cb (c : Dev nD) (n : Fin 1792) : (V m c main_v8 : S1x1792.Idx → EReal) (ix2 0 n) = acb m c n := by
  unfold acb
  simp only [V, hostOps0, hostOps0_1, hostOps0_2, hostOps0_3, hostOps0_4, List.flatten_cons, List.flatten_nil, List.append_nil,
    List.cons_append, List.nil_append]
  entry_read
  pointwise

/-- The steps' bias, with zeros after its own. -/
theorem host_d (c : Dev nD) (r : Fin 128) : (V m c main_v5 : S1x128.Idx → EReal) (ix2 0 r) =
    if h : r.val < 24 then ad m c ⟨r.val / 12, by omega⟩ ⟨r.val % 12, by omega⟩ else 0 := by
  unfold ad
  simp only [V, hostOps0, hostOps0_1, hostOps0_2, hostOps0_3, hostOps0_4, List.flatten_cons, List.flatten_nil, List.append_nil,
    List.cons_append, List.nil_append]
  entry_read
  exact pad_d (m ((c.tc : Thread nD τ).loc main_arg6)) r

/-- A point's batch and a token of its block. -/
abbrev bat (t : Fin cfg0.N) : Fin 8 := ⟨t.val / 4, by have h : t.val < 32 := t.isLt; omega⟩
abbrev tok (t : Fin cfg0.N) (s : Fin 1024) : Fin 4096 := ⟨t.val % 4 * 1024 + s.val, by omega⟩

/-- A projected row of a block's weights, whichever the row. -/
theorem row_eq (c : Dev nD) (t : Fin cfg0.N) (v : Fin 1024 → EReal) (j : Fin 2944) (hj : j.val < 2840) :
    rowProj (iblk m c 3 t) (iblk m c 4 t) (iblk m c 5 t) v j =
      Window.proj v (ag m c) (amod m c ⟨t.val / 4, by have h : t.val < 32 := t.isLt; omega⟩ 4)
        (amod m c ⟨t.val / 4, by have h : t.val < 32 := t.isLt; omega⟩ 3) (fun k => aw m c k ⟨j.val, hj⟩) := by
  obtain ⟨h0, h1, h2, h3, h4, h5, h6, h7, h8, h9⟩ := idx_in t
  unfold rowProj
  congr 1 <;> funext k
  · refine Eq.trans ?_ (host_g m c k)
    blk_ext [iblk, h4]
  · unfold amod; blk_ext [iblk, V, h3]
  · unfold amod; blk_ext [iblk, V, h3]
  · refine Eq.trans ?_ ((host_w m c k j).trans (dif_pos hj))
    blk_ext [iblk, h5]

/-- Past the weight's own columns the projection is zero. -/
theorem row_pad (c : Dev nD) (t : Fin cfg0.N) (v : Fin 1024 → EReal) (j : Fin 2944) (hj : ¬ j.val < 2840) :
    rowProj (iblk m c 3 t) (iblk m c 4 t) (iblk m c 5 t) v j = 0 := by
  obtain ⟨h0, h1, h2, h3, h4, h5, h6, h7, h8, h9⟩ := idx_in t
  have hw : (fun k : Fin 1024 => (iblk m c 5 t : Vec Ideal S1024x2944 .bf16) (ix2 k j)) = fun _ => (0 : EReal) := by
    funext k
    refine Eq.trans ?_ ((host_w m c k j).trans (dif_neg hj))
    blk_ext [iblk, h5]
  unfold rowProj
  rw [hw]
  unfold Window.proj
  simp only [mul_zero, Finset.sum_const_zero]

/-- The block's projection. -/
theorem proj_eq (c : Dev nD) (t : Fin cfg0.N) (s : Fin 1024) (j : Fin 2944) (hj : j.val < 2840) :
    P (iblk m c 0 t) (iblk m c 3 t) (iblk m c 4 t) (iblk m c 5 t) s j =
      Window.entry (ax m c) (amod m c) (ag m c) (aw m c) (bat t) (tok t s) ⟨j.val, hj⟩ := by
  obtain ⟨h0, h1, h2, h3, h4, h5, h6, h7, h8, h9⟩ := idx_in t
  refine (row_eq m c t _ j hj).trans ?_
  unfold Window.entry
  congr 1
  funext k
  unfold ax; blk_ext [iblk, V, h0]

/-- The token before the block. -/
theorem first_eq (c : Dev nD) (t : Fin cfg0.N) (n : Fin 1792) :
    first (grid0.coords t) (iblk m c 1 t) (iblk m c 3 t) (iblk m c 4 t) (iblk m c 5 t) n =
      Window.before (ax m c) (amod m c) (ag m c) (aw m c) (bat t) (tok t 0) (Window.col n) := by
  obtain ⟨h0, h1, h2, h3, h4, h5, h6, h7, h8, h9⟩ := idx_in t
  unfold first Window.before
  rw [h9]
  by_cases h : t.val % 4 = 0
  · rw [if_pos h, if_pos (by show t.val % 4 * 1024 + 0 = 0; omega)]
  · rw [if_neg h, if_neg (by show ¬ t.val % 4 * 1024 + 0 = 0; omega)]
    refine (row_eq m c t _ _ (by show 1024 + n.val < 2840; omega)).trans ?_
    unfold Window.entry
    congr 1
    funext k
    unfold ax; blk_ext [iblk, V, h1]

/-- The token after the block. -/
theorem last_eq (c : Dev nD) (t : Fin cfg0.N) (n : Fin 1792) :
    last (grid0.coords t) (iblk m c 2 t) (iblk m c 3 t) (iblk m c 4 t) (iblk m c 5 t) n =
      Window.after (ax m c) (amod m c) (ag m c) (aw m c) (bat t) (tok t 1023) (Window.col n) := by
  obtain ⟨h0, h1, h2, h3, h4, h5, h6, h7, h8, h9⟩ := idx_in t
  unfold last Window.after
  rw [h9]
  by_cases h : t.val % 4 < 3
  · rw [if_pos h, dif_pos (by show t.val % 4 * 1024 + 1023 < 4095; omega)]
    refine (row_eq m c t _ _ (by show 1024 + n.val < 2840; omega)).trans ?_
    unfold Window.entry
    congr 1
    funext k
    unfold ax; blk_ext [iblk, V, h2]
  · rw [if_neg h, dif_neg (by show ¬ t.val % 4 * 1024 + 1023 < 4095; omega)]

/-- The block's convolved channels. -/
theorem conv_eq (c : Dev nD) (t : Fin cfg0.N) (s : Fin 1024) (n : Fin 1792) :
    blockConv (grid0.coords t) (iblk m c 0 t) (iblk m c 1 t) (iblk m c 2 t) (iblk m c 3 t) (iblk m c 4 t) (iblk m c 5 t)
        (iblk m c 6 t) (iblk m c 7 t) s n =
      Window.chan (ax m c) (amod m c) (ag m c) (aw m c) (acw m c) (acb m c) (bat t) (tok t s) n := by
  obtain ⟨h0, h1, h2, h3, h4, h5, h6, h7, h8, h9⟩ := idx_in t
  have hn : (1024 + n.val) < 2840 := by omega
  have hw : ∀ q : Fin 3, (iblk m c 6 t : Vec Ideal S3x1792 .f32) (ix2 q n) = acw m c q n := fun q => by
    refine Eq.trans ?_ (host_cw m c q n)
    blk_ext [iblk, h6]
  have hb : (iblk m c 7 t : Vec Ideal S1x1792 .f32) (ix2 0 n) = acb m c n := by
    refine Eq.trans ?_ (host_cb m c n)
    blk_ext [iblk, h7]
  have e : ∀ (k k' : Fin 4096), k.val = k'.val → Window.entry (ax m c) (amod m c) (ag m c) (aw m c) (bat t) k (Window.col n) =
      Window.entry (ax m c) (amod m c) (ag m c) (aw m c) (bat t) k' (Window.col n) := fun k k' h => congrArg _ (Fin.ext h) |> fun h => congrFun h _
  unfold blockConv Window.chan
  rw [hw, hw, hw, hb, proj_eq m c t s _ hn]
  congr 1
  · by_cases h : s.val = 0
    · rw [if_pos h, first_eq]
      exact congrArg (fun q => Window.before (ax m c) (amod m c) (ag m c) (aw m c) (bat t) q (Window.col n))
        (Fin.ext (by show t.val % 4 * 1024 + 0 = t.val % 4 * 1024 + s.val; omega))
    · rw [if_neg h, proj_eq m c t _ _ hn]
      unfold Window.before
      rw [if_neg (by show ¬ t.val % 4 * 1024 + s.val = 0; omega)]
      exact e _ _ (by show t.val % 4 * 1024 + (s.val - 1) = t.val % 4 * 1024 + s.val - 1; omega)
  · by_cases h : s.val < 1023
    · rw [dif_pos h, proj_eq m c t _ _ hn]
      unfold Window.after
      rw [dif_pos (by show t.val % 4 * 1024 + s.val < 4095; omega)]
      exact e _ _ (by show t.val % 4 * 1024 + (s.val + 1) = t.val % 4 * 1024 + s.val + 1; omega)
    · rw [dif_neg h, last_eq]
      exact congrArg (fun q => Window.after (ax m c) (amod m c) (ag m c) (aw m c) (bat t) q (Window.col n))
        (Fin.ext (by show t.val % 4 * 1024 + 1023 = t.val % 4 * 1024 + s.val; omega))

/-- The block's steps. -/
theorem step_eq (c : Dev nD) (t : Fin cfg0.N) (r : Fin 32) (s : Fin 1024) :
    Window.softplus (P (iblk m c 0 t) (iblk m c 3 t) (iblk m c 4 t) (iblk m c 5 t) s ⟨2816 + r.val, by omega⟩ +
        (iblk m c 8 t : Vec Ideal S1x128 .f32) (ix2 0 ⟨r.val, by omega⟩)) =
      Window.step (ax m c) (amod m c) (ag m c) (aw m c) (ad m c) (bat t) r (tok t s) := by
  obtain ⟨h0, h1, h2, h3, h4, h5, h6, h7, h8, h9⟩ := idx_in t
  have hd : (iblk m c 8 t : Vec Ideal S1x128 .f32) (ix2 0 ⟨r.val, by omega⟩) =
      if h : r.val < 24 then ad m c ⟨r.val / 12, by omega⟩ ⟨r.val % 12, by omega⟩ else 0 := by
    refine Eq.trans ?_ (host_d m c ⟨r.val, by omega⟩)
    blk_ext [iblk, h8]
  unfold Window.step
  rw [hd]
  by_cases h : r.val < 24
  · rw [dif_pos h, dif_pos h, proj_eq m c t s _ (by show 2816 + r.val < 2840; omega)]
  · rw [dif_neg h, dif_neg h]
    unfold P
    rw [row_pad m c t _ _ (by show ¬ 2816 + r.val < 2840; omega), add_zero]

/-- The six results, as functions of the argument arrays. -/
def res_uf (c : Dev nD) : S8x4096x256.Idx → EReal := fun i =>
  Window.entry (ax m c) (amod m c) (ag m c) (aw m c) (i 0) (i 1) ⟨(i 2).val, Nat.lt_of_lt_of_le (i 2).isLt (by decide)⟩
def res_z (c : Dev nD) : S8x4096x768.Idx → EReal := fun i =>
  Window.entry (ax m c) (amod m c) (ag m c) (aw m c) (i 0) (i 1) ⟨256 + (i 2).val, by have h : (i 2).val < 768 := (i 2).isLt; omega⟩
def res_c (c : Dev nD) : S8x4096x512.Idx → EReal := fun i =>
  Window.chan (ax m c) (amod m c) (ag m c) (aw m c) (acw m c) (acb m c) (i 0) (i 1) ⟨(i 2).val, Nat.lt_of_lt_of_le (i 2).isLt (by decide)⟩
def res_x (c : Dev nD) : S8x4096x768.Idx → EReal := fun i =>
  Window.chan (ax m c) (amod m c) (ag m c) (aw m c) (acw m c) (acb m c) (i 0) (i 1) ⟨512 + (i 2).val, by have h : (i 2).val < 768 := (i 2).isLt; omega⟩
def res_b (c : Dev nD) : S8x4096x512.Idx → EReal := fun i =>
  Window.chan (ax m c) (amod m c) (ag m c) (aw m c) (acw m c) (acb m c) (i 0) (i 1) ⟨1280 + (i 2).val, by have h : (i 2).val < 512 := (i 2).isLt; omega⟩
def res_d (c : Dev nD) : S8x32x4096.Idx → EReal := fun i =>
  Window.step (ax m c) (amod m c) (ag m c) (aw m c) (ad m c) (i 0) (i 1) (i 2)

end Cert.InprojIdeal.Gen

end
-- ==== Proof.InprojRes.lean ====
/-
  The input projection's six result arrays after the run, each block put in its place.
-/
module

public import proofs.«01_k».proof.Proof.InprojArr

@[expose] public section

set_option maxRecDepth 16384

noncomputable section

namespace Cert.InprojIdeal.Gen

open Idealize.ShloMosaic Idealize.ShloMosaic.TcCoe Idealize.SL.Sem

variable (m : (ℓ : Loc nD τ sig) → Buf (Elt Ideal) ℓ)

/-- Where a block's entry lies in the array of window 9. -/
theorem place_uf (t : Fin cfg0.N) (r : Fin 1024) (n : Fin 256) :
    ((win0_9.blk t).view.emb (ix3 (0 : Fin 1) r n) : S8x4096x256.Idx) = ix3 (bat t) (tok t r) n := by
  obtain ⟨g9, g10, g11, g12, g13, g14⟩ := idx_out t
  blk_ext [g9]

/-- The transform's array after the run. -/
theorem arr_uf (c : Dev nD) : (dats m 0 c).arrAt 9 cfg0.N = res_uf m c := by
  refine (dats m 0 c).arrAt_eq_of_covers 9 _ (by decide +kernel) fun t hf y => ?_
  obtain ⟨r, n, rfl⟩ : ∃ (r : Fin 1024) (n : Fin 256), y = ix3 (0 : Fin 1) r n := ⟨y 1, y 2, by
    refine (eq_ix3 y).trans ?_; congr 1; exact Subsingleton.elim _ _⟩
  blk_simp
  rw [after0_9]
  refine (out_uf _ _ _ _ _ _ _ _ _ _ (ix3 (0 : Fin 1) r n)).trans ?_
  refine Eq.trans ?_ (congrArg (res_uf m c) (place_uf t r n)).symm
  exact proj_eq m c t r ⟨n.val, by omega⟩ (by show n.val < 2840; omega)

/-- Where a block's entry lies in the array of window 10. -/
theorem place_z (t : Fin cfg0.N) (r : Fin 1024) (n : Fin 768) :
    ((win0_10.blk t).view.emb (ix3 (0 : Fin 1) r n) : S8x4096x768.Idx) = ix3 (bat t) (tok t r) n := by
  obtain ⟨g9, g10, g11, g12, g13, g14⟩ := idx_out t
  blk_ext [g10]

/-- The gate's array after the run. -/
theorem arr_z (c : Dev nD) : (dats m 0 c).arrAt 10 cfg0.N = res_z m c := by
  refine (dats m 0 c).arrAt_eq_of_covers 10 _ (by decide +kernel) fun t hf y => ?_
  obtain ⟨r, n, rfl⟩ : ∃ (r : Fin 1024) (n : Fin 768), y = ix3 (0 : Fin 1) r n := ⟨y 1, y 2, by
    refine (eq_ix3 y).trans ?_; congr 1; exact Subsingleton.elim _ _⟩
  blk_simp
  rw [after0_10]
  refine (out_z _ _ _ _ _ _ _ _ _ _ (ix3 (0 : Fin 1) r n)).trans ?_
  refine Eq.trans ?_ (congrArg (res_z m c) (place_z t r n)).symm
  exact proj_eq m c t r ⟨256 + n.val, by omega⟩ (by show 256 + n.val < 2840; omega)

/-- Where a block's entry lies in the array of window 11. -/
theorem place_c (t : Fin cfg0.N) (r : Fin 1024) (n : Fin 512) :
    ((win0_11.blk t).view.emb (ix3 (0 : Fin 1) r n) : S8x4096x512.Idx) = ix3 (bat t) (tok t r) n := by
  obtain ⟨g9, g10, g11, g12, g13, g14⟩ := idx_out t
  blk_ext [g11]

/-- The first group of channels' array after the run. -/
theorem arr_c (c : Dev nD) : (dats m 0 c).arrAt 11 cfg0.N = res_c m c := by
  refine (dats m 0 c).arrAt_eq_of_covers 11 _ (by decide +kernel) fun t hf y => ?_
  obtain ⟨r, n, rfl⟩ : ∃ (r : Fin 1024) (n : Fin 512), y = ix3 (0 : Fin 1) r n := ⟨y 1, y 2, by
    refine (eq_ix3 y).trans ?_; congr 1; exact Subsingleton.elim _ _⟩
  blk_simp
  rw [after0_11]
  refine (out_c _ _ _ _ _ _ _ _ _ _ (ix3 (0 : Fin 1) r n)).trans ?_
  refine Eq.trans ?_ (congrArg (res_c m c) (place_c t r n)).symm
  exact conv_eq m c t r ⟨n.val, by omega⟩

/-- Where a block's entry lies in the array of window 12. -/
theorem place_x (t : Fin cfg0.N) (r : Fin 1024) (n : Fin 768) :
    ((win0_12.blk t).view.emb (ix3 (0 : Fin 1) r n) : S8x4096x768.Idx) = ix3 (bat t) (tok t r) n := by
  obtain ⟨g9, g10, g11, g12, g13, g14⟩ := idx_out t
  blk_ext [g12]

/-- The inputs' array after the run. -/
theorem arr_x (c : Dev nD) : (dats m 0 c).arrAt 12 cfg0.N = res_x m c := by
  refine (dats m 0 c).arrAt_eq_of_covers 12 _ (by decide +kernel) fun t hf y => ?_
  obtain ⟨r, n, rfl⟩ : ∃ (r : Fin 1024) (n : Fin 768), y = ix3 (0 : Fin 1) r n := ⟨y 1, y 2, by
    refine (eq_ix3 y).trans ?_; congr 1; exact Subsingleton.elim _ _⟩
  blk_simp
  rw [after0_12]
  refine (out_x _ _ _ _ _ _ _ _ _ _ (ix3 (0 : Fin 1) r n)).trans ?_
  refine Eq.trans ?_ (congrArg (res_x m c) (place_x t r n)).symm
  exact conv_eq m c t r ⟨512 + n.val, by omega⟩

/-- Where a block's entry lies in the array of window 13. -/
theorem place_b (t : Fin cfg0.N) (r : Fin 1024) (n : Fin 512) :
    ((win0_13.blk t).view.emb (ix3 (0 : Fin 1) r n) : S8x4096x512.Idx) = ix3 (bat t) (tok t r) n := by
  obtain ⟨g9, g10, g11, g12, g13, g14⟩ := idx_out t
  blk_ext [g13]

/-- The keys' array after the run. -/
theorem arr_b (c : Dev nD) : (dats m 0 c).arrAt 13 cfg0.N = res_b m c := by
  refine (dats m 0 c).arrAt_eq_of_covers 13 _ (by decide +kernel) fun t hf y => ?_
  obtain ⟨r, n, rfl⟩ : ∃ (r : Fin 1024) (n : Fin 512), y = ix3 (0 : Fin 1) r n := ⟨y 1, y 2, by
    refine (eq_ix3 y).trans ?_; congr 1; exact Subsingleton.elim _ _⟩
  blk_simp
  rw [after0_13]
  refine (out_b _ _ _ _ _ _ _ _ _ _ (ix3 (0 : Fin 1) r n)).trans ?_
  refine Eq.trans ?_ (congrArg (res_b m c) (place_b t r n)).symm
  exact conv_eq m c t r ⟨1280 + n.val, by omega⟩

/-- Where a block's entry lies in the steps' array. -/
theorem place_d (t : Fin cfg0.N) (r : Fin 32) (n : Fin 1024) :
    ((win0_14.blk t).view.emb (ix3 (0 : Fin 1) r n) : S8x32x4096.Idx) = ix3 (bat t) r (tok t n) := by
  obtain ⟨g9, g10, g11, g12, g13, g14⟩ := idx_out t
  blk_ext [g14]

/-- The steps' array after the run. -/
theorem arr_d (c : Dev nD) : (dats m 0 c).arrAt 14 cfg0.N = res_d m c := by
  refine (dats m 0 c).arrAt_eq_of_covers 14 _ (by decide +kernel) fun t hf y => ?_
  obtain ⟨r, n, rfl⟩ : ∃ (r : Fin 32) (n : Fin 1024), y = ix3 (0 : Fin 1) r n := ⟨y 1, y 2, by
    refine (eq_ix3 y).trans ?_; congr 1; exact Subsingleton.elim _ _⟩
  blk_simp
  rw [after0_14]
  refine (out_d _ _ _ _ _ _ _ _ _ _ (ix3 (0 : Fin 1) r n)).trans ?_
  refine Eq.trans ?_ (congrArg (res_d m c) (place_d t r n)).symm
  exact step_eq m c t r n

end Cert.InprojIdeal.Gen

end
-- ==== Proof.InprojRef.lean ====
/-
  The input projection's reference, index by index: the projection, its convolved channels and the steps.
-/
module

public import Idealize.ShloMosaic.Lib.Pointwise
public import proofs.«01_k».proof.Proof.Gen.InprojRefIdeal.Read
public import proofs.«01_k».proof.Proof.Window

@[expose] public section

set_option maxRecDepth 16384

noncomputable section

namespace Cert.InprojRefIdeal.Read

open Cert.InprojRefIdeal Idealize.ShloMosaic Idealize.ShloMosaic.TcCoe Idealize.SL.Sem

variable (x0 : (⟨S8x4096x1024, .f32⟩ : BufTy).Contents (Elt Ideal)) (x1 : (⟨S16x9x1024, .f32⟩ : BufTy).Contents (Elt Ideal))
  (x2 : (⟨S1x1024, .f32⟩ : BufTy).Contents (Elt Ideal)) (x3 : (⟨S1x1024x2840, .f32⟩ : BufTy).Contents (Elt Ideal))
  (x4 : (⟨S1x3x1792, .f32⟩ : BufTy).Contents (Elt Ideal)) (x5 : (⟨S1x1792, .f32⟩ : BufTy).Contents (Elt Ideal))
  (x6 : (⟨S1x2x12, .f32⟩ : BufTy).Contents (Elt Ideal))

/-- The modulated, normalised row. -/
theorem hidden_apply (b : Fin 8) (s : Fin 4096) (k : Fin 1024) :
    val_main_v26 (F := Ideal) x0 x1 x2 (ix3 b s k) =
      Rows.hidden (fun k => x0 (ix3 b s k)) (fun k => x2 (ix2 0 k)) (fun k => x1 (ix3 ⟨b.val, by omega⟩ 4 k))
        (fun k => x1 (ix3 ⟨b.val, by omega⟩ 3 k)) k := by
  rw [← Rows.hidden_eq]
  pointwise [val_main_v26, val_main_v25, val_main_v24, val_main_v23,
    val_main_v22, val_main_v21, val_main_v20, val_main_v19, val_main_v18, val_main_v17, val_main_v16, val_main_v15, val_main_v14,
    val_main_v13, val_main_v12, val_main_v11, val_main_v10, val_main_v9, val_main_v8, val_main_v7, val_main_v6, val_main_v5, val_main_v4,
    val_main_v3, val_main_v2, val_main_v1, val_main_v0, val_main_cst, val_main_cst_0, val_main_cst_1, val_main_cst_2]
  rfl

/-- The arguments as functions of their indices. -/
abbrev fx : Fin 8 → Fin 4096 → Fin 1024 → EReal := fun b s k => x0 (ix3 b s k)
abbrev fmod : Fin 16 → Fin 9 → Fin 1024 → EReal := fun b s k => x1 (ix3 b s k)
abbrev fg : Fin 1024 → EReal := fun k => x2 (ix2 0 k)
abbrev fw : Fin 1024 → Fin 2840 → EReal := fun k j => x3 (ix3 0 k j)
abbrev fcw : Fin 3 → Fin 1792 → EReal := fun r c => x4 (ix3 0 r c)
abbrev fcb : Fin 1792 → EReal := fun c => x5 (ix2 0 c)
abbrev fd : Fin 2 → Fin 12 → EReal := fun q r => x6 (ix3 0 q r)

/-- The projection. -/
theorem proj_apply (b : Fin 8) (s : Fin 4096) (j : Fin 2840) :
    val_main_v28 (F := Ideal) x0 x1 x2 x3 (ix3 b s j) = Window.entry (fx x0) (fmod x1) (fg x2) (fw x3) b s j := by
  have hh := funext (hidden_apply x0 x1 x2 b s)
  unfold Window.entry Window.proj
  rw [← hh]
  unfold val_main_v28
  generalize val_main_v26 (F := Ideal) x0 x1 x2 = h
  pointwise [val_main_v27]

/-- The convolved channels. -/
theorem chan_apply (b : Fin 8) (s : Fin 4096) (c : Fin 1792) :
    val_main_v61 (F := Ideal) x0 x1 x2 x3 x4 x5 (ix3 b s c) =
      Window.chan (fx x0) (fmod x1) (fg x2) (fw x3) (fcw x4) (fcb x5) b s c := by
  have hp := proj_apply x0 x1 x2 x3 b
  unfold Window.chan Window.before Window.after
  simp only [← hp]
  pointwise [val_main_v61, val_main_call0_v5, val_main_call0_v4, val_main_call0_v3, val_main_call0_v2, val_main_call0_v1, val_main_call0_v0,
    val_main_call0_cst, val_main_call0_cst_0, val_main_v60, val_main_v59, val_main_v58, val_main_v57, val_main_v56, val_main_v55, val_main_v54,
    val_main_v53, val_main_v52, val_main_v51, val_main_v50, val_main_v49, val_main_v48, val_main_v47, val_main_v46, val_main_v45,
    val_main_v44, val_main_v43, val_main_v42, val_main_v41, val_main_v40, val_main_v39, val_main_v38, val_main_v37, val_main_v36,
    val_main_v35, val_main_v34, val_main_v33, val_main_v31, val_main_cst_3]
  simp only [← zero_sub (_ + x5 (ix2 0 c))]
  refine congrArg Rows.silu (congrArg₂ (· + ·) (congrArg₂ (· + ·) (congrArg₂ (· + ·) (congrArg₂ (· * ·) ?_ rfl) rfl) (congrArg₂ (· * ·) ?_ rfl)) rfl)
  · by_cases h : s.val = 0
    · rw [if_pos h, dif_pos (by omega)]
    · rw [if_neg h, dif_neg (by omega)]
  · by_cases h : s.val < 4095
    · rw [dif_pos h, dif_pos h]
      exact congrArg (fun q => val_main_v28 (F := Ideal) x0 x1 x2 x3 (ix3 b q (Window.col c))) (Fin.ext (Nat.add_comm _ _))
    · rw [dif_neg h, dif_neg h]

/-- The steps. -/
theorem step_apply (b : Fin 8) (r : Fin 32) (s : Fin 4096) :
    val_main_v73 (F := Ideal) x0 x1 x2 x3 x6 (ix3 b r s) =
      Window.step (fx x0) (fmod x1) (fg x2) (fw x3) (fd x6) b r s := by
  have hp := proj_apply x0 x1 x2 x3 b s
  unfold Window.step
  simp only [← hp]
  pointwise [val_main_v73, val_main_v72, val_main_call1_v11, val_main_call1_v10, val_main_call1_v9, val_main_call1_v8, val_main_call1_v7,
    val_main_call1_v6, val_main_call1_v5, val_main_call1_v4, val_main_call1_v3, val_main_call1_v2, val_main_call1_v1, val_main_call1_v0,
    val_main_call1_cst, val_main_v71, val_main_v70, val_main_v69, val_main_v68, val_main_v67, val_main_v66, val_main_v65, val_main_v32, val_main_cst_4]
  rw [if_neg (fun h => h rfl)]
  simp only [← zero_sub (FloatOps.absf _)]
  rfl

/-- The transform's columns of the projection. -/
theorem uf_apply (b : Fin 8) (s : Fin 4096) (n : Fin 256) :
    val_main_v29 (F := Ideal) x0 x1 x2 x3 (ix3 b s n) =
      Window.entry (fx x0) (fmod x1) (fg x2) (fw x3) b s ⟨n.val, by omega⟩ := by
  refine Eq.trans ?_ (proj_apply x0 x1 x2 x3 b s ⟨n.val, by omega⟩)
  unfold val_main_v29
  generalize val_main_v28 (F := Ideal) x0 x1 x2 x3 = v
  pointwise

/-- The gate's columns. -/
theorem z_apply (b : Fin 8) (s : Fin 4096) (n : Fin 768) :
    val_main_v74 (F := Ideal) x0 x1 x2 x3 (ix3 b s n) =
      Window.entry (fx x0) (fmod x1) (fg x2) (fw x3) b s ⟨256 + n.val, by omega⟩ := by
  refine Eq.trans ?_ (proj_apply x0 x1 x2 x3 b s ⟨256 + n.val, by omega⟩)
  unfold val_main_v74 val_main_v30
  generalize val_main_v28 (F := Ideal) x0 x1 x2 x3 = v
  pointwise

/-- The first group of convolved channels. -/
theorem c_apply (b : Fin 8) (s : Fin 4096) (n : Fin 512) :
    val_main_v75 (F := Ideal) x0 x1 x2 x3 x4 x5 (ix3 b s n) =
      Window.chan (fx x0) (fmod x1) (fg x2) (fw x3) (fcw x4) (fcb x5) b s ⟨n.val, by omega⟩ := by
  refine Eq.trans ?_ (chan_apply x0 x1 x2 x3 x4 x5 b s ⟨n.val, by omega⟩)
  unfold val_main_v75 val_main_v62
  generalize val_main_v61 (F := Ideal) x0 x1 x2 x3 x4 x5 = v
  pointwise

/-- The inputs' channels. -/
theorem x_apply (b : Fin 8) (s : Fin 4096) (n : Fin 768) :
    val_main_v76 (F := Ideal) x0 x1 x2 x3 x4 x5 (ix3 b s n) =
      Window.chan (fx x0) (fmod x1) (fg x2) (fw x3) (fcw x4) (fcb x5) b s ⟨512 + n.val, by omega⟩ := by
  refine Eq.trans ?_ (chan_apply x0 x1 x2 x3 x4 x5 b s ⟨512 + n.val, by omega⟩)
  unfold val_main_v76 val_main_v63
  generalize val_main_v61 (F := Ideal) x0 x1 x2 x3 x4 x5 = v
  pointwise

/-- The keys' channels. -/
theorem b_apply (b : Fin 8) (s : Fin 4096) (n : Fin 512) :
    val_main_v77 (F := Ideal) x0 x1 x2 x3 x4 x5 (ix3 b s n) =
      Window.chan (fx x0) (fmod x1) (fg x2) (fw x3) (fcw x4) (fcb x5) b s ⟨1280 + n.val, by omega⟩ := by
  refine Eq.trans ?_ (chan_apply x0 x1 x2 x3 x4 x5 b s ⟨1280 + n.val, by omega⟩)
  unfold val_main_v77 val_main_v64
  generalize val_main_v61 (F := Ideal) x0 x1 x2 x3 x4 x5 = v
  pointwise

end Cert.InprojRefIdeal.Read

end
-- ==== Proof.InprojClaim.lean ====
/-
  The claims about the mixer's input projection: the frames of its three programs and the equality of the kernel's
  and the reference's six results over the extended reals.
-/
module

public import proofs.«01_k».proof.Defs
public import proofs.«01_k».proof.Proof.Gen.Inproj.Frame
public import proofs.«01_k».proof.Proof.Gen.InprojRefIdeal.Run
public import proofs.«01_k».proof.Proof.InprojRes
public import proofs.«01_k».proof.Proof.InprojRef
public import Idealize.ShloMosaic.Lib.Quiescent

@[expose] public section

noncomputable section

namespace Cert.InprojClaim

open Idealize.ShloMosaic Idealize.ShloMosaic.TcCoe Idealize.SL.Sem
open Cert.InprojIdeal.Gen (res_uf res_z res_c res_x res_b res_d arr_uf arr_z arr_c arr_x arr_b arr_d)
open Cert.InprojRefIdeal.Read (uf_apply z_apply c_apply x_apply b_apply step_apply)

/-- The kernel leaves its arguments, ends and leaves every semaphore at zero. -/
theorem frame : Cert.quiescent_Inproj := fun m ρ _ => Cert.Inproj.Gen.frame m ρ

/-- So does its idealization. -/
theorem frame_ideal : Cert.quiescent_InprojIdeal := fun m ρ _ => Cert.InprojIdeal.Gen.frame m ρ

/-- So does the reference. -/
theorem frame_ref : Cert.quiescent_InprojRefIdeal := fun m ρ _ =>
  (θ_run Cert.InprojRefIdeal.defs _ _).mono (fun r h => ⟨fun c => (h c).2.2.2.2.2.2, sem_eq_zero_of_no_sems (by decide) r.2⟩)
    (Cert.InprojRefIdeal.Value.run (F := Ideal) m ρ)

/-- The idealization changes no operation. -/
theorem preserves : Cert.preserves_Inproj_InprojIdeal := trivial

/-- On equal arguments the kernel and the reference end with equal results. -/
theorem algebraic : Cert.algebraic_InprojIdeal_InprojRefIdeal := fun m ρ m' ρ' _ hag =>
  ⟨fun c => res_uf m c, fun c => res_z m c, fun c => res_c m c, fun c => res_x m c, fun c => res_b m c, fun c => res_d m c,
    (θ_run _ _ _).mono (fun _ h c => by
        obtain ⟨r0, r1, r2, r3, r4, r5, hk⟩ := h c
        exact ⟨r0.trans (arr_uf m c), r1.trans (arr_z m c), r2.trans (arr_c m c), r3.trans (arr_x m c), r4.trans (arr_b m c),
          r5.trans (arr_d m c), hk⟩)
      (Cert.InprojIdeal.Value.run_blocks (F := Ideal) m ρ),
    (θ_run _ _ _).mono (fun _ h c => by
        obtain ⟨r0, r1, r2, r3, r4, r5, hk⟩ := h c
        obtain ⟨h0, h1, h2, h3, h4, h5, h6⟩ := hag c
        refine ⟨r0.trans ?_, r1.trans ?_, r2.trans ?_, r3.trans ?_, r4.trans ?_, r5.trans ?_, hk⟩
        · rw [Cert.InprojRefIdeal.Read.val_main_v29_eq, h0, h1, h2, h3]
          funext i
          obtain ⟨b, s, n, rfl⟩ : ∃ (b : Fin 8) (s : Fin 4096) (n : Fin 256), i = ix3 b s n := ⟨i 0, i 1, i 2, eq_ix3 i⟩
          exact uf_apply _ _ _ _ b s n
        · rw [Cert.InprojRefIdeal.Read.val_main_v74_eq, h0, h1, h2, h3]
          funext i
          obtain ⟨b, s, n, rfl⟩ : ∃ (b : Fin 8) (s : Fin 4096) (n : Fin 768), i = ix3 b s n := ⟨i 0, i 1, i 2, eq_ix3 i⟩
          exact z_apply _ _ _ _ b s n
        · rw [Cert.InprojRefIdeal.Read.val_main_v75_eq, h0, h1, h2, h3, h4, h5]
          funext i
          obtain ⟨b, s, n, rfl⟩ : ∃ (b : Fin 8) (s : Fin 4096) (n : Fin 512), i = ix3 b s n := ⟨i 0, i 1, i 2, eq_ix3 i⟩
          exact c_apply _ _ _ _ _ _ b s n
        · rw [Cert.InprojRefIdeal.Read.val_main_v76_eq, h0, h1, h2, h3, h4, h5]
          funext i
          obtain ⟨b, s, n, rfl⟩ : ∃ (b : Fin 8) (s : Fin 4096) (n : Fin 768), i = ix3 b s n := ⟨i 0, i 1, i 2, eq_ix3 i⟩
          exact x_apply _ _ _ _ _ _ b s n
        · rw [Cert.InprojRefIdeal.Read.val_main_v77_eq, h0, h1, h2, h3, h4, h5]
          funext i
          obtain ⟨b, s, n, rfl⟩ : ∃ (b : Fin 8) (s : Fin 4096) (n : Fin 512), i = ix3 b s n := ⟨i 0, i 1, i 2, eq_ix3 i⟩
          exact b_apply _ _ _ _ _ _ b s n
        · rw [Cert.InprojRefIdeal.Read.val_main_v73_eq, h0, h1, h2, h3, h6]
          funext i
          obtain ⟨b, r, s, rfl⟩ : ∃ (b : Fin 8) (r : Fin 32) (s : Fin 4096), i = ix3 b r s := ⟨i 0, i 1, i 2, eq_ix3 i⟩
          exact step_apply _ _ _ _ _ b r s)
      (Cert.InprojRefIdeal.Value.run (F := Ideal) m' ρ')⟩

end Cert.InprojClaim

end
-- ==== Proof.Groups.lean ====
/-
  The arithmetic of one token of the mixer's output projection, over the extended reals: the gated channels, their
  normalisation in four groups of 192, and the projection of the transform's channels together with them. No array and
  no program occurs here.
-/
module

public import proofs.«01_k».proof.Proof.Rows

@[expose] public section

noncomputable section

namespace Cert.Groups

open Idealize.ShloMosaic

/-- A channel before normalisation: the two scans' outputs and the skipped input, times the gate. -/
def gated (yf yb xs z d : EReal) : EReal := (yf + yb + d * xs) * Rows.silu z

/-- The sum of the squares of a group's 192 channels. -/
def square (u : Fin 768 → EReal) (g : Fin 4) : EReal :=
  ∑ q : Fin 192, u ⟨192 * g.val + q.val, by omega⟩ * u ⟨192 * g.val + q.val, by omega⟩

/-- The factor of a group's root-mean-square normalisation. -/
def factor (u : Fin 768 → EReal) (g : Fin 4) : EReal :=
  Ideal.rsqrt (square u g * (((192 : ℝ)⁻¹ : ℝ) : EReal) + Rows.eps)

/-- A normalised channel. -/
def normed (u gain : Fin 768 → EReal) (c : Fin 768) : EReal := u c * factor u ⟨c.val / 192, by omega⟩ * gain c

/-- The transform's channels and then the normalised ones, projected. -/
def projected (fo : Fin 256 → EReal) (u gain : Fin 768 → EReal) (w : Fin 1024 → EReal) : EReal :=
  ∑ k : Fin 1024, (if h : k.val < 256 then fo ⟨k.val, h⟩ else normed u gain ⟨k.val - 256, by omega⟩) * w k

/-- The float constant 192 is the number. -/
theorem width_eq : Ideal.ofBits .f32 0x43400000#32 = ((192 : ℝ) : EReal) := by
  simp [Ideal.ofBits, Ideal.ieee]
  rw [← EReal.coe_mul]
  norm_num

/-- Dividing by 192 is multiplying by its inverse. -/
theorem div_width (x : EReal) : Ideal.div x (Ideal.ofBits .f32 0x43400000#32) = x * (((192 : ℝ)⁻¹ : ℝ) : EReal) := by
  rw [width_eq, Ideal.div, if_neg (by exact_mod_cast (by norm_num : (192 : ℝ) ≠ 0)), EReal.coe_inv]

/-- The first 64 of 128 terms, the others replaced by zero. -/
theorem sum_low (f : ℕ → EReal) : (∑ l : Fin 128, if l.val < 64 then f l.val else 0) = ∑ l ∈ Finset.range 64, f l := by
  rw [Fin.sum_univ_eq_sum_range (fun l => if l < 64 then f l else 0) 128, show 128 = 64 + 64 from rfl, Finset.sum_range_add]
  rw [Finset.sum_congr rfl fun l hl => if_pos (Finset.mem_range.1 hl), Finset.sum_eq_zero (s := Finset.range 64)
    (f := fun l => if 64 + l < 64 then f (64 + l) else 0) (fun l _ => if_neg (by omega)), add_zero]

/-- The last 64 of 128 terms, the others replaced by zero. -/
theorem sum_high (f : ℕ → EReal) : (∑ l : Fin 128, if 64 ≤ l.val then f l.val else 0) = ∑ l ∈ Finset.range 64, f (64 + l) := by
  rw [Fin.sum_univ_eq_sum_range (fun l => if 64 ≤ l then f l else 0) 128, show 128 = 64 + 64 from rfl, Finset.sum_range_add]
  rw [Finset.sum_eq_zero (s := Finset.range 64) (f := fun l => if 64 ≤ l then f l else 0)
    (fun l hl => if_neg (by have := Finset.mem_range.1 hl; omega)), zero_add]
  exact Finset.sum_congr rfl fun l _ => if_pos (by omega)

/-- A group that is a whole tile of 128 lanes and the first half of the next. -/
theorem sum_first (f : ℕ → EReal) :
    (∑ l : Fin 128, (f l.val + if l.val < 64 then f (128 + l.val) else 0)) = ∑ q : Fin 192, f q.val := by
  rw [Finset.sum_add_distrib, sum_low fun l => f (128 + l), Fin.sum_univ_eq_sum_range f 128, Fin.sum_univ_eq_sum_range f 192,
    show 192 = 128 + 64 from rfl, Finset.sum_range_add]

/-- A group that is the second half of a tile and the whole next one. -/
theorem sum_second (f : ℕ → EReal) :
    (∑ l : Fin 128, ((if 64 ≤ l.val then f l.val else 0) + f (128 + l.val))) = ∑ q : Fin 192, f (64 + q.val) := by
  rw [Finset.sum_add_distrib, sum_high f, Fin.sum_univ_eq_sum_range (fun l => f (128 + l)) 128,
    Fin.sum_univ_eq_sum_range (fun q => f (64 + q)) 192, show 192 = 64 + 128 from rfl, Finset.sum_range_add]
  exact congrArg _ (Finset.sum_congr rfl fun l _ => congrArg f (by omega))

end Cert.Groups

end
-- ==== Proof.MixoutTile.lean ====
/-
  What the mixer's output projection computes for one block of 2048 tokens, index by index: each of its eight stores
  is the same computation of a group of 256 rows.
-/
module

public import Idealize.ShloMosaic.Lib.Pointwise
public import proofs.«01_k».proof.Proof.Gen.MixoutIdeal.Value
public import proofs.«01_k».proof.Proof.Groups

@[expose] public section

set_option maxRecDepth 16384

noncomputable section

namespace Cert.MixoutIdeal.Gen

open Idealize.ShloMosaic Idealize.ShloMosaic.TcCoe Idealize.SL.Sem

/-- The computation of 256 rows, from the two scans' outputs, the inputs, the gate, the transform's outputs, the skip
    and the gain rows and the weight, as the first store writes it. -/
def tile (yf yb xs z : Vec Ideal S1x256x768 .bf16) (fo : Vec Ideal S1x256x256 .bf16) (d g : Vec Ideal S1x768 .f32)
    (w : Vec Ideal S1024x1024 .bf16) : FVec Ideal S1x256x1024 .f32 :=
  k0_pay11 (k0_pay10 (iota .tc S1x128 32 [1] iota_S1x128_d1_w32) (k0_pay2 yf yb (View.ld d r0_1) xs z) (k0_pay3 yf yb (View.ld d r0_1) xs z)
    (k0_pay7 (k0_pay4 yf yb (View.ld d r0_1) xs z) (k0_pay5 yf yb (View.ld d r0_1) xs z) (Scalar.ofBits .f32 0x00000000#32) k0_pay6)
    (k0_pay8 (iota .tc S1x128 32 [1] iota_S1x128_d1_w32) (k0_pay3 yf yb (View.ld d r0_1) xs z))
    (k0_pay9 (iota .tc S1x128 32 [1] iota_S1x128_d1_w32) (k0_pay3 yf yb (View.ld d r0_1) xs z))
    (Scalar.ofBits .f32 0x358637BD#32)) (View.ld g r0_1) fo (View.ld w r0_3)

/-- The body leaves in its output block the eight stores of `tile`, one per group of 256 rows. -/
theorem out_eq (x0 x1 x2 x3 : Vec Ideal S1x2048x768 .bf16) (x4 : Vec Ideal S1x2048x256 .bf16) (x5 x6 : Vec Ideal S1x768 .f32)
    (x7 : Vec Ideal S1024x1024 .bf16) :
    out0_8 (F := Ideal) x0 x1 x2 x3 x4 x5 x6 x7 = View.canon [
      ⟨r0_25, tile (View.ld x0 r0_23) (View.ld x1 r0_23) (View.ld x2 r0_23) (View.ld x3 r0_23) (View.ld x4 r0_24) x5 x6 x7⟩,
      ⟨r0_22, tile (View.ld x0 r0_20) (View.ld x1 r0_20) (View.ld x2 r0_20) (View.ld x3 r0_20) (View.ld x4 r0_21) x5 x6 x7⟩,
      ⟨r0_19, tile (View.ld x0 r0_17) (View.ld x1 r0_17) (View.ld x2 r0_17) (View.ld x3 r0_17) (View.ld x4 r0_18) x5 x6 x7⟩,
      ⟨r0_16, tile (View.ld x0 r0_14) (View.ld x1 r0_14) (View.ld x2 r0_14) (View.ld x3 r0_14) (View.ld x4 r0_15) x5 x6 x7⟩,
      ⟨r0_13, tile (View.ld x0 r0_11) (View.ld x1 r0_11) (View.ld x2 r0_11) (View.ld x3 r0_11) (View.ld x4 r0_12) x5 x6 x7⟩,
      ⟨r0_10, tile (View.ld x0 r0_8) (View.ld x1 r0_8) (View.ld x2 r0_8) (View.ld x3 r0_8) (View.ld x4 r0_9) x5 x6 x7⟩,
      ⟨r0_7, tile (View.ld x0 r0_5) (View.ld x1 r0_5) (View.ld x2 r0_5) (View.ld x3 r0_5) (View.ld x4 r0_6) x5 x6 x7⟩,
      ⟨r0_4, tile (View.ld x0 r0_0) (View.ld x1 r0_0) (View.ld x2 r0_0) (View.ld x3 r0_0) (View.ld x4 r0_2) x5 x6 x7⟩] := rfl

/-- A channel before normalisation. -/
theorem gated_apply (yf yb xs z : Vec Ideal S1x256x768 .bf16) (d : Vec Ideal S1x768 .f32) (r : Fin 256) (c : Fin 768) :
    k0_pay2 (F := Ideal) yf yb (View.ld d r0_1) xs z (ix2 r c) =
      Groups.gated (yf (ix3 0 r c)) (yb (ix3 0 r c)) (xs (ix3 0 r c)) (z (ix3 0 r c)) (d (ix2 0 c)) := by
  pointwise [k0_pay2]
  rfl

/-- The named constant is one over 192. -/
theorem inv_eq : (Named.named κ "inv192" 0x3BAAAAAB#32 : Ideal .f32) = (((192 : ℝ)⁻¹ : ℝ) : EReal) :=
  IdealRules.named_const.ideal_named_scalar _ _ _ _ rfl

/-- The mask of the first 64 lanes, and of the last 64. -/
theorem low_mask : ∀ j : Fin 128, IntOp.andi (IntOp.cmpi .sge (BitVec.ofNat 32 j.val) 0#32) (IntOp.cmpi .slt (BitVec.ofNat 32 j.val) 64#32) =
    if j.val < 64 then 1#1 else 0#1 := by decide
theorem high_mask : ∀ j : Fin 128, IntOp.andi (IntOp.cmpi .sge (BitVec.ofNat 32 j.val) 64#32) (IntOp.cmpi .slt (BitVec.ofNat 32 j.val) 128#32) =
    if 64 ≤ j.val then 1#1 else 0#1 := by decide
theorem high_lane : ∀ j : Fin 128, IntOp.cmpi .sge (BitVec.ofNat 32 j.val) 64#32 = if 64 ≤ j.val then 1#1 else 0#1 := by decide

/-- A group's factor, from the squares. -/
def fac (s : FVec Ideal S256x768 .f32) (r : Fin 256) (g : Fin 4) : EReal :=
  Ideal.rsqrt ((∑ q : Fin 192, s (ix2 r ⟨192 * g.val + q.val, by omega⟩)) * (((192 : ℝ)⁻¹ : ℝ) : EReal) + Rows.eps)

/-- A selection by a mask that is a condition. -/
theorem select_if (p : Prop) [Decidable p] (a b : EReal) :
    Scalar.select (α := EReal) (if p then 1#1 else 0#1) a b = if p then a else b := by
  by_cases h : p
  · rw [if_pos h, if_pos h]; rfl
  · rw [if_neg h, if_neg h]; rfl

/-- A row of the squares as a sequence. -/
def seq (s : FVec Ideal S256x768 .f32) (r : Fin 256) (n : ℕ) : EReal := if h : n < 768 then s (ix2 r ⟨n, h⟩) else 0

theorem seq_eq (s : FVec Ideal S256x768 .f32) (r : Fin 256) (n : ℕ) (h : n < 768) : s (ix2 r ⟨n, h⟩) = seq s r n := by
  unfold seq
  rw [dif_pos h]

/-- The sum of a group that is a whole tile and the first half of the next. -/
theorem low_sum (s : FVec Ideal S256x768 .f32) (r : Fin 256) (a : ℕ) (ha : a + 192 ≤ 768) (f g : Fin 128 → EReal)
    (hf : ∀ l, f l = seq s r (a + l.val)) (hg : ∀ l, l.val < 64 → g l = seq s r (a + (128 + l.val))) :
    (∑ x : Fin 128, (f x + Scalar.select (α := EReal) (IntOp.andi (IntOp.cmpi .sge (BitVec.ofNat 32 x.val) 0#32)
      (IntOp.cmpi .slt (BitVec.ofNat 32 x.val) 64#32)) (g x) 0)) = ∑ q : Fin 192, s (ix2 r ⟨a + q.val, by omega⟩) := by
  simp only [seq_eq]
  rw [← Groups.sum_first fun n => seq s r (a + n)]
  refine Finset.sum_congr rfl fun l _ => ?_
  rw [low_mask, select_if, hf]
  congr 1
  by_cases h : l.val < 64
  · rw [if_pos h, if_pos h, hg l h]
  · rw [if_neg h, if_neg h]

/-- The sum of a group that is the second half of a tile and the whole next one. -/
theorem high_sum (s : FVec Ideal S256x768 .f32) (r : Fin 256) (a : ℕ) (ha : a + 256 ≤ 768) (f g : Fin 128 → EReal)
    (hf : ∀ l, 64 ≤ l.val → f l = seq s r (a + l.val)) (hg : ∀ l, g l = seq s r (a + (128 + l.val))) :
    (∑ x : Fin 128, (Scalar.select (α := EReal) (IntOp.andi (IntOp.cmpi .sge (BitVec.ofNat 32 x.val) 64#32)
      (IntOp.cmpi .slt (BitVec.ofNat 32 x.val) 128#32)) (f x) 0 + g x)) = ∑ q : Fin 192, s (ix2 r ⟨a + (64 + q.val), by omega⟩) := by
  simp only [seq_eq]
  rw [← Groups.sum_second fun n => seq s r (a + n)]
  refine Finset.sum_congr rfl fun l _ => ?_
  rw [high_mask, select_if, hg]
  congr 1
  by_cases h : 64 ≤ l.val
  · rw [if_pos h, if_pos h, hf l h]
  · rw [if_neg h, if_neg h]

/-- Equal sums give equal factors. -/
theorem fac_of (s : FVec Ideal S256x768 .f32) (r : Fin 256) (g : Fin 4) (x : EReal)
    (h : x = ∑ q : Fin 192, s (ix2 r ⟨192 * g.val + q.val, by omega⟩)) :
    Ideal.rsqrt (x * (Named.named κ "inv192" 0x3BAAAAAB#32 : Ideal .f32) + Ideal.ofBits .f32 0x358637BD#32) = fac s r g := by
  rw [inv_eq, h]
  rfl

/-- The four groups' factors. -/
theorem fac0 (s : FVec Ideal S256x768 .f32) (r : Fin 256) :
    k0_pay7 (F := Ideal) (extractStridedSlice S256x128 ![0, 0] s slices_S256x768_o0_0_S256x128)
      (extractStridedSlice S256x128 ![0, 128] s slices_S256x768_o0_128_S256x128) (Scalar.ofBits .f32 0x00000000#32) k0_pay6 (ix2 r 0) =
      fac s r 0 := by
  pointwise [k0_pay7, k0_pay6]
  refine fac_of s r 0 _ ((low_sum s r 0 (by omega) _ _ (fun l => ?_) fun l _ => ?_).trans ?_)
  · exact (seq_eq s r l.val (by omega)).trans (congrArg (seq s r) (Nat.zero_add _).symm)
  · exact (seq_eq s r (128 + l.val) (by omega)).trans (congrArg (seq s r) (Nat.zero_add _).symm)
  · rfl

theorem fac1 (s : FVec Ideal S256x768 .f32) (r : Fin 256) :
    k0_pay8 (F := Ideal) (iota .tc S1x128 32 [1] iota_S1x128_d1_w32) s (ix2 r 0) = fac s r 1 := by
  pointwise [k0_pay8]
  refine fac_of s r 1 _ ((high_sum s r 128 (by omega) _ _ (fun l _ => ?_) fun l => ?_).trans ?_)
  · exact seq_eq s r _ _
  · refine (seq_eq s r _ _).trans (congrArg (seq s r) ?_); omega
  · refine Finset.sum_congr rfl fun q _ => congrArg (fun n => s (ix2 r n)) (Fin.ext ?_)
    show 128 + (64 + q.val) = 192 * 1 + q.val
    omega

theorem fac2 (s : FVec Ideal S256x768 .f32) (r : Fin 256) :
    Ideal.rsqrt (k0_pay9 (F := Ideal) (iota .tc S1x128 32 [1] iota_S1x128_d1_w32) s (ix2 r 0) + Ideal.ofBits .f32 0x358637BD#32) =
      fac s r 2 := by
  pointwise [k0_pay9]
  refine fac_of s r 2 _ ((low_sum s r 384 (by omega) _ _ (fun l => ?_) fun l _ => ?_).trans ?_)
  · exact seq_eq s r _ _
  · refine (seq_eq s r _ _).trans (congrArg (seq s r) ?_); omega
  · rfl

/-- The channels times their groups' factors. -/
theorem spread (s y : FVec Ideal S256x768 .f32) (f0 f1 m2 : FVec Ideal S256x1 .f32) (r : Fin 256) (c : Fin 768)
    (h0 : f0 (ix2 r 0) = fac s r 0) (h1 : f1 (ix2 r 0) = fac s r 1)
    (h2 : Ideal.rsqrt (m2 (ix2 r 0) + Ideal.ofBits .f32 0x358637BD#32) = fac s r 2) :
    k0_pay10 (F := Ideal) (iota .tc S1x128 32 [1] iota_S1x128_d1_w32) y s f0 f1 m2 (Scalar.ofBits .f32 0x358637BD#32) (ix2 r c) =
      y (ix2 r c) * fac s r ⟨c.val / 192, by omega⟩ := by
  have h3 : Ideal.rsqrt ((∑ x : Fin 128, (Scalar.select (α := EReal) (IntOp.andi (IntOp.cmpi .sge (BitVec.ofNat 32 x.val) 64#32)
      (IntOp.cmpi .slt (BitVec.ofNat 32 x.val) 128#32)) (s (ix2 r ⟨512 + x.val, by omega⟩)) 0 + s (ix2 r ⟨640 + x.val, by omega⟩))) *
      (Named.named κ "inv192" 0x3BAAAAAB#32 : Ideal .f32) + Ideal.ofBits .f32 0x358637BD#32) = fac s r 3 := by
    refine fac_of s r 3 _ ((high_sum s r 512 (by omega) _ _ (fun l _ => ?_) fun l => ?_).trans ?_)
    · exact seq_eq s r _ _
    · refine (seq_eq s r _ _).trans (congrArg (seq s r) ?_); omega
    · refine Finset.sum_congr rfl fun q _ => congrArg (fun n => s (ix2 r n)) (Fin.ext ?_)
      show 512 + (64 + q.val) = 192 * 3 + q.val
      omega
  have hl : ∀ (n : ℕ), n < 128 → IntOp.cmpi .sge (BitVec.ofNat 32 n) 64#32 = if 64 ≤ n then 1#1 else 0#1 :=
    fun n hn => high_lane ⟨n, hn⟩
  have e : ∀ (g : Fin 4), c.val / 192 = g.val → fac s r ⟨c.val / 192, by omega⟩ = fac s r g := fun g h => congrArg _ (Fin.ext h)
  pointwise [k0_pay10]
  congr 1
  rw [h0, h1, h2, h3]
  by_cases c0 : c.val < 128
  · rw [dif_pos c0, e 0 (by show c.val / 192 = 0; omega)]
  rw [dif_neg c0]
  by_cases c1 : c.val - 128 < 128
  · rw [dif_pos c1, hl _ c1, select_if]
    by_cases k : 64 ≤ c.val - 128
    · rw [if_pos k, e 1 (by show c.val / 192 = 1; omega)]
    · rw [if_neg k, e 0 (by show c.val / 192 = 0; omega)]
  rw [dif_neg c1]
  by_cases c2 : c.val - 128 - 128 < 128
  · rw [dif_pos c2, e 1 (by show c.val / 192 = 1; omega)]
  rw [dif_neg c2]
  by_cases c3 : c.val - 128 - 128 - 128 < 128
  · rw [dif_pos c3, e 2 (by show c.val / 192 = 2; omega)]
  rw [dif_neg c3]
  by_cases c4 : c.val - 128 - 128 - 128 - 128 < 128
  · rw [dif_pos c4, hl _ c4, select_if]
    by_cases k : 64 ≤ c.val - 128 - 128 - 128 - 128
    · rw [if_pos k, e 3 (by show c.val / 192 = 3; omega)]
    · rw [if_neg k, e 2 (by show c.val / 192 = 2; omega)]
  rw [dif_neg c4, e 3 (by show c.val / 192 = 3; omega)]

/-- The projection of the transform's channels and of channels times their gain. -/
theorem last_apply (u : FVec Ideal S256x768 .f32) (fo : Vec Ideal S1x256x256 .bf16) (g : Vec Ideal S1x768 .f32)
    (w : Vec Ideal S1024x1024 .bf16) (r : Fin 256) (n : Fin 1024) :
    k0_pay11 (F := Ideal) u (View.ld g r0_1) fo (View.ld w r0_3) (ix3 0 r n) =
      ∑ k : Fin 1024, (if h : k.val < 256 then fo (ix3 0 r ⟨k.val, h⟩) else
        u (ix2 r ⟨k.val - 256, by omega⟩) * g (ix2 0 ⟨k.val - 256, by omega⟩)) * w (ix2 k n) := by
  pointwise [k0_pay11]

/-- One row of `tile` is the projection of that row. -/
theorem tile_apply (yf yb xs z : Vec Ideal S1x256x768 .bf16) (fo : Vec Ideal S1x256x256 .bf16) (d g : Vec Ideal S1x768 .f32)
    (w : Vec Ideal S1024x1024 .bf16) (r : Fin 256) (n : Fin 1024) :
    tile yf yb xs z fo d g w (ix3 0 r n) =
      Groups.projected (fun k => fo (ix3 0 r k))
        (fun c => Groups.gated (yf (ix3 0 r c)) (yb (ix3 0 r c)) (xs (ix3 0 r c)) (z (ix3 0 r c)) (d (ix2 0 c)))
        (fun c => g (ix2 0 c)) (fun k => w (ix2 k n)) := by
  have hy := gated_apply yf yb xs z d r
  unfold tile k0_pay4 k0_pay5 k0_pay3
  generalize k0_pay2 (F := Ideal) yf yb (View.ld d r0_1) xs z = y at hy ⊢
  rw [last_apply]
  unfold Groups.projected
  refine Finset.sum_congr rfl fun k _ => ?_
  congr 1
  by_cases h : k.val < 256
  · rw [dif_pos h, dif_pos h]
  · rw [dif_neg h, dif_neg h]
    rw [spread (mulf y y) y _ _ _ r _ (fac0 (mulf y y) r) (fac1 (mulf y y) r) (fac2 (mulf y y) r)]
    unfold Groups.normed Groups.factor Groups.square fac
    simp only [← hy]
    rfl

end Cert.MixoutIdeal.Gen

end
-- ==== Proof.MixoutValue.lean ====
/-
  The output projection's result array after the run: one function of the argument arrays, row by row.
-/
module

public import Idealize.ShloMosaic.Lib.Pipeline.ValueKit
public import Idealize.ShloMosaic.Lib.Claim
public import proofs.«01_k».proof.Proof.MixoutTile

@[expose] public section

set_option maxRecDepth 16384

noncomputable section

namespace Cert.MixoutIdeal.Gen

open Idealize.ShloMosaic Idealize.ShloMosaic.TcCoe Idealize.SL.Sem

section
variable (x0 x1 x2 x3 : Vec Ideal S1x2048x768 .bf16) (x4 : Vec Ideal S1x2048x256 .bf16) (x5 x6 : Vec Ideal S1x768 .f32)
  (x7 : Vec Ideal S1024x1024 .bf16)

/-- A row of the block, projected. -/
def row (s : Fin 2048) (n : Fin 1024) : EReal :=
  Groups.projected (fun k => x4 (ix3 0 s k))
    (fun c => Groups.gated (x0 (ix3 0 s c)) (x1 (ix3 0 s c)) (x2 (ix3 0 s c)) (x3 (ix3 0 s c)) (x5 (ix2 0 c)))
    (fun c => x6 (ix2 0 c)) (fun k => x7 (ix2 k n))

/-- Where a row of a group lies in the block. -/
theorem load_row {W : ℕ} {e : EltTy} (x : Vec Ideal (⟨3, ![1, 2048, W]⟩ : Shape) e) (o : ℕ) (ho : o + 256 ≤ 2048)
    (inb : ∀ a : Fin 3, (![0, o, 0] : Fin 3 → ℕ) a + (⟨3, ![1, 256, W]⟩ : Shape).size a ≤ (⟨3, ![1, 2048, W]⟩ : Shape).size a)
    (r : Fin 256) (k : Fin W) :
    View.ld x (Rect.unit (s := ⟨3, ![1, 2048, W]⟩) ![0, o, 0] (⟨3, ![1, 256, W]⟩ : Shape).size inb) (ix3 0 r k) =
      x (ix3 0 ⟨o + r.val, by omega⟩ k) := by
  rw [View.ld_apply]
  congr 1
  refine (eq_ix3 _).trans ?_
  congr 1
  · exact Fin.ext (Rect.idx_unit_val _ _ _ _ 1)
  · exact Fin.ext ((Rect.idx_unit_val _ _ _ _ 2).trans (Nat.zero_add _))

/-- One store's entry, in its place. -/
theorem piece_apply (o : ℕ) (ho : o + 256 ≤ 2048)
    (inb : ∀ a : Fin 3, (![0, o, 0] : Fin 3 → ℕ) a + S1x256x768.size a ≤ S1x2048x768.size a)
    (inc : ∀ a : Fin 3, (![0, o, 0] : Fin 3 → ℕ) a + S1x256x256.size a ≤ S1x2048x256.size a)
    (ind : ∀ a : Fin 3, (![0, o, 0] : Fin 3 → ℕ) a + S1x256x1024.size a ≤ S1x2048x1024.size a) (x : S1x256x1024.Idx) :
    tile (View.ld x0 (Rect.unit (s := S1x2048x768) ![0, o, 0] S1x256x768.size inb))
      (View.ld x1 (Rect.unit (s := S1x2048x768) ![0, o, 0] S1x256x768.size inb))
      (View.ld x2 (Rect.unit (s := S1x2048x768) ![0, o, 0] S1x256x768.size inb))
      (View.ld x3 (Rect.unit (s := S1x2048x768) ![0, o, 0] S1x256x768.size inb))
      (View.ld x4 (Rect.unit (s := S1x2048x256) ![0, o, 0] S1x256x256.size inc)) x5 x6 x7 x =
      (fun y : S1x2048x1024.Idx => row x0 x1 x2 x3 x4 x5 x6 x7 (y 1) (y 2))
        ((Rect.unit (s := S1x2048x1024) ![0, o, 0] S1x256x1024.size ind).emb x) := by
  obtain ⟨r, n, rfl⟩ : ∃ (r : Fin 256) (n : Fin 1024), x = ix3 0 r n := ⟨x 1, x 2, by
    refine (eq_ix3 x).trans ?_; congr 1; exact Subsingleton.elim _ _⟩
  have e1 : (⟨o + r.val, by omega⟩ : Fin 2048) = (Rect.unit (s := S1x2048x1024) ![0, o, 0] S1x256x1024.size ind).emb (ix3 0 r n) 1 := by
    refine Fin.ext ?_
    symm
    exact Rect.idx_unit_val _ _ _ _ 1
  have e2 : n = (Rect.unit (s := S1x2048x1024) ![0, o, 0] S1x256x1024.size ind).emb (ix3 0 r n) 2 :=
    Fin.ext ((Rect.idx_unit_val _ _ _ _ 2).trans (Nat.zero_add _)).symm
  refine Eq.trans ?_ (congrArg₂ (row x0 x1 x2 x3 x4 x5 x6 x7) e1 e2)
  rw [tile_apply]
  unfold row
  congr 1
  · funext k
    exact load_row x4 o ho inc r k
  · funext c
    congr 1
    · exact load_row x0 o ho inb r c
    · exact load_row x1 o ho inb r c
    · exact load_row x2 o ho inb r c
    · exact load_row x3 o ho inb r c

/-- The output block index by index. -/
theorem out_apply (y : S1x2048x1024.Idx) :
    out0_8 (F := Ideal) x0 x1 x2 x3 x4 x5 x6 x7 y = row x0 x1 x2 x3 x4 x5 x6 x7 (y 1) (y 2) := by
  rw [out_eq]
  refine View.canon_apply_of_pieces (Val := Elt Ideal) (fun y : S1x2048x1024.Idx => row x0 x1 x2 x3 x4 x5 x6 x7 (y 1) (y 2)) _
    (fun p hp => ?_) y (cover0_8 _ _ _ _ _ _ _ _ y)
  simp only [List.mem_cons, List.not_mem_nil, or_false] at hp
  rcases hp with rfl | rfl | rfl | rfl | rfl | rfl | rfl | rfl
  · exact piece_apply x0 x1 x2 x3 x4 x5 x6 x7 1792 (by omega) _ _ (by decide)
  · exact piece_apply x0 x1 x2 x3 x4 x5 x6 x7 1536 (by omega) _ _ (by decide)
  · exact piece_apply x0 x1 x2 x3 x4 x5 x6 x7 1280 (by omega) _ _ (by decide)
  · exact piece_apply x0 x1 x2 x3 x4 x5 x6 x7 1024 (by omega) _ _ (by decide)
  · exact piece_apply x0 x1 x2 x3 x4 x5 x6 x7 768 (by omega) _ _ (by decide)
  · exact piece_apply x0 x1 x2 x3 x4 x5 x6 x7 512 (by omega) _ _ (by decide)
  · exact piece_apply x0 x1 x2 x3 x4 x5 x6 x7 256 (by omega) _ _ (by decide)
  · exact piece_apply x0 x1 x2 x3 x4 x5 x6 x7 0 (by omega) _ _ (by decide)

end

variable (m : (ℓ : Loc nD τ sig) → Buf (Elt Ideal) ℓ)

/-- The block indices of the nine windows at a grid point. -/
theorem idx_all : ∀ t : Fin grid0.N, win0_0.index t = ![t.val / 2, t.val % 2, 0] ∧ win0_1.index t = ![t.val / 2, t.val % 2, 0] ∧
    win0_2.index t = ![t.val / 2, t.val % 2, 0] ∧ win0_3.index t = ![t.val / 2, t.val % 2, 0] ∧
    win0_4.index t = ![t.val / 2, t.val % 2, 0] ∧ win0_5.index t = ![0, 0] ∧ win0_6.index t = ![0, 0] ∧
    win0_7.index t = ![0, 0] ∧ win0_8.index t = ![t.val / 2, t.val % 2, 0] := by decide +kernel

/-- The kernel's result at a batch, a token and a column, as a function of the argument arrays. -/
def entry (c : Dev nD) (b : Fin 8) (s : Fin 4096) (n : Fin 1024) : EReal :=
  Groups.projected (fun k => m ((c.tc : Thread nD τ).loc main_arg4) (ix3 b s k))
    (fun k => Groups.gated (m ((c.tc : Thread nD τ).loc main_arg0) (ix3 b s k)) (m ((c.tc : Thread nD τ).loc main_arg1) (ix3 b s k))
      (m ((c.tc : Thread nD τ).loc main_arg2) (ix3 b s k)) (m ((c.tc : Thread nD τ).loc main_arg3) (ix3 b s k))
      (m ((c.tc : Thread nD τ).loc main_arg5) (ix2 0 ⟨k.val / 64, by omega⟩)))
    (fun k => m ((c.tc : Thread nD τ).loc main_arg6) (ix2 0 k)) (fun k => m ((c.tc : Thread nD τ).loc main_arg7) (ix3 0 k n))

/-- The kernel's result array. -/
def result (c : Dev nD) : S8x4096x1024.Idx → EReal := fun i => entry m c (i 0) (i 1) (i 2)

/-- The skip's row, one factor for each head's 64 channels, as the host hands it over. -/
theorem host_d (c : Dev nD) (k : Fin 768) :
    (V m c main_v3 : S1x768.Idx → EReal) (ix2 0 k) = m ((c.tc : Thread nD τ).loc main_arg5) (ix2 0 ⟨k.val / 64, by omega⟩) := by
  entry_read; pointwise

/-- The gain, as the host hands it over. -/
theorem host_g (c : Dev nD) (k : Fin 768) :
    (V m c main_v5 : S1x768.Idx → EReal) (ix2 0 k) = m ((c.tc : Thread nD τ).loc main_arg6) (ix2 0 k) := by
  entry_read; pointwise

/-- The weight, as the host hands it over. -/
theorem host_w (c : Dev nD) (k n : Fin 1024) :
    (V m c main_v7 : S1024x1024.Idx → EReal) (ix2 k n) = m ((c.tc : Thread nD τ).loc main_arg7) (ix3 0 k n) := by
  entry_read; pointwise

/-- A point's batch and a token of its block. -/
abbrev bat (t : Fin cfg0.N) : Fin 8 := ⟨t.val / 2, by have h : t.val < 16 := t.isLt; omega⟩
abbrev tok (t : Fin cfg0.N) (s : Fin 2048) : Fin 4096 := ⟨t.val % 2 * 2048 + s.val, by omega⟩

/-- Every point holds the whole skip, the whole gain and the whole weight. -/
theorem skip_eq (c : Dev nD) (t : Fin cfg0.N) (k : Fin 768) :
    (iblk m c 5 t : S1x768.Idx → EReal) (ix2 0 k) = m ((c.tc : Thread nD τ).loc main_arg5) (ix2 0 ⟨k.val / 64, by omega⟩) := by
  obtain ⟨h0, h1, h2, h3, h4, h5, h6, h7, h8⟩ := idx_all t
  refine Eq.trans ?_ (host_d m c k)
  blk_ext [iblk, h5]

theorem gain_eq (c : Dev nD) (t : Fin cfg0.N) (k : Fin 768) :
    (iblk m c 6 t : S1x768.Idx → EReal) (ix2 0 k) = m ((c.tc : Thread nD τ).loc main_arg6) (ix2 0 k) := by
  obtain ⟨h0, h1, h2, h3, h4, h5, h6, h7, h8⟩ := idx_all t
  refine Eq.trans ?_ (host_g m c k)
  blk_ext [iblk, h6]

theorem weight_eq (c : Dev nD) (t : Fin cfg0.N) (k n : Fin 1024) :
    (iblk m c 7 t : S1024x1024.Idx → EReal) (ix2 k n) = m ((c.tc : Thread nD τ).loc main_arg7) (ix3 0 k n) := by
  obtain ⟨h0, h1, h2, h3, h4, h5, h6, h7, h8⟩ := idx_all t
  refine Eq.trans ?_ (host_w m c k n)
  blk_ext [iblk, h7]

/-- A row of a point's block. -/
theorem row_eq (c : Dev nD) (t : Fin cfg0.N) (s : Fin 2048) (n : Fin 1024) :
    row (iblk m c 0 t) (iblk m c 1 t) (iblk m c 2 t) (iblk m c 3 t) (iblk m c 4 t) (iblk m c 5 t) (iblk m c 6 t) (iblk m c 7 t) s n =
      entry m c (bat t) (tok t s) n := by
  obtain ⟨h0, h1, h2, h3, h4, h5, h6, h7, h8⟩ := idx_all t
  unfold row entry
  congr 1 <;> funext k
  · blk_ext [iblk, V, h4]
  · congr 1
    · blk_ext [iblk, V, h0]
    · blk_ext [iblk, V, h1]
    · blk_ext [iblk, V, h2]
    · blk_ext [iblk, V, h3]
    · exact skip_eq m c t k
  · exact gain_eq m c t k
  · exact weight_eq m c t k n

/-- Where a block's entry lies in the result. -/
theorem place (t : Fin cfg0.N) (r : Fin 2048) (n : Fin 1024) :
    ((win0_8.blk t).view.emb (ix3 (0 : Fin 1) r n) : S8x4096x1024.Idx) = ix3 (bat t) (tok t r) n := by
  obtain ⟨h0, h1, h2, h3, h4, h5, h6, h7, h8⟩ := idx_all t
  blk_ext [h8]

/-- The output array after the run. -/
theorem arr_eq (c : Dev nD) : (dats m 0 c).arrAt 8 cfg0.N = result m c := by
  refine (dats m 0 c).arrAt_eq_of_covers 8 _ (by decide +kernel) fun t hf y => ?_
  obtain ⟨r, n, rfl⟩ : ∃ (r : Fin 2048) (n : Fin 1024), y = ix3 (0 : Fin 1) r n := ⟨y 1, y 2, by
    refine (eq_ix3 y).trans ?_; congr 1; exact Subsingleton.elim _ _⟩
  blk_simp
  rw [after0_8]
  refine (out_apply _ _ _ _ _ _ _ _ (ix3 (0 : Fin 1) r n)).trans ?_
  refine Eq.trans ?_ (congrArg (result m c) (place t r n)).symm
  exact row_eq m c t r n

end Cert.MixoutIdeal.Gen

end
-- ==== Proof.MixoutRef.lean ====
/-
  The output projection's reference, index by index: the gated channels, their normalisation in four groups, and the
  projection.
-/
module

public import Idealize.ShloMosaic.Lib.Pointwise
public import proofs.«01_k».proof.Proof.Gen.MixoutRefIdeal.Read
public import proofs.«01_k».proof.Proof.Groups

@[expose] public section

set_option maxRecDepth 16384

noncomputable section

namespace Cert.MixoutRefIdeal.Read

open Cert.MixoutRefIdeal Idealize.ShloMosaic Idealize.ShloMosaic.TcCoe Idealize.SL.Sem

variable (x0 x1 x2 x3 : (⟨S8x4096x768, .bf16⟩ : BufTy).Contents (Elt Ideal)) (x4 : (⟨S8x4096x256, .bf16⟩ : BufTy).Contents (Elt Ideal))
  (x5 : (⟨S1x12, .f32⟩ : BufTy).Contents (Elt Ideal)) (x6 : (⟨S1x768, .f32⟩ : BufTy).Contents (Elt Ideal))
  (x7 : (⟨S1x1024x1024, .f32⟩ : BufTy).Contents (Elt Ideal))

/-- A gated channel. -/
theorem gated_apply (b : Fin 8) (s : Fin 4096) (c : Fin 768) :
    val_main_v16 (F := Ideal) x0 x1 x2 x3 x5 (ix3 b s c) =
      Groups.gated (x0 (ix3 b s c)) (x1 (ix3 b s c)) (x2 (ix3 b s c)) (x3 (ix3 b s c)) (x5 (ix2 0 ⟨c.val / 64, by omega⟩)) := by
  unfold Groups.gated Rows.silu
  pointwise [val_main_v16, val_main_v15, val_main_call0_v5, val_main_call0_v4, val_main_call0_v3, val_main_call0_v2, val_main_call0_v1,
    val_main_call0_v0, val_main_call0_cst, val_main_call0_cst_0, val_main_v14, val_main_v13, val_main_v12, val_main_v11, val_main_v10,
    val_main_v9, val_main_v8, val_main_v7, val_main_v6, val_main_v5, val_main_v4, val_main_v3, val_main_v2, val_main_v1, val_main_v0]
  rw [zero_sub]

/-- A normalised channel. -/
theorem normed_apply (b : Fin 8) (s : Fin 4096) (c : Fin 768) :
    val_main_v33 (F := Ideal) x0 x1 x2 x3 x5 x6 (ix3 b s c) =
      Groups.normed (fun c => val_main_v16 (F := Ideal) x0 x1 x2 x3 x5 (ix3 b s c)) (fun c => x6 (ix2 0 c)) c := by
  unfold val_main_v33 val_main_v32 val_main_v29 val_main_v28 val_main_v27 val_main_v26 val_main_v24 val_main_v22 val_main_v21 val_main_v20 val_main_v17
  generalize val_main_v16 (F := Ideal) x0 x1 x2 x3 x5 = u
  unfold Groups.normed Groups.factor Groups.square
  rw [← Groups.div_width]
  pointwise [val_main_v31, val_main_v30, val_main_v19, val_main_v18, val_main_v23, val_main_v25, val_main_cst, val_main_cst_0, val_main_cst_1]
  simp only [Nat.mul_comm 192]

/-- The reference's result at an index. -/
theorem result_apply (b : Fin 8) (s : Fin 4096) (n : Fin 1024) :
    val_main_v37 (F := Ideal) x0 x1 x2 x3 x4 x5 x6 x7 (ix3 b s n) =
      Groups.projected (fun k => x4 (ix3 b s k))
        (fun c => Groups.gated (x0 (ix3 b s c)) (x1 (ix3 b s c)) (x2 (ix3 b s c)) (x3 (ix3 b s c)) (x5 (ix2 0 ⟨c.val / 64, by omega⟩)))
        (fun c => x6 (ix2 0 c)) (fun k => x7 (ix3 0 k n)) := by
  unfold Groups.projected
  rw [← funext (gated_apply x0 x1 x2 x3 x5 b s)]
  simp only [← normed_apply]
  unfold val_main_v37 val_main_v35
  generalize val_main_v33 (F := Ideal) x0 x1 x2 x3 x5 x6 = u
  pointwise [val_main_v36, val_main_v34]

end Cert.MixoutRefIdeal.Read

end
-- ==== Proof.MixoutClaim.lean ====
/-
  The claims about the mixer's output projection: the frames of its three programs, what its idealization changes, the
  constant 1/192, and the equality of the kernel's and the reference's results over the extended reals.
-/
module

public import proofs.«01_k».proof.Defs
public import proofs.«01_k».proof.Proof.Gen.Mixout.Frame
public import proofs.«01_k».proof.Proof.Gen.MixoutRefIdeal.Run
public import proofs.«01_k».proof.Proof.MixoutValue
public import proofs.«01_k».proof.Proof.MixoutRef
public import Idealize.ShloMosaic.Lib.Quiescent

@[expose] public section

noncomputable section

namespace Cert.MixoutClaim

open Idealize.ShloMosaic Idealize.ShloMosaic.TcCoe Idealize.SL.Sem

/-- The kernel leaves its arguments, ends and leaves every semaphore at zero. -/
theorem frame : Cert.quiescent_Mixout := fun m ρ _ => Cert.Mixout.Gen.frame m ρ

/-- So does its idealization. -/
theorem frame_ideal : Cert.quiescent_MixoutIdeal := fun m ρ _ => Cert.MixoutIdeal.Gen.frame m ρ

/-- So does the reference. -/
theorem frame_ref : Cert.quiescent_MixoutRefIdeal := fun m ρ _ =>
  (θ_run Cert.MixoutRefIdeal.defs _ _).mono (fun r h => ⟨fun c => (h c).2, sem_eq_zero_of_no_sems (by decide) r.2⟩)
    (Cert.MixoutRefIdeal.Value.run (F := Ideal) m ρ)

/-- The named constant is `1 / 192` to the literal's precision. -/
theorem preserves : Cert.preserves_Mixout_MixoutIdeal :=
  IdealRules.named_const.statement Cert.MixoutIdeal.κ "inv192" .f32 0x3BAAAAAB#32 ((192⁻¹ : ℝ) : EReal) rfl

/-- On equal arguments the kernel and the reference end with equal results. -/
theorem algebraic : Cert.algebraic_MixoutIdeal_MixoutRefIdeal := fun m ρ m' ρ' _ hag =>
  ⟨fun c => Cert.MixoutIdeal.Gen.result m c,
    (θ_run _ _ _).mono (fun _ h c => ⟨(h c).1.trans (Cert.MixoutIdeal.Gen.arr_eq m c), (h c).2⟩)
      (Cert.MixoutIdeal.Value.run_blocks (F := Ideal) m ρ),
    (θ_run _ _ _).mono (fun _ h c => ⟨(h c).1.trans (by
        obtain ⟨h0, h1, h2, h3, h4, h5, h6, h7⟩ := hag c
        rw [Cert.MixoutRefIdeal.Read.val_main_v37_eq, h0, h1, h2, h3, h4, h5, h6, h7]
        funext i
        obtain ⟨b, s, n, rfl⟩ : ∃ (b : Fin 8) (s : Fin 4096) (n : Fin 1024), i = ix3 b s n := ⟨i 0, i 1, i 2, eq_ix3 i⟩
        exact Cert.MixoutRefIdeal.Read.result_apply _ _ _ _ _ _ _ _ b s n), (h c).2⟩)
      (Cert.MixoutRefIdeal.Value.run (F := Ideal) m' ρ')⟩

end Cert.MixoutClaim

end
-- ==== Proof.Condition.lean ====
/-
  The arithmetic of the modulation rows, over the extended reals: no program occurs here.
-/
module

public import proofs.«01_k».proof.Proof.Rows

@[expose] public section

noncomputable section

namespace Cert.Condition

open Idealize.ShloMosaic

/-- One entry of a modulation row: silu of the conditioning, projected, with its bias. -/
def modulation (v w : Fin 1024 → EReal) (b : EReal) : EReal := (∑ k, Rows.silu (v k) * w k) + b

/-- The sixteen conditioning rows: the eight batch elements', the context's, and rows of zeros. -/
def rows (c : Fin 8 → Fin 1024 → EReal) (ctx : Fin 1024 → EReal) (r : Fin 16) (k : Fin 1024) : EReal :=
  if h : r.val < 8 then c ⟨r.val, h⟩ k else if r.val = 8 then ctx k else 0

variable (c : Fin 8 → Fin 1024 → EReal) (ctx : Fin 1024 → EReal)

theorem rows_batch (r : Fin 16) (h : r.val < 8) : rows c ctx r = c ⟨r.val, h⟩ := funext fun _ => dif_pos h

theorem rows_context (r : Fin 16) (h : r.val = 8) : rows c ctx r = ctx :=
  funext fun _ => (dif_neg (by omega)).trans (if_pos h)

theorem rows_rest (r : Fin 16) (h : 8 < r.val) : rows c ctx r = fun _ => 0 :=
  funext fun _ => (dif_neg (by omega)).trans (if_neg (by omega))

/-- A row of zeros gives the bias, since silu of zero is zero and zero times anything is. -/
theorem modulation_zero (w : Fin 1024 → EReal) (b : EReal) : modulation (fun _ => 0) w b = b := by
  unfold modulation Rows.silu
  simp only [zero_mul, Finset.sum_const_zero, zero_add]

end Cert.Condition

end
-- ==== Proof.ModValue.lean ====
/-
  The modulation's result array after the run: one function of the argument arrays.
-/
module

public import Idealize.ShloMosaic.Lib.Pipeline.ValueKit
public import Idealize.ShloMosaic.Lib.Pointwise
public import Idealize.ShloMosaic.Lib.Claim
public import proofs.«01_k».proof.Proof.Gen.ModIdeal.Value
public import proofs.«01_k».proof.Proof.Condition

@[expose] public section

set_option maxRecDepth 16384

noncomputable section

namespace Cert.ModIdeal.Gen

open Idealize.ShloMosaic Idealize.ShloMosaic.TcCoe Idealize.SL.Sem

/-- The output block at an index. -/
theorem out_apply (x0 : Vec Ideal S16x1024 .f32) (x1 : Vec Ideal S1024x1024 .f32) (x2 : Vec Ideal S1x1024 .f32)
    (r : Fin 16) (n : Fin 1024) :
    out0_3 (F := Ideal) x0 x1 x2 (ix2 r n) =
      Condition.modulation (fun k => x0 (ix2 r k)) (fun k => x1 (ix2 k n)) (x2 (ix2 0 n)) := by
  unfold out0_3
  refine (congrFun (View.canon_cons_unit_lit' _ _ _ (by decide)) (ix2 r n)).trans ?_
  unfold Condition.modulation Rows.silu
  pointwise [k0_pay1]

variable (m : (ℓ : Loc nD τ sig) → Buf (Elt Ideal) ℓ)

/-- The block indices of the four windows at a grid point. -/
theorem idx_all : ∀ t : Fin grid0.N, win0_0.index t = ![0, 0] ∧ win0_1.index t = ![0, t.val] ∧
    win0_2.index t = ![0, t.val] ∧ win0_3.index t = ![0, t.val] := by decide +kernel

/-- The kernel's result array, as a function of the argument arrays. -/
def entry (c : Dev nD) (r : Fin 16) (n : Fin 9216) : EReal :=
  Condition.modulation (Condition.rows (fun b k => m ((c.tc : Thread nD τ).loc main_arg0) (ix2 b k))
      (fun k => m ((c.tc : Thread nD τ).loc main_arg1) (ix1 k)) r)
    (fun k => m ((c.tc : Thread nD τ).loc main_arg2) (ix3 0 k n)) (m ((c.tc : Thread nD τ).loc main_arg3) (ix2 0 n))

def result (c : Dev nD) : S16x9216.Idx → EReal := fun i => entry m c (i 0) (i 1)

/-- Eight rows, one more and seven rows of zeros, one below the other. -/
theorem stacked_apply (a : Vec Ideal S8x1024 .f32) (b : Vec Ideal S1024 .f32) (r : Fin 16) (k : Fin 1024) :
    concatenate S16x1024 0 [⟨S8x1024, a⟩, ⟨S1x1024, broadcastInDim S1x1024 ![1] Facts₀.bcast_S1024_S1x1024_1 b⟩,
        ⟨S7x1024, broadcastInDim S7x1024 ![] Facts₀.bcast_S_S7x1024 (constant S_ .f32 0x00000000#32 : FVec Ideal S_ .f32)⟩]
        Facts₀.concatenates_S8x1024_S1x1024_S7x1024_S16x1024_d0 (ix2 r k) =
      Condition.rows (fun b k => a (ix2 b k)) (fun k => b (ix1 k)) r k := by
  pointwise
  unfold Condition.rows
  by_cases h : r.val < 8
  · rw [dif_pos h, dif_pos h]
  · rw [dif_neg h, dif_neg h]
    by_cases h' : r.val = 8
    · exact (dif_pos (by omega)).trans (if_pos h').symm
    · exact (dif_neg (by omega)).trans (if_neg h').symm

/-- Equal parts make equal stacks. -/
theorem stacked_congr {a a' : Vec Ideal S8x1024 .f32} {b b' : Vec Ideal S1x1024 .f32} {z z' : Vec Ideal S7x1024 .f32}
    (ha : a = a') (hb : b = b') (hz : z = z') :
    concatenate S16x1024 0 [⟨S8x1024, a⟩, ⟨S1x1024, b⟩, ⟨S7x1024, z⟩] Facts₀.concatenates_S8x1024_S1x1024_S7x1024_S16x1024_d0 =
      concatenate S16x1024 0 [⟨S8x1024, a'⟩, ⟨S1x1024, b'⟩, ⟨S7x1024, z'⟩] Facts₀.concatenates_S8x1024_S1x1024_S7x1024_S16x1024_d0 := by
  subst ha hb hz
  rfl

/-- The conditioning's array as the host makes it. -/
theorem entry_c (c : Dev nD) : V m c main_v2 =
    concatenate S16x1024 0 [⟨S8x1024, (m ((c.tc : Thread nD τ).loc main_arg0) : Vec Ideal S8x1024 .f32)⟩,
        ⟨S1x1024, broadcastInDim S1x1024 ![1] Facts₀.bcast_S1024_S1x1024_1 (m ((c.tc : Thread nD τ).loc main_arg1) : Vec Ideal S1024 .f32)⟩,
        ⟨S7x1024, broadcastInDim S7x1024 ![] Facts₀.bcast_S_S7x1024 (constant S_ .f32 0x00000000#32 : FVec Ideal S_ .f32)⟩]
        Facts₀.concatenates_S8x1024_S1x1024_S7x1024_S16x1024_d0 := by
  have n25 : (main_v2 : Ref sig .tc) ≠ main_v5 := by decide
  have n24 : (main_v2 : Ref sig .tc) ≠ main_v4 := by decide
  have n23 : (main_v2 : Ref sig .tc) ≠ main_v3 := by decide
  have a1 : (main_arg0 : Ref sig .tc) ≠ main_v1 := by decide
  have ac : (main_arg0 : Ref sig .tc) ≠ main_cst := by decide
  have a0 : (main_arg0 : Ref sig .tc) ≠ main_v0 := by decide
  have v1 : (main_v0 : Ref sig .tc) ≠ main_v1 := by decide
  have vc : (main_v0 : Ref sig .tc) ≠ main_cst := by decide
  unfold V hostOps0
  rw [StableHlo.after_cons, StableHlo.after_cons, StableHlo.after_cons, StableHlo.after_cons, StableHlo.after_cons,
    StableHlo.after_cons, StableHlo.after_cons, StableHlo.after_nil]
  refine (StableHlo.unary_result_ne _ _ _ _ _ _ n25).trans ?_
  refine (StableHlo.reshape_result_ne _ _ _ _ _ _ _ n24).trans ?_
  refine (StableHlo.reshape_result_ne _ _ _ _ _ _ _ n23).trans ?_
  refine (StableHlo.nary_result _ _ _ _ _ _).trans ?_
  refine stacked_congr ?_ ?_ ?_
  · refine (StableHlo.unary_result_ne _ _ _ _ _ _ a1).trans ?_
    refine (StableHlo.nullary_result_ne _ _ _ _ ac).trans ?_
    exact StableHlo.unary_result_ne _ _ _ _ _ _ a0
  · refine (StableHlo.unary_result_ne _ _ _ _ _ _ v1).trans ?_
    refine (StableHlo.nullary_result_ne _ _ _ _ vc).trans ?_
    exact StableHlo.unary_result _ _ _ _ _ _
  · refine (StableHlo.unary_result _ _ _ _ _ _).trans ?_
    rw [StableHlo.nullary_result]

/-- The conditioning rows as the host hands them over. -/
theorem host_c (c : Dev nD) (r : Fin 16) (k : Fin 1024) :
    (V m c main_v2 : S16x1024.Idx → EReal) (ix2 r k) =
      Condition.rows (fun b k => m ((c.tc : Thread nD τ).loc main_arg0) (ix2 b k))
        (fun k => m ((c.tc : Thread nD τ).loc main_arg1) (ix1 k)) r k :=
  (congrFun (entry_c m c) (ix2 r k)).trans (stacked_apply _ _ r k)

/-- The weight as the host hands it over. -/
theorem host_w (c : Dev nD) (k : Fin 1024) (n : Fin 9216) :
    (V m c main_v3 : S1024x9216.Idx → EReal) (ix2 k n) = m ((c.tc : Thread nD τ).loc main_arg2) (ix3 0 k n) := by
  entry_read; pointwise

/-- The bias as the host hands it over. -/
theorem host_b (c : Dev nD) (n : Fin 9216) :
    (V m c main_v5 : S1x9216.Idx → EReal) (ix2 0 n) = m ((c.tc : Thread nD τ).loc main_arg3) (ix2 0 n) := by
  entry_read; pointwise

/-- A point's column of the whole width. -/
abbrev col (t : Fin cfg0.N) (n : Fin 1024) : Fin 9216 := ⟨t.val * 1024 + n.val, by have h : t.val < 9 := t.isLt; omega⟩

theorem cond_eq (c : Dev nD) (t : Fin cfg0.N) (r : Fin 16) (k : Fin 1024) :
    (iblk m c 0 t : S16x1024.Idx → EReal) (ix2 r k) =
      Condition.rows (fun b k => m ((c.tc : Thread nD τ).loc main_arg0) (ix2 b k))
        (fun k => m ((c.tc : Thread nD τ).loc main_arg1) (ix1 k)) r k := by
  obtain ⟨h0, h1, h2, h3⟩ := idx_all t
  refine Eq.trans ?_ (host_c m c r k)
  blk_ext [iblk, h0]

theorem weight_eq (c : Dev nD) (t : Fin cfg0.N) (k n : Fin 1024) :
    (iblk m c 1 t : S1024x1024.Idx → EReal) (ix2 k n) = m ((c.tc : Thread nD τ).loc main_arg2) (ix3 0 k (col t n)) := by
  obtain ⟨h0, h1, h2, h3⟩ := idx_all t
  refine Eq.trans ?_ (host_w m c k (col t n))
  blk_ext [iblk, h1]

theorem bias_eq (c : Dev nD) (t : Fin cfg0.N) (n : Fin 1024) :
    (iblk m c 2 t : S1x1024.Idx → EReal) (ix2 0 n) = m ((c.tc : Thread nD τ).loc main_arg3) (ix2 0 (col t n)) := by
  obtain ⟨h0, h1, h2, h3⟩ := idx_all t
  refine Eq.trans ?_ (host_b m c (col t n))
  blk_ext [iblk, h2]

/-- Where a block's entry lies in the result. -/
theorem place (t : Fin cfg0.N) (r : Fin 16) (n : Fin 1024) :
    ((win0_3.blk t).view.emb (ix2 r n) : S16x9216.Idx) = ix2 r (col t n) := by
  obtain ⟨h0, h1, h2, h3⟩ := idx_all t
  blk_ext [h3]

/-- The output array after the run. -/
theorem arr_eq (c : Dev nD) : (dats m 0 c).arrAt 3 cfg0.N = result m c := by
  refine (dats m 0 c).arrAt_eq_of_covers 3 _ (by decide +kernel) fun t hf y => ?_
  obtain ⟨r, n, rfl⟩ : ∃ (r : Fin 16) (n : Fin 1024), y = ix2 r n := ⟨y 0, y 1, eq_ix2 y⟩
  blk_simp
  rw [after0_3]
  refine (out_apply _ _ _ r n).trans ?_
  refine Eq.trans ?_ (congrArg (result m c) (place t r n)).symm
  change _ = entry m c r (col t n)
  unfold entry
  congr 1
  · funext k
    exact cond_eq m c t r k
  · funext k
    exact weight_eq m c t k n
  · exact bias_eq m c t n

end Cert.ModIdeal.Gen

end
-- ==== Proof.ModRef.lean ====
/-
  The modulation's reference, index by index.
-/
module

public import Idealize.ShloMosaic.Lib.Pointwise
public import proofs.«01_k».proof.Proof.Gen.ModRefIdeal.Read
public import proofs.«01_k».proof.Proof.Condition

@[expose] public section

set_option maxRecDepth 16384

noncomputable section

namespace Cert.ModRefIdeal.Read

open Cert.ModRefIdeal Idealize.ShloMosaic Idealize.ShloMosaic.TcCoe Idealize.SL.Sem

variable (x0 : (⟨S8x1024, .f32⟩ : BufTy).Contents (Elt Ideal)) (x1 : (⟨S1024, .f32⟩ : BufTy).Contents (Elt Ideal))
  (x2 : (⟨S1x1024x9216, .f32⟩ : BufTy).Contents (Elt Ideal)) (x3 : (⟨S1x9216, .f32⟩ : BufTy).Contents (Elt Ideal))

/-- A batch element's row. -/
theorem batch_apply (b : Fin 8) (n : Fin 9216) :
    val_main_v6 (F := Ideal) x0 x2 x3 (ix2 b n) =
      Condition.modulation (fun k => x0 (ix2 b k)) (fun k => x2 (ix3 0 k n)) (x3 (ix2 0 n)) := by
  unfold Condition.modulation Rows.silu
  pointwise [val_main_v6, val_main_v5, val_main_v4, val_main_v3, val_main_v2, val_main_v1, val_main_v0, val_main_call0_v5, val_main_call0_v4,
    val_main_call0_v3, val_main_call0_v2, val_main_call0_v1, val_main_call0_v0, val_main_call0_cst, val_main_call0_cst_0]
  simp only [zero_sub]

/-- The context's row. -/
theorem context_apply (n : Fin 9216) :
    val_main_v11 (F := Ideal) x1 x2 x3 (ix1 n) =
      Condition.modulation (fun k => x1 (ix1 k)) (fun k => x2 (ix3 0 k n)) (x3 (ix2 0 n)) := by
  unfold Condition.modulation Rows.silu
  pointwise [val_main_v11, val_main_v10, val_main_v9, val_main_v8, val_main_v7, val_main_call1_v5, val_main_call1_v4,
    val_main_call1_v3, val_main_call1_v2, val_main_call1_v1, val_main_call1_v0, val_main_call1_cst, val_main_call1_cst_0]
  simp only [zero_sub]

/-- The reference's result at an index. -/
theorem result_apply (r : Fin 16) (n : Fin 9216) :
    val_main_v15 (F := Ideal) x0 x1 x2 x3 (ix2 r n) =
      Condition.modulation (Condition.rows (fun b k => x0 (ix2 b k)) (fun k => x1 (ix1 k)) r) (fun k => x2 (ix3 0 k n)) (x3 (ix2 0 n)) := by
  have hb := fun b => batch_apply x0 x2 x3 b n
  have hc := context_apply x1 x2 x3 n
  unfold val_main_v15 val_main_v12
  generalize val_main_v6 (F := Ideal) x0 x2 x3 = u at hb ⊢
  generalize val_main_v11 (F := Ideal) x1 x2 x3 = v at hc ⊢
  pointwise [val_main_v14, val_main_v13]
  by_cases h : r.val < 8
  · rw [Condition.rows_batch _ _ r h, dif_pos h]
    exact hb _
  · by_cases h' : r.val < 9
    · rw [Condition.rows_context _ _ r (by omega), dif_neg h]
      exact (dif_pos (by omega)).trans hc
    · rw [Condition.rows_rest _ _ r (by omega), Condition.modulation_zero, dif_neg h]
      exact dif_neg (by omega)

end Cert.ModRefIdeal.Read

end
-- ==== Proof.ModClaim.lean ====
/-
  The claims about the modulation rows: the frames of the three programs, the idealization, which changes nothing, and the
  equality of the kernel's and the reference's results over the extended reals.
-/
module

public import proofs.«01_k».proof.Defs
public import proofs.«01_k».proof.Proof.Gen.Mod.Frame
public import proofs.«01_k».proof.Proof.Gen.ModRefIdeal.Run
public import proofs.«01_k».proof.Proof.ModValue
public import proofs.«01_k».proof.Proof.ModRef
public import Idealize.ShloMosaic.Lib.Quiescent

@[expose] public section

noncomputable section

namespace Cert.ModClaim

open Idealize.ShloMosaic Idealize.ShloMosaic.TcCoe Idealize.SL.Sem

/-- The kernel leaves its arguments, ends and leaves every semaphore at zero. -/
theorem frame : Cert.quiescent_Mod := fun m ρ _ => Cert.Mod.Gen.frame m ρ

/-- So does its idealization. -/
theorem frame_ideal : Cert.quiescent_ModIdeal := fun m ρ _ => Cert.ModIdeal.Gen.frame m ρ

/-- So does the reference. -/
theorem frame_ref : Cert.quiescent_ModRefIdeal := fun m ρ _ =>
  (θ_run Cert.ModRefIdeal.defs _ _).mono (fun r h => ⟨fun c => (h c).2, sem_eq_zero_of_no_sems (by decide) r.2⟩)
    (Cert.ModRefIdeal.Value.run (F := Ideal) m ρ)

/-- The idealization changes no operation. -/
theorem preserves : Cert.preserves_Mod_ModIdeal := trivial

/-- On equal arguments the kernel and the reference end with equal results. -/
theorem algebraic : Cert.algebraic_ModIdeal_ModRefIdeal := fun m ρ m' ρ' _ hag =>
  ⟨fun c => Cert.ModIdeal.Gen.result m c,
    (θ_run _ _ _).mono (fun _ h c => ⟨(h c).1.trans (Cert.ModIdeal.Gen.arr_eq m c), (h c).2⟩)
      (Cert.ModIdeal.Value.run_blocks (F := Ideal) m ρ),
    (θ_run _ _ _).mono (fun _ h c => ⟨(h c).1.trans (by
        obtain ⟨h0, h1, h2, h3⟩ := hag c
        rw [Cert.ModRefIdeal.Read.val_main_v15_eq, h0, h1, h2, h3]
        funext i
        obtain ⟨r, n, rfl⟩ : ∃ (r : Fin 16) (n : Fin 9216), i = ix2 r n := ⟨i 0, i 1, eq_ix2 i⟩
        exact Cert.ModRefIdeal.Read.result_apply _ _ _ _ r n), (h c).2⟩)
      (Cert.ModRefIdeal.Value.run (F := Ideal) m' ρ')⟩

end Cert.ModClaim

end
-- ==== Proof.lean ====
/-
  The certificate: the frames, the idealizations and the values of the programs, put together.
-/
module

public import proofs.«01_k».proof.Defs
public import proofs.«01_k».proof.Proof.StateClaim
public import proofs.«01_k».proof.Proof.FfnClaim
public import proofs.«01_k».proof.Proof.FfnPostClaim
public import proofs.«01_k».proof.Proof.InprojClaim
public import proofs.«01_k».proof.Proof.MixoutClaim
public import proofs.«01_k».proof.Proof.ModClaim

@[expose] public section

noncomputable section

namespace Cert.Proof

open Idealize.ShloMosaic Idealize.SL.Sem

/-- Every claim of the certificate. -/
theorem claim : Cert.Claim :=
  ⟨Cert.State.Gen.facts, Cert.StateIdeal.Gen.facts, Cert.StateRefIdeal.Gen.facts, Cert.Ffn.Gen.facts, Cert.FfnIdeal.Gen.facts,
    Cert.FfnRefIdeal.Gen.facts, Cert.FfnPost.Gen.facts, Cert.FfnPostIdeal.Gen.facts, Cert.FfnPostRefIdeal.Gen.facts, Cert.Inproj.Gen.facts, Cert.InprojIdeal.Gen.facts,
    Cert.InprojRefIdeal.Gen.facts, Cert.Mixout.Gen.facts, Cert.MixoutIdeal.Gen.facts, Cert.MixoutRefIdeal.Gen.facts, Cert.Mod.Gen.facts, Cert.ModIdeal.Gen.facts, Cert.ModRefIdeal.Gen.facts, Cert.Pre_finite_steps.Gen.facts,
    StateClaim.frame, StateClaim.frame_ideal, StateClaim.frame_ideal_finite, StateClaim.frame_ref, StateClaim.frame_ref_finite, FfnClaim.frame, FfnClaim.frame_ideal, FfnClaim.frame_ref,
    FfnPostClaim.frame, FfnPostClaim.frame_ideal, FfnPostClaim.frame_ref, InprojClaim.frame, InprojClaim.frame_ideal, InprojClaim.frame_ref,
    MixoutClaim.frame, MixoutClaim.frame_ideal, MixoutClaim.frame_ref, ModClaim.frame, ModClaim.frame_ideal, ModClaim.frame_ref,
    StateClaim.preserves, StateClaim.algebraic, FfnClaim.preserves, FfnClaim.algebraic,
    FfnPostClaim.preserves, FfnPostClaim.algebraic,
    InprojClaim.preserves, InprojClaim.algebraic, MixoutClaim.preserves, MixoutClaim.algebraic, ModClaim.preserves, ModClaim.algebraic⟩

end Cert.Proof

end
